-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_clear2 [hPre_clear2 : Cert.Pre_clear2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_clear2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_clear2 [hPre_clear2 : Cert.Pre_clear2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_clear2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_clear2 [hKernel2Ideal : Cert.Kernel2Ideal.Facts] [hPre_clear2 : Cert.Pre_clear2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_clear2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_clear2 [hReference2Ideal : Cert.Reference2Ideal.Facts] [hPre_clear2 : Cert.Pre_clear2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_clear2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23)
      ∧ r.2.mem ((c.tc : Thread Cert.Kernel13.nD Cert.Kernel13.τ).loc Cert.Kernel13.main_arg24) = m ((c.tc : Thread Cert.Kernel13.nD Cert.Kernel13.τ).loc Cert.Kernel13.main_arg24)
      ∧ r.2.mem ((c.tc : Thread Cert.Kernel13.nD Cert.Kernel13.τ).loc Cert.Kernel13.main_arg25) = m ((c.tc : Thread Cert.Kernel13.nD Cert.Kernel13.τ).loc Cert.Kernel13.main_arg25)
      ∧ r.2.mem ((c.tc : Thread Cert.Kernel13.nD Cert.Kernel13.τ).loc Cert.Kernel13.main_arg26) = m ((c.tc : Thread Cert.Kernel13.nD Cert.Kernel13.τ).loc Cert.Kernel13.main_arg26)
      ∧ r.2.mem ((c.tc : Thread Cert.Kernel13.nD Cert.Kernel13.τ).loc Cert.Kernel13.main_arg27) = m ((c.tc : Thread Cert.Kernel13.nD Cert.Kernel13.τ).loc Cert.Kernel13.main_arg27)
      ∧ r.2.mem ((c.tc : Thread Cert.Kernel13.nD Cert.Kernel13.τ).loc Cert.Kernel13.main_arg28) = m ((c.tc : Thread Cert.Kernel13.nD Cert.Kernel13.τ).loc Cert.Kernel13.main_arg28)
      ∧ r.2.mem ((c.tc : Thread Cert.Kernel13.nD Cert.Kernel13.τ).loc Cert.Kernel13.main_arg29) = m ((c.tc : Thread Cert.Kernel13.nD Cert.Kernel13.τ).loc Cert.Kernel13.main_arg29))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
      ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
      ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
      ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
      ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
      ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
      ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23)
      ∧ r.2.mem ((c.tc : Thread Cert.Reference13Ideal.nD Cert.Reference13Ideal.τ).loc Cert.Reference13Ideal.main_arg24) = m ((c.tc : Thread Cert.Reference13Ideal.nD Cert.Reference13Ideal.τ).loc Cert.Reference13Ideal.main_arg24)
      ∧ r.2.mem ((c.tc : Thread Cert.Reference13Ideal.nD Cert.Reference13Ideal.τ).loc Cert.Reference13Ideal.main_arg25) = m ((c.tc : Thread Cert.Reference13Ideal.nD Cert.Reference13Ideal.τ).loc Cert.Reference13Ideal.main_arg25)
      ∧ r.2.mem ((c.tc : Thread Cert.Reference13Ideal.nD Cert.Reference13Ideal.τ).loc Cert.Reference13Ideal.main_arg26) = m ((c.tc : Thread Cert.Reference13Ideal.nD Cert.Reference13Ideal.τ).loc Cert.Reference13Ideal.main_arg26)
      ∧ r.2.mem ((c.tc : Thread Cert.Reference13Ideal.nD Cert.Reference13Ideal.τ).loc Cert.Reference13Ideal.main_arg27) = m ((c.tc : Thread Cert.Reference13Ideal.nD Cert.Reference13Ideal.τ).loc Cert.Reference13Ideal.main_arg27)
      ∧ r.2.mem ((c.tc : Thread Cert.Reference13Ideal.nD Cert.Reference13Ideal.τ).loc Cert.Reference13Ideal.main_arg28) = m ((c.tc : Thread Cert.Reference13Ideal.nD Cert.Reference13Ideal.τ).loc Cert.Reference13Ideal.main_arg28)
      ∧ r.2.mem ((c.tc : Thread Cert.Reference13Ideal.nD Cert.Reference13Ideal.τ).loc Cert.Reference13Ideal.main_arg29) = m ((c.tc : Thread Cert.Reference13Ideal.nD Cert.Reference13Ideal.τ).loc Cert.Reference13Ideal.main_arg29))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def preserves_Kernel2_Kernel2Ideal : Prop :=
  True

def algebraic_Kernel2Ideal_Reference2Ideal_pre_clear2 [hKernel2Ideal : Cert.Kernel2Ideal.Facts] [hReference2Ideal : Cert.Reference2Ideal.Facts] [hPre_clear2 : Cert.Pre_clear2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_clear2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_4)) (v1 : (c : Dev Cert.Kernel7Ideal.nD) → Buf (Elt Ideal) ((c.tc : Thread Cert.Kernel7Ideal.nD Cert.Kernel7Ideal.τ).loc Cert.Kernel7Ideal.main_v0_0)) (v2 : (c : Dev Cert.Kernel7Ideal.nD) → Buf (Elt Ideal) ((c.tc : Thread Cert.Kernel7Ideal.nD Cert.Kernel7Ideal.τ).loc Cert.Kernel7Ideal.main_v0_1)) (v3 : (c : Dev Cert.Kernel7Ideal.nD) → Buf (Elt Ideal) ((c.tc : Thread Cert.Kernel7Ideal.nD Cert.Kernel7Ideal.τ).loc Cert.Kernel7Ideal.main_v0_2)) (v4 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_4) = v0 c
          ∧ r.2.mem ((c.tc : Thread Cert.Kernel7Ideal.nD Cert.Kernel7Ideal.τ).loc Cert.Kernel7Ideal.main_v0_0) = v1 c
          ∧ r.2.mem ((c.tc : Thread Cert.Kernel7Ideal.nD Cert.Kernel7Ideal.τ).loc Cert.Kernel7Ideal.main_v0_1) = v2 c
          ∧ r.2.mem ((c.tc : Thread Cert.Kernel7Ideal.nD Cert.Kernel7Ideal.τ).loc Cert.Kernel7Ideal.main_v0_2) = v3 c
          ∧ r.2.mem ((c.tc : Thread Cert.Kernel7Ideal.nD Cert.Kernel7Ideal.τ).loc Cert.Kernel7Ideal.main_v0_3) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_v20) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v29) = v2 c
          ∧ r.2.mem ((c.tc : Thread Cert.Reference10Ideal.nD Cert.Reference10Ideal.τ).loc Cert.Reference10Ideal.main_v30) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v7) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)) (v9 : (c : Dev Cert.Kernel12Ideal.nD) → Buf (Elt Ideal) ((c.tc : Thread Cert.Kernel12Ideal.nD Cert.Kernel12Ideal.τ).loc Cert.Kernel12Ideal.main_v0_9)) (v10 : (c : Dev Cert.Kernel12Ideal.nD) → Buf (Elt Ideal) ((c.tc : Thread Cert.Kernel12Ideal.nD Cert.Kernel12Ideal.τ).loc Cert.Kernel12Ideal.main_v0_10)) (v11 : (c : Dev Cert.Kernel12Ideal.nD) → Buf (Elt Ideal) ((c.tc : Thread Cert.Kernel12Ideal.nD Cert.Kernel12Ideal.τ).loc Cert.Kernel12Ideal.main_v0_11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_v0_9) = v9 c
          ∧ r.2.mem ((c.tc : Thread Cert.Kernel12Ideal.nD Cert.Kernel12Ideal.τ).loc Cert.Kernel12Ideal.main_v0_10) = v10 c
          ∧ r.2.mem ((c.tc : Thread Cert.Kernel12Ideal.nD Cert.Kernel12Ideal.τ).loc Cert.Kernel12Ideal.main_v0_11) = v11 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v47) = v3 c
          ∧ r.2.mem ((c.tc : Thread Cert.Reference12Ideal.nD Cert.Reference12Ideal.τ).loc Cert.Reference12Ideal.main_v28) = v4 c
          ∧ r.2.mem ((c.tc : Thread Cert.Reference12Ideal.nD Cert.Reference12Ideal.τ).loc Cert.Reference12Ideal.main_v34) = v5 c
          ∧ r.2.mem ((c.tc : Thread Cert.Reference12Ideal.nD Cert.Reference12Ideal.τ).loc Cert.Reference12Ideal.main_v71) = v6 c
          ∧ r.2.mem ((c.tc : Thread Cert.Reference12Ideal.nD Cert.Reference12Ideal.τ).loc Cert.Reference12Ideal.main_v52) = v7 c
          ∧ r.2.mem ((c.tc : Thread Cert.Reference12Ideal.nD Cert.Reference12Ideal.τ).loc Cert.Reference12Ideal.main_v58) = v8 c
          ∧ r.2.mem ((c.tc : Thread Cert.Reference12Ideal.nD Cert.Reference12Ideal.τ).loc Cert.Reference12Ideal.main_v95) = v9 c
          ∧ r.2.mem ((c.tc : Thread Cert.Reference12Ideal.nD Cert.Reference12Ideal.τ).loc Cert.Reference12Ideal.main_v76) = v10 c
          ∧ r.2.mem ((c.tc : Thread Cert.Reference12Ideal.nD Cert.Reference12Ideal.τ).loc Cert.Reference12Ideal.main_v82) = v11 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)
      ∧ m' ((c.tc : Thread Cert.Reference13Ideal.nD Cert.Reference13Ideal.τ).loc Cert.Reference13Ideal.main_arg24) = m ((c.tc : Thread Cert.Kernel13Ideal.nD Cert.Kernel13Ideal.τ).loc Cert.Kernel13Ideal.main_arg24)
      ∧ m' ((c.tc : Thread Cert.Reference13Ideal.nD Cert.Reference13Ideal.τ).loc Cert.Reference13Ideal.main_arg25) = m ((c.tc : Thread Cert.Kernel13Ideal.nD Cert.Kernel13Ideal.τ).loc Cert.Kernel13Ideal.main_arg25)
      ∧ m' ((c.tc : Thread Cert.Reference13Ideal.nD Cert.Reference13Ideal.τ).loc Cert.Reference13Ideal.main_arg26) = m ((c.tc : Thread Cert.Kernel13Ideal.nD Cert.Kernel13Ideal.τ).loc Cert.Kernel13Ideal.main_arg26)
      ∧ m' ((c.tc : Thread Cert.Reference13Ideal.nD Cert.Reference13Ideal.τ).loc Cert.Reference13Ideal.main_arg27) = m ((c.tc : Thread Cert.Kernel13Ideal.nD Cert.Kernel13Ideal.τ).loc Cert.Kernel13Ideal.main_arg27)
      ∧ m' ((c.tc : Thread Cert.Reference13Ideal.nD Cert.Reference13Ideal.τ).loc Cert.Reference13Ideal.main_arg28) = m ((c.tc : Thread Cert.Kernel13Ideal.nD Cert.Kernel13Ideal.τ).loc Cert.Kernel13Ideal.main_arg28)
      ∧ m' ((c.tc : Thread Cert.Reference13Ideal.nD Cert.Reference13Ideal.τ).loc Cert.Reference13Ideal.main_arg29) = m ((c.tc : Thread Cert.Kernel13Ideal.nD Cert.Kernel13Ideal.τ).loc Cert.Kernel13Ideal.main_arg29)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)) (v6 : (c : Dev Cert.Kernel13Ideal.nD) → Buf (Elt Ideal) ((c.tc : Thread Cert.Kernel13Ideal.nD Cert.Kernel13Ideal.τ).loc Cert.Kernel13Ideal.main_v0_6)) (v7 : (c : Dev Cert.Kernel13Ideal.nD) → Buf (Elt Ideal) ((c.tc : Thread Cert.Kernel13Ideal.nD Cert.Kernel13Ideal.τ).loc Cert.Kernel13Ideal.main_v0_7)) (v8 : (c : Dev Cert.Kernel13Ideal.nD) → Buf (Elt Ideal) ((c.tc : Thread Cert.Kernel13Ideal.nD Cert.Kernel13Ideal.τ).loc Cert.Kernel13Ideal.main_v0_8)) (v9 : (c : Dev Cert.Kernel13Ideal.nD) → Buf (Elt Ideal) ((c.tc : Thread Cert.Kernel13Ideal.nD Cert.Kernel13Ideal.τ).loc Cert.Kernel13Ideal.main_v0_9)) (v10 : (c : Dev Cert.Kernel13Ideal.nD) → Buf (Elt Ideal) ((c.tc : Thread Cert.Kernel13Ideal.nD Cert.Kernel13Ideal.τ).loc Cert.Kernel13Ideal.main_v0_10)) (v11 : (c : Dev Cert.Kernel13Ideal.nD) → Buf (Elt Ideal) ((c.tc : Thread Cert.Kernel13Ideal.nD Cert.Kernel13Ideal.τ).loc Cert.Kernel13Ideal.main_v0_11)) (v12 : (c : Dev Cert.Kernel13Ideal.nD) → Buf (Elt Ideal) ((c.tc : Thread Cert.Kernel13Ideal.nD Cert.Kernel13Ideal.τ).loc Cert.Kernel13Ideal.main_v0_12)) (v13 : (c : Dev Cert.Kernel13Ideal.nD) → Buf (Elt Ideal) ((c.tc : Thread Cert.Kernel13Ideal.nD Cert.Kernel13Ideal.τ).loc Cert.Kernel13Ideal.main_v0_13)) (v14 : (c : Dev Cert.Kernel13Ideal.nD) → Buf (Elt Ideal) ((c.tc : Thread Cert.Kernel13Ideal.nD Cert.Kernel13Ideal.τ).loc Cert.Kernel13Ideal.main_v0_14)) (v15 : (c : Dev Cert.Kernel13Ideal.nD) → Buf (Elt Ideal) ((c.tc : Thread Cert.Kernel13Ideal.nD Cert.Kernel13Ideal.τ).loc Cert.Kernel13Ideal.main_v0_15)) (v16 : (c : Dev Cert.Kernel13Ideal.nD) → Buf (Elt Ideal) ((c.tc : Thread Cert.Kernel13Ideal.nD Cert.Kernel13Ideal.τ).loc Cert.Kernel13Ideal.main_v0_16)) (v17 : (c : Dev Cert.Kernel13Ideal.nD) → Buf (Elt Ideal) ((c.tc : Thread Cert.Kernel13Ideal.nD Cert.Kernel13Ideal.τ).loc Cert.Kernel13Ideal.main_v0_17)) (v18 : (c : Dev Cert.Kernel13Ideal.nD) → Buf (Elt Ideal) ((c.tc : Thread Cert.Kernel13Ideal.nD Cert.Kernel13Ideal.τ).loc Cert.Kernel13Ideal.main_v0_18)) (v19 : (c : Dev Cert.Kernel13Ideal.nD) → Buf (Elt Ideal) ((c.tc : Thread Cert.Kernel13Ideal.nD Cert.Kernel13Ideal.τ).loc Cert.Kernel13Ideal.main_v0_19)) (v20 : (c : Dev Cert.Kernel13Ideal.nD) → Buf (Elt Ideal) ((c.tc : Thread Cert.Kernel13Ideal.nD Cert.Kernel13Ideal.τ).loc Cert.Kernel13Ideal.main_v0_20)) (v21 : (c : Dev Cert.Kernel13Ideal.nD) → Buf (Elt Ideal) ((c.tc : Thread Cert.Kernel13Ideal.nD Cert.Kernel13Ideal.τ).loc Cert.Kernel13Ideal.main_v0_21)) (v22 : (c : Dev Cert.Kernel13Ideal.nD) → Buf (Elt Ideal) ((c.tc : Thread Cert.Kernel13Ideal.nD Cert.Kernel13Ideal.τ).loc Cert.Kernel13Ideal.main_v0_22)) (v23 : (c : Dev Cert.Kernel13Ideal.nD) → Buf (Elt Ideal) ((c.tc : Thread Cert.Kernel13Ideal.nD Cert.Kernel13Ideal.τ).loc Cert.Kernel13Ideal.main_v0_23)) (v24 : (c : Dev Cert.Kernel13Ideal.nD) → Buf (Elt Ideal) ((c.tc : Thread Cert.Kernel13Ideal.nD Cert.Kernel13Ideal.τ).loc Cert.Kernel13Ideal.main_v0_24)) (v25 : (c : Dev Cert.Kernel13Ideal.nD) → Buf (Elt Ideal) ((c.tc : Thread Cert.Kernel13Ideal.nD Cert.Kernel13Ideal.τ).loc Cert.Kernel13Ideal.main_v0_25)) (v26 : (c : Dev Cert.Kernel13Ideal.nD) → Buf (Elt Ideal) ((c.tc : Thread Cert.Kernel13Ideal.nD Cert.Kernel13Ideal.τ).loc Cert.Kernel13Ideal.main_v0_26)) (v27 : (c : Dev Cert.Kernel13Ideal.nD) → Buf (Elt Ideal) ((c.tc : Thread Cert.Kernel13Ideal.nD Cert.Kernel13Ideal.τ).loc Cert.Kernel13Ideal.main_v0_27)) (v28 : (c : Dev Cert.Kernel13Ideal.nD) → Buf (Elt Ideal) ((c.tc : Thread Cert.Kernel13Ideal.nD Cert.Kernel13Ideal.τ).loc Cert.Kernel13Ideal.main_v0_28)) (v29 : (c : Dev Cert.Kernel13Ideal.nD) → Buf (Elt Ideal) ((c.tc : Thread Cert.Kernel13Ideal.nD Cert.Kernel13Ideal.τ).loc Cert.Kernel13Ideal.main_v0_29)) (v30 : (c : Dev Cert.Kernel13Ideal.nD) → Buf (Elt Ideal) ((c.tc : Thread Cert.Kernel13Ideal.nD Cert.Kernel13Ideal.τ).loc Cert.Kernel13Ideal.main_v0_30)) (v31 : (c : Dev Cert.Kernel13Ideal.nD) → Buf (Elt Ideal) ((c.tc : Thread Cert.Kernel13Ideal.nD Cert.Kernel13Ideal.τ).loc Cert.Kernel13Ideal.main_v0_31)) (v32 : (c : Dev Cert.Kernel13Ideal.nD) → Buf (Elt Ideal) ((c.tc : Thread Cert.Kernel13Ideal.nD Cert.Kernel13Ideal.τ).loc Cert.Kernel13Ideal.main_v0_32)) (v33 : (c : Dev Cert.Kernel13Ideal.nD) → Buf (Elt Ideal) ((c.tc : Thread Cert.Kernel13Ideal.nD Cert.Kernel13Ideal.τ).loc Cert.Kernel13Ideal.main_v0_33)) (v34 : (c : Dev Cert.Kernel13Ideal.nD) → Buf (Elt Ideal) ((c.tc : Thread Cert.Kernel13Ideal.nD Cert.Kernel13Ideal.τ).loc Cert.Kernel13Ideal.main_v0_34)) (v35 : (c : Dev Cert.Kernel13Ideal.nD) → Buf (Elt Ideal) ((c.tc : Thread Cert.Kernel13Ideal.nD Cert.Kernel13Ideal.τ).loc Cert.Kernel13Ideal.main_v0_35)) (v36 : (c : Dev Cert.Kernel13Ideal.nD) → Buf (Elt Ideal) ((c.tc : Thread Cert.Kernel13Ideal.nD Cert.Kernel13Ideal.τ).loc Cert.Kernel13Ideal.main_v0_36)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_v0_6) = v6 c
          ∧ r.2.mem ((c.tc : Thread Cert.Kernel13Ideal.nD Cert.Kernel13Ideal.τ).loc Cert.Kernel13Ideal.main_v0_7) = v7 c
          ∧ r.2.mem ((c.tc : Thread Cert.Kernel13Ideal.nD Cert.Kernel13Ideal.τ).loc Cert.Kernel13Ideal.main_v0_8) = v8 c
          ∧ r.2.mem ((c.tc : Thread Cert.Kernel13Ideal.nD Cert.Kernel13Ideal.τ).loc Cert.Kernel13Ideal.main_v0_9) = v9 c
          ∧ r.2.mem ((c.tc : Thread Cert.Kernel13Ideal.nD Cert.Kernel13Ideal.τ).loc Cert.Kernel13Ideal.main_v0_10) = v10 c
          ∧ r.2.mem ((c.tc : Thread Cert.Kernel13Ideal.nD Cert.Kernel13Ideal.τ).loc Cert.Kernel13Ideal.main_v0_11) = v11 c
          ∧ r.2.mem ((c.tc : Thread Cert.Kernel13Ideal.nD Cert.Kernel13Ideal.τ).loc Cert.Kernel13Ideal.main_v0_12) = v12 c
          ∧ r.2.mem ((c.tc : Thread Cert.Kernel13Ideal.nD Cert.Kernel13Ideal.τ).loc Cert.Kernel13Ideal.main_v0_13) = v13 c
          ∧ r.2.mem ((c.tc : Thread Cert.Kernel13Ideal.nD Cert.Kernel13Ideal.τ).loc Cert.Kernel13Ideal.main_v0_14) = v14 c
          ∧ r.2.mem ((c.tc : Thread Cert.Kernel13Ideal.nD Cert.Kernel13Ideal.τ).loc Cert.Kernel13Ideal.main_v0_15) = v15 c
          ∧ r.2.mem ((c.tc : Thread Cert.Kernel13Ideal.nD Cert.Kernel13Ideal.τ).loc Cert.Kernel13Ideal.main_v0_16) = v16 c
          ∧ r.2.mem ((c.tc : Thread Cert.Kernel13Ideal.nD Cert.Kernel13Ideal.τ).loc Cert.Kernel13Ideal.main_v0_17) = v17 c
          ∧ r.2.mem ((c.tc : Thread Cert.Kernel13Ideal.nD Cert.Kernel13Ideal.τ).loc Cert.Kernel13Ideal.main_v0_18) = v18 c
          ∧ r.2.mem ((c.tc : Thread Cert.Kernel13Ideal.nD Cert.Kernel13Ideal.τ).loc Cert.Kernel13Ideal.main_v0_19) = v19 c
          ∧ r.2.mem ((c.tc : Thread Cert.Kernel13Ideal.nD Cert.Kernel13Ideal.τ).loc Cert.Kernel13Ideal.main_v0_20) = v20 c
          ∧ r.2.mem ((c.tc : Thread Cert.Kernel13Ideal.nD Cert.Kernel13Ideal.τ).loc Cert.Kernel13Ideal.main_v0_21) = v21 c
          ∧ r.2.mem ((c.tc : Thread Cert.Kernel13Ideal.nD Cert.Kernel13Ideal.τ).loc Cert.Kernel13Ideal.main_v0_22) = v22 c
          ∧ r.2.mem ((c.tc : Thread Cert.Kernel13Ideal.nD Cert.Kernel13Ideal.τ).loc Cert.Kernel13Ideal.main_v0_23) = v23 c
          ∧ r.2.mem ((c.tc : Thread Cert.Kernel13Ideal.nD Cert.Kernel13Ideal.τ).loc Cert.Kernel13Ideal.main_v0_24) = v24 c
          ∧ r.2.mem ((c.tc : Thread Cert.Kernel13Ideal.nD Cert.Kernel13Ideal.τ).loc Cert.Kernel13Ideal.main_v0_25) = v25 c
          ∧ r.2.mem ((c.tc : Thread Cert.Kernel13Ideal.nD Cert.Kernel13Ideal.τ).loc Cert.Kernel13Ideal.main_v0_26) = v26 c
          ∧ r.2.mem ((c.tc : Thread Cert.Kernel13Ideal.nD Cert.Kernel13Ideal.τ).loc Cert.Kernel13Ideal.main_v0_27) = v27 c
          ∧ r.2.mem ((c.tc : Thread Cert.Kernel13Ideal.nD Cert.Kernel13Ideal.τ).loc Cert.Kernel13Ideal.main_v0_28) = v28 c
          ∧ r.2.mem ((c.tc : Thread Cert.Kernel13Ideal.nD Cert.Kernel13Ideal.τ).loc Cert.Kernel13Ideal.main_v0_29) = v29 c
          ∧ r.2.mem ((c.tc : Thread Cert.Kernel13Ideal.nD Cert.Kernel13Ideal.τ).loc Cert.Kernel13Ideal.main_v0_30) = v30 c
          ∧ r.2.mem ((c.tc : Thread Cert.Kernel13Ideal.nD Cert.Kernel13Ideal.τ).loc Cert.Kernel13Ideal.main_v0_31) = v31 c
          ∧ r.2.mem ((c.tc : Thread Cert.Kernel13Ideal.nD Cert.Kernel13Ideal.τ).loc Cert.Kernel13Ideal.main_v0_32) = v32 c
          ∧ r.2.mem ((c.tc : Thread Cert.Kernel13Ideal.nD Cert.Kernel13Ideal.τ).loc Cert.Kernel13Ideal.main_v0_33) = v33 c
          ∧ r.2.mem ((c.tc : Thread Cert.Kernel13Ideal.nD Cert.Kernel13Ideal.τ).loc Cert.Kernel13Ideal.main_v0_34) = v34 c
          ∧ r.2.mem ((c.tc : Thread Cert.Kernel13Ideal.nD Cert.Kernel13Ideal.τ).loc Cert.Kernel13Ideal.main_v0_35) = v35 c
          ∧ r.2.mem ((c.tc : Thread Cert.Kernel13Ideal.nD Cert.Kernel13Ideal.τ).loc Cert.Kernel13Ideal.main_v0_36) = v36 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
          ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
          ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
          ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
          ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
          ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28)
          ∧ r.2.mem ((c.tc : Thread Cert.Kernel13Ideal.nD Cert.Kernel13Ideal.τ).loc Cert.Kernel13Ideal.main_arg29) = m ((c.tc : Thread Cert.Kernel13Ideal.nD Cert.Kernel13Ideal.τ).loc Cert.Kernel13Ideal.main_arg29))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_v35) = v2 c
          ∧ r.2.mem ((c.tc : Thread Cert.Reference13Ideal.nD Cert.Reference13Ideal.τ).loc Cert.Reference13Ideal.main_v16) = v3 c
          ∧ r.2.mem ((c.tc : Thread Cert.Reference13Ideal.nD Cert.Reference13Ideal.τ).loc Cert.Reference13Ideal.main_v22) = v4 c
          ∧ r.2.mem ((c.tc : Thread Cert.Reference13Ideal.nD Cert.Reference13Ideal.τ).loc Cert.Reference13Ideal.main_v8) = v5 c
          ∧ r.2.mem ((c.tc : Thread Cert.Reference13Ideal.nD Cert.Reference13Ideal.τ).loc Cert.Reference13Ideal.main_v59) = v6 c
          ∧ r.2.mem ((c.tc : Thread Cert.Reference13Ideal.nD Cert.Reference13Ideal.τ).loc Cert.Reference13Ideal.main_v40) = v7 c
          ∧ r.2.mem ((c.tc : Thread Cert.Reference13Ideal.nD Cert.Reference13Ideal.τ).loc Cert.Reference13Ideal.main_v46) = v8 c
          ∧ r.2.mem ((c.tc : Thread Cert.Reference13Ideal.nD Cert.Reference13Ideal.τ).loc Cert.Reference13Ideal.main_v9) = v9 c
          ∧ r.2.mem ((c.tc : Thread Cert.Reference13Ideal.nD Cert.Reference13Ideal.τ).loc Cert.Reference13Ideal.main_v83) = v10 c
          ∧ r.2.mem ((c.tc : Thread Cert.Reference13Ideal.nD Cert.Reference13Ideal.τ).loc Cert.Reference13Ideal.main_v64) = v11 c
          ∧ r.2.mem ((c.tc : Thread Cert.Reference13Ideal.nD Cert.Reference13Ideal.τ).loc Cert.Reference13Ideal.main_v70) = v12 c
          ∧ r.2.mem ((c.tc : Thread Cert.Reference13Ideal.nD Cert.Reference13Ideal.τ).loc Cert.Reference13Ideal.main_v6) = v13 c
          ∧ r.2.mem ((c.tc : Thread Cert.Reference13Ideal.nD Cert.Reference13Ideal.τ).loc Cert.Reference13Ideal.main_v107) = v14 c
          ∧ r.2.mem ((c.tc : Thread Cert.Reference13Ideal.nD Cert.Reference13Ideal.τ).loc Cert.Reference13Ideal.main_v88) = v15 c
          ∧ r.2.mem ((c.tc : Thread Cert.Reference13Ideal.nD Cert.Reference13Ideal.τ).loc Cert.Reference13Ideal.main_v94) = v16 c
          ∧ r.2.mem ((c.tc : Thread Cert.Reference13Ideal.nD Cert.Reference13Ideal.τ).loc Cert.Reference13Ideal.main_v2) = v17 c
          ∧ r.2.mem ((c.tc : Thread Cert.Reference13Ideal.nD Cert.Reference13Ideal.τ).loc Cert.Reference13Ideal.main_v131) = v18 c
          ∧ r.2.mem ((c.tc : Thread Cert.Reference13Ideal.nD Cert.Reference13Ideal.τ).loc Cert.Reference13Ideal.main_v112) = v19 c
          ∧ r.2.mem ((c.tc : Thread Cert.Reference13Ideal.nD Cert.Reference13Ideal.τ).loc Cert.Reference13Ideal.main_v118) = v20 c
          ∧ r.2.mem ((c.tc : Thread Cert.Reference13Ideal.nD Cert.Reference13Ideal.τ).loc Cert.Reference13Ideal.main_v3) = v21 c
          ∧ r.2.mem ((c.tc : Thread Cert.Reference13Ideal.nD Cert.Reference13Ideal.τ).loc Cert.Reference13Ideal.main_v155) = v22 c
          ∧ r.2.mem ((c.tc : Thread Cert.Reference13Ideal.nD Cert.Reference13Ideal.τ).loc Cert.Reference13Ideal.main_v136) = v23 c
          ∧ r.2.mem ((c.tc : Thread Cert.Reference13Ideal.nD Cert.Reference13Ideal.τ).loc Cert.Reference13Ideal.main_v142) = v24 c
          ∧ r.2.mem ((c.tc : Thread Cert.Reference13Ideal.nD Cert.Reference13Ideal.τ).loc Cert.Reference13Ideal.main_v4) = v25 c
          ∧ r.2.mem ((c.tc : Thread Cert.Reference13Ideal.nD Cert.Reference13Ideal.τ).loc Cert.Reference13Ideal.main_v179) = v26 c
          ∧ r.2.mem ((c.tc : Thread Cert.Reference13Ideal.nD Cert.Reference13Ideal.τ).loc Cert.Reference13Ideal.main_v160) = v27 c
          ∧ r.2.mem ((c.tc : Thread Cert.Reference13Ideal.nD Cert.Reference13Ideal.τ).loc Cert.Reference13Ideal.main_v166) = v28 c
          ∧ r.2.mem ((c.tc : Thread Cert.Reference13Ideal.nD Cert.Reference13Ideal.τ).loc Cert.Reference13Ideal.main_v5) = v29 c
          ∧ r.2.mem ((c.tc : Thread Cert.Reference13Ideal.nD Cert.Reference13Ideal.τ).loc Cert.Reference13Ideal.main_v203) = v30 c
          ∧ r.2.mem ((c.tc : Thread Cert.Reference13Ideal.nD Cert.Reference13Ideal.τ).loc Cert.Reference13Ideal.main_v184) = v31 c
          ∧ r.2.mem ((c.tc : Thread Cert.Reference13Ideal.nD Cert.Reference13Ideal.τ).loc Cert.Reference13Ideal.main_v190) = v32 c
          ∧ r.2.mem ((c.tc : Thread Cert.Reference13Ideal.nD Cert.Reference13Ideal.τ).loc Cert.Reference13Ideal.main_v10) = v33 c
          ∧ r.2.mem ((c.tc : Thread Cert.Reference13Ideal.nD Cert.Reference13Ideal.τ).loc Cert.Reference13Ideal.main_v227) = v34 c
          ∧ r.2.mem ((c.tc : Thread Cert.Reference13Ideal.nD Cert.Reference13Ideal.τ).loc Cert.Reference13Ideal.main_v208) = v35 c
          ∧ r.2.mem ((c.tc : Thread Cert.Reference13Ideal.nD Cert.Reference13Ideal.τ).loc Cert.Reference13Ideal.main_v214) = v36 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23)
          ∧ r.2.mem ((c.tc : Thread Cert.Reference13Ideal.nD Cert.Reference13Ideal.τ).loc Cert.Reference13Ideal.main_arg24) = m' ((c.tc : Thread Cert.Reference13Ideal.nD Cert.Reference13Ideal.τ).loc Cert.Reference13Ideal.main_arg24)
          ∧ r.2.mem ((c.tc : Thread Cert.Reference13Ideal.nD Cert.Reference13Ideal.τ).loc Cert.Reference13Ideal.main_arg25) = m' ((c.tc : Thread Cert.Reference13Ideal.nD Cert.Reference13Ideal.τ).loc Cert.Reference13Ideal.main_arg25)
          ∧ r.2.mem ((c.tc : Thread Cert.Reference13Ideal.nD Cert.Reference13Ideal.τ).loc Cert.Reference13Ideal.main_arg26) = m' ((c.tc : Thread Cert.Reference13Ideal.nD Cert.Reference13Ideal.τ).loc Cert.Reference13Ideal.main_arg26)
          ∧ r.2.mem ((c.tc : Thread Cert.Reference13Ideal.nD Cert.Reference13Ideal.τ).loc Cert.Reference13Ideal.main_arg27) = m' ((c.tc : Thread Cert.Reference13Ideal.nD Cert.Reference13Ideal.τ).loc Cert.Reference13Ideal.main_arg27)
          ∧ r.2.mem ((c.tc : Thread Cert.Reference13Ideal.nD Cert.Reference13Ideal.τ).loc Cert.Reference13Ideal.main_arg28) = m' ((c.tc : Thread Cert.Reference13Ideal.nD Cert.Reference13Ideal.τ).loc Cert.Reference13Ideal.main_arg28)
          ∧ r.2.mem ((c.tc : Thread Cert.Reference13Ideal.nD Cert.Reference13Ideal.τ).loc Cert.Reference13Ideal.main_arg29) = m' ((c.tc : Thread Cert.Reference13Ideal.nD Cert.Reference13Ideal.τ).loc Cert.Reference13Ideal.main_arg29))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)) (v4 : (c : Dev Cert.Kernel17Ideal.nD) → Buf (Elt Ideal) ((c.tc : Thread Cert.Kernel17Ideal.nD Cert.Kernel17Ideal.τ).loc Cert.Kernel17Ideal.main_v4_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_v4_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v70) = v0 c
          ∧ r.2.mem ((c.tc : Thread Cert.Reference17Ideal.nD Cert.Reference17Ideal.τ).loc Cert.Reference17Ideal.main_v75) = v1 c
          ∧ r.2.mem ((c.tc : Thread Cert.Reference17Ideal.nD Cert.Reference17Ideal.τ).loc Cert.Reference17Ideal.main_v76) = v2 c
          ∧ r.2.mem ((c.tc : Thread Cert.Reference17Ideal.nD Cert.Reference17Ideal.τ).loc Cert.Reference17Ideal.main_v77) = v3 c
          ∧ r.2.mem ((c.tc : Thread Cert.Reference17Ideal.nD Cert.Reference17Ideal.τ).loc Cert.Reference17Ideal.main_v74) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v30) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v34) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v19_0)) (v1 : (c : Dev Cert.Kernel19Ideal.nD) → Buf (Elt Ideal) ((c.tc : Thread Cert.Kernel19Ideal.nD Cert.Kernel19Ideal.τ).loc Cert.Kernel19Ideal.main_v19_1)) (v2 : (c : Dev Cert.Kernel19Ideal.nD) → Buf (Elt Ideal) ((c.tc : Thread Cert.Kernel19Ideal.nD Cert.Kernel19Ideal.τ).loc Cert.Kernel19Ideal.main_v19_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v19_0) = v0 c
          ∧ r.2.mem ((c.tc : Thread Cert.Kernel19Ideal.nD Cert.Kernel19Ideal.τ).loc Cert.Kernel19Ideal.main_v19_1) = v1 c
          ∧ r.2.mem ((c.tc : Thread Cert.Kernel19Ideal.nD Cert.Kernel19Ideal.τ).loc Cert.Kernel19Ideal.main_v19_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v30) = v0 c
          ∧ r.2.mem ((c.tc : Thread Cert.Reference19Ideal.nD Cert.Reference19Ideal.τ).loc Cert.Reference19Ideal.main_v32) = v1 c
          ∧ r.2.mem ((c.tc : Thread Cert.Reference19Ideal.nD Cert.Reference19Ideal.τ).loc Cert.Reference19Ideal.main_v34) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_clear2 : Cert.Pre_clear2.Facts) (hPre_finite5 : Cert.Pre_finite5.Facts) (hPre_finite17 : Cert.Pre_finite17.Facts),
    quiescent_Kernel2 (hKernel2 := hKernel2)
    ∧ quiescent_Kernel2Ideal (hKernel2Ideal := hKernel2Ideal)
    ∧ quiescent_Kernel2Ideal_pre_clear2 (hKernel2Ideal := hKernel2Ideal) (hPre_clear2 := hPre_clear2)
    ∧ quiescent_Reference2Ideal (hReference2Ideal := hReference2Ideal)
    ∧ quiescent_Reference2Ideal_pre_clear2 (hReference2Ideal := hReference2Ideal) (hPre_clear2 := hPre_clear2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel2_Kernel2Ideal
    ∧ algebraic_Kernel2Ideal_Reference2Ideal_pre_clear2 (hKernel2Ideal := hKernel2Ideal) (hReference2Ideal := hReference2Ideal) (hPre_clear2 := hPre_clear2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_clear2.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

class Facts : Prop where
  shapeCasts_S1x1024_S1024 : S1x1024.ShapeCasts S1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x4096 : S_.BroadcastsInDim S4096x4096 (![] : Fin 0 → Fin S4096x4096.rank)
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def fn_relu {F : FTy → Type} [FloatOps F] (arg0 : FVec F S4096x4096 .f32) : FVec F S4096x4096 .f32 :=
  let cst : FVec F S_ .f32 := constant S_ .f32 0x00000000#32
  let v0 : FVec F S4096x4096 .f32 := broadcastInDim S4096x4096 ![] bcast_S_S4096x4096 cst
  let v1 : FVec F S4096x4096 .f32 := maximumf arg0 v0
  v1

def fn_part2 {F : FTy → Type} [FloatOps F] (main_v16 : FVec F S4096x4096 .f32) (main_v35 : IVec S_ 1) (main_v36 : FVec F S4096x1024 .f32) : IVec S_ 1 :=
  let main_cst_9 : FVec F S_ .f32 := constant S_ .f32 0x7F800000#32
  let main_v37 : FVec F S4096x1024 .f32 := broadcastInDim S4096x1024 ![] bcast_S_S4096x1024 main_cst_9
  let main_v38 : IVec S4096x1024 1 := cmpf .olt main_v36 main_v37
  let main_c_10 : IVec S_ 1 := constantI S_ 1 1#1
  let main_v39 : IVec S_ 1 := (fun x v => Host.reduce IntOp.andi x v reducesTo_S4096x1024_S_d0_1 h_S_) main_v38 main_c_10
  let main_v40 : IVec S_ 1 := andi main_v35 main_v39
  let main_cst_11 : FVec F S_ .f32 := constant S_ .f32 0x00000000#32
  let main_v41 : FVec F S4096x4096 .f32 := broadcastInDim S4096x4096 ![] bcast_S_S4096x4096 main_cst_11
  let main_v42 : IVec S4096x4096 1 := cmpf .oeq main_v16 main_v41
  let main_cst_12 : FVec F S_ .f32 := constant S_ .f32 0x0DA24260#32
  let main_v43 : FVec F S4096x4096 .f32 := broadcastInDim S4096x4096 ![] bcast_S_S4096x4096 main_cst_12
  let main_v44 : IVec S4096x4096 1 := cmpf .oge main_v16 main_v43
  let main_v45 : IVec S4096x4096 1 := ori main_v42 main_v44
  let main_c_13 : IVec S_ 1 := constantI S_ 1 1#1
  let main_v46 : IVec S_ 1 := (fun x v => Host.reduce IntOp.andi x v reducesTo_S4096x4096_S_d0_1 h_S_) main_v45 main_c_13
  let main_v47 : IVec S_ 1 := andi main_v40 main_v46
  main_v47

def fn_part1 {F : FTy → Type} [FloatOps F] (main_arg1 : FVec F S4096x1024 .f32) (main_arg2 : FVec F S1x1024 .f32) (main_arg3 : FVec F S1024x4096 .f32) (main_arg4 : FVec F S4096x1024 .f32) (main_v16 : FVec F S4096x4096 .f32) (main_v19 : IVec S4096x1024 1) : IVec S_ 1 :=
  let main_c : IVec S_ 1 := constantI S_ 1 1#1
  let main_v20 : IVec S_ 1 := (fun x v => Host.reduce IntOp.andi x v reducesTo_S4096x1024_S_d0_1 h_S_) main_v19 main_c
  let main_v21 : FVec F S4096x1024 .f32 := Host.absf main_arg1
  let main_cst_3 : FVec F S_ .f32 := constant S_ .f32 0x7F800000#32
  let main_v22 : FVec F S4096x1024 .f32 := broadcastInDim S4096x1024 ![] bcast_S_S4096x1024 main_cst_3
  let main_v23 : IVec S4096x1024 1 := cmpf .olt main_v21 main_v22
  let main_c_4 : IVec S_ 1 := constantI S_ 1 1#1
  let main_v24 : IVec S_ 1 := (fun x v => Host.reduce IntOp.andi x v reducesTo_S4096x1024_S_d0_1 h_S_) main_v23 main_c_4
  let main_v25 : IVec S_ 1 := andi main_v20 main_v24
  let main_v26 : FVec F S1x1024 .f32 := Host.absf main_arg2
  let main_cst_5 : FVec F S_ .f32 := constant S_ .f32 0x7F800000#32
  let main_v27 : FVec F S1x1024 .f32 := broadcastInDim S1x1024 ![] bcast_S_S1x1024 main_cst_5
  let main_v28 : IVec S1x1024 1 := cmpf .olt main_v26 main_v27
  let main_c_6 : IVec S_ 1 := constantI S_ 1 1#1
  let main_v29 : IVec S_ 1 := (fun x v => Host.reduce IntOp.andi x v reducesTo_S1x1024_S_d0_1 h_S_) main_v28 main_c_6
  let main_v30 : IVec S_ 1 := andi main_v25 main_v29
  let main_v31 : FVec F S1024x4096 .f32 := Host.absf main_arg3
  let main_cst_7 : FVec F S_ .f32 := constant S_ .f32 0x7F800000#32
  let main_v32 : FVec F S1024x4096 .f32 := broadcastInDim S1024x4096 ![] bcast_S_S1024x4096 main_cst_7
  let main_v33 : IVec S1024x4096 1 := cmpf .olt main_v31 main_v32
  let main_c_8 : IVec S_ 1 := constantI S_ 1 1#1
  let main_v34 : IVec S_ 1 := (fun x v => Host.reduce IntOp.andi x v reducesTo_S1024x4096_S_d0_1 h_S_) main_v33 main_c_8
  let main_v35 : IVec S_ 1 := andi main_v30 main_v34
  let main_v36 : FVec F S4096x1024 .f32 := Host.absf main_arg4
  fn_part2 (F := F) main_v16 main_v35 main_v36

def fn {F : FTy → Type} [FloatOps F] (main_arg0 : FVec F S4096x1024 .f32) (main_arg1 : FVec F S4096x1024 .f32) (main_arg2 : FVec F S1x1024 .f32) (main_arg3 : FVec F S1024x4096 .f32) (main_arg4 : FVec F S4096x1024 .f32) : IVec S_ 1 :=
  let main_v0 : FVec F S1024 .f32 := shapeCast S1024 main_arg2 shapeCasts_S1x1024_S1024
  let main_v1 : FVec F S4096x1024 .f32 := mulf main_arg1 main_arg1
  let main_cst : FVec F S_ .f32 := constant S_ .f32 0x00000000#32
  let main_v2 : FVec F S4096 .f32 := (fun x v => Host.reduceAdd x v reducesTo_S4096x1024_S4096_d1 h_S_) main_v1 main_cst
  let main_v3 : FVec F S4096x1 .f32 := broadcastInDim S4096x1 ![0] bcast_S4096_S4096x1_0 main_v2
  let main_cst_0 : FVec F S_ .f32 := constant S_ .f32 0x44800000#32
  let main_v4 : FVec F S4096x1 .f32 := broadcastInDim S4096x1 ![] bcast_S_S4096x1 main_cst_0
  let main_v5 : FVec F S4096x1 .f32 := Host.divf main_v3 main_v4
  let main_cst_1 : FVec F S_ .f32 := constant S_ .f32 0x358637BD#32
  let main_v6 : FVec F S4096x1 .f32 := broadcastInDim S4096x1 ![] bcast_S_S4096x1 main_cst_1
  let main_v7 : FVec F S4096x1 .f32 := addf main_v5 main_v6
  let main_v8 : FVec F S4096x1 .f32 := Host.rsqrt main_v7
  let main_v9 : FVec F S4096x1024 .f32 := broadcastInDim S4096x1024 ![0, 1] bcast_S4096x1_S4096x1024_0_1 main_v8
  let main_v10 : FVec F S4096x1024 .f32 := mulf main_arg1 main_v9
  let main_v11 : FVec F S1x1024 .f32 := broadcastInDim S1x1024 ![1] bcast_S1024_S1x1024_1 main_v0
  let main_v12 : FVec F S4096x1024 .f32 := broadcastInDim S4096x1024 ![0, 1] bcast_S1x1024_S4096x1024_0_1 main_v11
  let main_v13 : FVec F S4096x1024 .f32 := mulf main_v10 main_v12
  let main_v14 : FVec F S4096x4096 .f32 := (fun l r => Host.dotGeneral dot_S4096x1024_S1024x4096_S4096x4096_1_0_0_1_n_n none l r) main_v13 main_arg3
  let main_v15 : FVec F S4096x4096 .f32 := fn_relu (F := F) main_v14
  let main_v16 : FVec F S4096x4096 .f32 := mulf main_v15 main_v15
  let main_v17 : FVec F S4096x1024 .f32 := Host.absf main_arg0
  let main_cst_2 : FVec F S_ .f32 := constant S_ .f32 0x7F800000#32
  let main_v18 : FVec F S4096x1024 .f32 := broadcastInDim S4096x1024 ![] bcast_S_S4096x1024 main_cst_2
  let main_v19 : IVec S4096x1024 1 := cmpf .olt main_v17 main_v18
  fn_part1 (F := F) main_arg1 main_arg2 main_arg3 main_arg4 main_v16 main_v19
-- ==== Pre_finite17.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1x1024 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x4096 .f32) (main_arg3 : FVec F S4096x1024 .f32) (main_arg4 : FVec F S1x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite5.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S1024x2560 : S_.BroadcastsInDim S1024x2560 (![] : Fin 0 → Fin S1024x2560.rank)
  reducesTo_S1024x2560_S_d0_1 : S1024x2560.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S4096x2560 .bf16) (main_arg1 : FVec F S1024x2560 .f32) (main_arg2 : FVec F S4096x1024 .f32) (main_arg3 : FVec F S1x1024 .f32) (main_arg4 : FVec F S4096x1024 .f32) : IVec S_ 1 :=
  let main_v0 : FVec F S4096x2560 .f32 := (extf .f32 · bitsLt_bf16_f32) main_arg0
  let main_v1 : FVec F S4096x2560 .f32 := Host.absf main_v0
  let main_cst : FVec F S_ .f32 := constant S_ .f32 0x7F800000#32
  let main_v2 : FVec F S4096x2560 .f32 := broadcastInDim S4096x2560 ![] bcast_S_S4096x2560 main_cst
  let main_v3 : IVec S4096x2560 1 := cmpf .olt main_v1 main_v2
  let main_c : IVec S_ 1 := constantI S_ 1 1#1
  let main_v4 : IVec S_ 1 := (fun x v => Host.reduce IntOp.andi x v reducesTo_S4096x2560_S_d0_1 h_S_) main_v3 main_c
  let main_v5 : FVec F S1024x2560 .f32 := Host.absf main_arg1
  let main_cst_0 : FVec F S_ .f32 := constant S_ .f32 0x7F800000#32
  let main_v6 : FVec F S1024x2560 .f32 := broadcastInDim S1024x2560 ![] bcast_S_S1024x2560 main_cst_0
  let main_v7 : IVec S1024x2560 1 := cmpf .olt main_v5 main_v6
  let main_c_1 : IVec S_ 1 := constantI S_ 1 1#1
  let main_v8 : IVec S_ 1 := (fun x v => Host.reduce IntOp.andi x v reducesTo_S1024x2560_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩
abbrev S256x1024 : Shape := ⟨2, ![256, 1024]⟩
abbrev S256x4096 : Shape := ⟨2, ![256, 4096]⟩
abbrev S1x512x1024 : Shape := ⟨3, ![1, 512, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 36
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S8x512x1024, .f32⟩
  | .hbm, ⟨32, _⟩ => ⟨S8x512x1024, .bf16⟩
  | .hbm, ⟨33, _⟩ => ⟨S4096x4096, .bf16⟩
  | .hbm, ⟨34, _⟩ => ⟨S4096x1024, .f32⟩
  | .hbm, ⟨35, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x1024x512, .bf16⟩
  | .local _ .vmem, ⟨8, _⟩ => ⟨S8x512x1024, .bf16⟩
  | .local _ .vmem, ⟨9, _⟩ => ⟨S256x4096, .bf16⟩
  | .local _ .vmem, ⟨10, _⟩ => ⟨S256x4096, .bf16⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4096, .bf16⟩
  | .hbm, ⟨72, _⟩ => ⟨S4096x1024, .f32⟩
  | .hbm, ⟨73, _⟩ => ⟨S1x1024, .f32⟩
  | .hbm, ⟨74, _⟩ => ⟨S_, .i32⟩
  | .hbm, ⟨75, _⟩ => ⟨S_, .f32⟩
  | .hbm, ⟨76, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_call1_v0 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S2560x1024 : Shape := ⟨2, ![2560, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2560x1024, .f32⟩
  | .hbm, ⟨6, _⟩ => ⟨S2560x1024, .bf16⟩
  | .hbm, ⟨7, _⟩ => ⟨S4096x1024, .f32⟩
  | .hbm, ⟨8, _⟩ => ⟨S8x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2560, .f32⟩
  | .hbm, ⟨27, _⟩ => ⟨S4096x2560, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S_, .i32⟩
  | .hbm, ⟨57, _⟩ => ⟨S_, .f32⟩
  | .hbm, ⟨58, _⟩ => ⟨S8x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel7.lean ====
abbrev S4096x2560 : Shape := ⟨2, ![4096, 2560]⟩
abbrev S4096x1024 : Shape := ⟨2, ![4096, 1024]⟩
abbrev S8x512x1024 : Shape := ⟨3, ![8, 512, 1024]⟩
abbrev S512x1024 : Shape := ⟨2, ![512, 1024]⟩
abbrev S2560x1024 : Shape := ⟨2, ![2560, 1024]⟩
abbrev S1024x1280 : Shape := ⟨2, ![1024, 1280]⟩
abbrev S1024x1024 : Shape := ⟨2, ![1024, 1024]⟩
abbrev S8x64x1024 : Shape := ⟨3, ![8, 64, 1024]⟩
abbrev S64x1024 : Shape := ⟨2, ![64, 1024]⟩
abbrev S1280x1024 : Shape := ⟨2, ![1280, 1024]⟩
abbrev S1x64x1024 : Shape := ⟨3, ![1, 64, 1024]⟩

abbrev nBuf : Space → Nat
  | .hbm => 11
  | .vmem => 23
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S8x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S2560x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S1280x1024, .bf16⟩
  | .local _ .vmem, ⟨21, _⟩ => ⟨S1280x1024, .bf16⟩
  | .local _ .vmem, ⟨22, _⟩ => ⟨S1280x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v73 : BitVec 1 := Scalar.cmpi .eq arg2 c3_i32
  let v74 : BitVec 32 := Scalar.extui v73
  let c0_i32_48 : BitVec 32 := 0#32
  let v75 : BitVec 1 := Scalar.cmpi .ne v74 c0_i32_48
  v75

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1280x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference7Ideal.lean ====
abbrev S4096x2560 : Shape := ⟨2, ![4096, 2560]⟩
abbrev S4096x1024 : Shape := ⟨2, ![4096, 1024]⟩
abbrev S8x512x1024 : Shape := ⟨3, ![8, 512, 1024]⟩
abbrev S512x1024 : Shape := ⟨2, ![512, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S8x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S1024x2560, .f32⟩
  | .hbm, ⟨8, _⟩ => ⟨S4096x1024, .f32⟩
  | .hbm, ⟨9, _⟩ => ⟨S4096x2560, .f32⟩
  | .hbm, ⟨10, _⟩ => ⟨S4096x2560, .f32⟩
  | .hbm, ⟨11, _⟩ => ⟨S2560x1024, .f32⟩
  | .hbm, ⟨12, _⟩ => ⟨S1024x2560, .f32⟩
  | .hbm, ⟨13, _⟩ => ⟨S2560x1024, .f32⟩
  | .hbm, ⟨14, _⟩ => ⟨S2560x1024, .bf16⟩
  | .hbm, ⟨15, _⟩ => ⟨S8x512x1024, .f32⟩
  | .hbm, ⟨16, _⟩ => ⟨S_, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S_, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel8.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x320x1024 : Shape := ⟨3, ![8, 320, 1024]⟩
abbrev S1024x320 : Shape := ⟨2, ![1024, 320]⟩
abbrev S320x1024 : Shape := ⟨2, ![320, 1024]⟩
abbrev S1x320x1024 : Shape := ⟨3, ![1, 320, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x320x1024, .bf16⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S320x1024, .f32⟩
  | .hbm, ⟨9, _⟩ => ⟨S320x1024, .f32⟩
  | .hbm, ⟨10, _⟩ => ⟨S320x1024, .f32⟩
  | .local _ .vmem, ⟨0, _⟩ => ⟨S8x320x1024, .bf16⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S320x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x320x1024 : Shape := ⟨3, ![8, 320, 1024]⟩
abbrev S1024x320 : Shape := ⟨2, ![1024, 320]⟩
abbrev S8x1024x320 : Shape := ⟨3, ![8, 1024, 320]⟩
abbrev S_ : Shape := ⟨0, ![]⟩
abbrev S320x1024 : Shape := ⟨2, ![320, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S8x1024x320, .bf16⟩
  | .hbm, ⟨5, _⟩ => ⟨S8x1024x320, .f32⟩
  | .hbm, ⟨6, _⟩ => ⟨S_, .f32⟩
  | .hbm, ⟨7, _⟩ => ⟨S1024x320, .f32⟩
  | .hbm, ⟨8, _⟩ => ⟨S_, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S1024x320, .f32⟩
  | .hbm, ⟨23, _⟩ => ⟨S_, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | .hbm, ⟨37, _⟩ => ⟨S1024x320, .f32⟩
  | .hbm, ⟨38, _⟩ => ⟨S_, .f32⟩
  | .hbm, ⟨39, _⟩ => ⟨S1024x320, .f32⟩
  | .hbm, ⟨40, _⟩ => ⟨S1024x320, .f32⟩
  | .hbm, ⟨41, _⟩ => ⟨S320x1024, .f32⟩
  | .hbm, ⟨42, _⟩ => ⟨S320x1024, .f32⟩
  | .hbm, ⟨43, _⟩ => ⟨S320x1024, .f32⟩
  | .hbm, ⟨44, _⟩ => ⟨S320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel11.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference11Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Kernel12.lean ====
abbrev S1x128x4x256 : Shape := ⟨4, ![1, 128, 4, 256]⟩
abbrev S1024x128 : Shape := ⟨2, ![1024, 128]⟩

abbrev nBuf : Space → Nat
  | .hbm => 28
  | .vmem => 28
  | .smem => 0
  | _ => 0

abbrev bufTy : (tb : Table) → Fin (tcTables nBuf tb) → BufTy
  | .hbm, ⟨0, _⟩ => ⟨S1x128x4x256, .f32⟩
  | .hbm, ⟨1, _⟩ => ⟨S1x128x4x256, .f32⟩
  | .hbm, ⟨2, _⟩ => ⟨S1x128x4x256, .f32⟩
  | .hbm, ⟨3, _⟩ => ⟨S1x128x4x256, .f32⟩
  | .hbm, ⟨4, _⟩ => ⟨S1x128x4x256, .f32⟩
  | .hbm, ⟨5, _⟩ => ⟨S1x128x4x256, .f32⟩
  | .hbm, ⟨6, _⟩ => ⟨S1x128x4x256, .f32⟩
  | .hbm, ⟨7, _⟩ => ⟨S1x128x4x256, .f32⟩
  | .hbm, ⟨8, _⟩ => ⟨S1x128x4x256, .f32⟩
  | .hbm, ⟨9, _⟩ => ⟨S1x128x4x256, .f32⟩
  | .hbm, ⟨10, _⟩ => ⟨S1x128x4x256, .f32⟩
  | .hbm, ⟨11, _⟩ => ⟨S1x128x4x256, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1x128x4x256, .f32⟩
  | .hbm, ⟨17, _⟩ => ⟨S1x128x4x256, .f32⟩
  | .hbm, ⟨18, _⟩ => ⟨S1x128x4x256, .f32⟩
  | .hbm, ⟨19, _⟩ => ⟨S1x128x4x256, .f32⟩
  | .hbm, ⟨20, _⟩ => ⟨S1x128x4x256, .f32⟩
  | .hbm, ⟨21, _⟩ => ⟨S1x128x4x256, .f32⟩
  | .hbm, ⟨22, _⟩ => ⟨S1x128x4x256, .f32⟩
  | .hbm, ⟨23, _⟩ => ⟨S1x128x4x256, .f32⟩
  | .hbm, ⟨24, _⟩ => ⟨S1x128x4x256, .f32⟩
  | .hbm, ⟨25, _⟩ => ⟨S1024x128, .f32⟩
  | .hbm, ⟨26, _⟩ => ⟨S1024x128, .f32⟩
  | .hbm, ⟨27, _⟩ => ⟨S1024x128, .f32⟩
  | .local _ .vmem, ⟨0, _⟩ => ⟨S1x128x4x256, .f32⟩
  | .local _ .vmem, ⟨1, _⟩ => ⟨S1x128x4x256, .f32⟩
  | .local _ .vmem, ⟨2, _⟩ => ⟨S1x128x4x256, .f32⟩
  | .local _ .vmem, ⟨3, _⟩ => ⟨S1x128x4x256, .f32⟩
  | .local _ .vmem, ⟨4, _⟩ => ⟨S1x128x4x256, .f32⟩
  | .local _ .vmem, ⟨5, _⟩ => ⟨S1x128x4x256, .f32⟩
  | .local _ .vmem, ⟨6, _⟩ => ⟨S1x128x4x256, .f32⟩
  | .local _ .vmem, ⟨7, _⟩ => ⟨S1x128x4x256, .f32⟩
  | .local _ .vmem, ⟨8, _⟩ => ⟨S1x128x4x256, .f32⟩
  | .local _ .vmem, ⟨9, _⟩ => ⟨S1x128x4x256, .f32⟩
  | .local _ .vmem, ⟨10, _⟩ => ⟨S1x128x4x256, .f32⟩
  | .local _ .vmem, ⟨11, _⟩ => ⟨S1x128x4x256, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x128x4x256, .f32⟩
  | .local _ .vmem, ⟨17, _⟩ => ⟨S1x128x4x256, .f32⟩
  | .local _ .vmem, ⟨18, _⟩ => ⟨S1x128x4x256, .f32⟩
  | .local _ .vmem, ⟨19, _⟩ => ⟨S1x128x4x256, .f32⟩
  | .local _ .vmem, ⟨20, _⟩ => ⟨S1x128x4x256, .f32⟩
  | .local _ .vmem, ⟨21, _⟩ => ⟨S1x128x4x256, .f32⟩
  | .local _ .vmem, ⟨22, _⟩ => ⟨S1x128x4x256, .f32⟩
  | .local _ .vmem, ⟨23, _⟩ => ⟨S1x128x4x256, .f32⟩
  | .local _ .vmem, ⟨24, _⟩ => ⟨S1x128x4x256, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S1x128x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x128x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128x4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128x4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128x4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128x4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128x4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128x4x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128x4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128x4x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128x4x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128x4x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128x4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128x4x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128x4x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x128x4x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1024x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1024x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1024x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference12Ideal.lean ====
abbrev S1x128x4x256 : Shape := ⟨4, ![1, 128, 4, 256]⟩
abbrev S1024x128 : Shape := ⟨2, ![1024, 128]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x128x4x256, .f32⟩
  | 1 => ⟨S1x128x4x256, .f32⟩
  | 2 => ⟨S1x128x4x256, .f32⟩
  | 3 => ⟨S1x128x4x256, .f32⟩
  | 4 => ⟨S1x128x4x256, .f32⟩
  | 5 => ⟨S1x128x4x256, .f32⟩
  | 6 => ⟨S1x128x4x256, .f32⟩
  | 7 => ⟨S1x128x4x256, .f32⟩
  | 8 => ⟨S1x128x4x256, .f32⟩
  | 9 => ⟨S1x128x4x256, .f32⟩
  | 10 => ⟨S1x128x4x256, .f32⟩
  | 11 => ⟨S1x128x4x256, .f32⟩
  | 12 => ⟨S1024x128, .f32⟩
  | 13 => ⟨S1024x128, .f32⟩
  | 14 => ⟨S1024x128, .f32⟩
  | 15 => ⟨S1024x128, .f32⟩
  | 16 => ⟨S_, .f32⟩
  | 17 => ⟨S1x128x4x256, .f32⟩
  | 18 => ⟨S1x128x4x256, .f32⟩
  | 19 => ⟨S_, .f32⟩
  | 20 => ⟨S1x128x4x256, .f32⟩
  | 21 => ⟨S1x128x4x256, .f32⟩
  | 22 => ⟨S1x128x4x256, .f32⟩
  | 23 => ⟨S_, .f32⟩
  | 24 => ⟨S1x128x4x256, .f32⟩
  | 25 => ⟨S1x128x4x256, .f32⟩
  | 26 => ⟨S1x128x4x256, .f32⟩
  | 27 => ⟨S_, .f32⟩
  | 28 => ⟨S1x128x4x256, .f32⟩
  | 29 => ⟨S1x128x4x256, .f32⟩
  | 30 => ⟨S1x128x4x256, .f32⟩
  | 31 => ⟨S_, .f32⟩
  | 32 => ⟨S1x128x4x256, .f32⟩
  | 33 => ⟨S1x128x4x256, .f32⟩
  | 34 => ⟨S_, .f32⟩
  | 35 => ⟨S1x128x4x256, .f32⟩
  | 36 => ⟨S1x128x4x256, .f32⟩
  | 37 => ⟨S1x128x4x256, .f32⟩
  | 38 => ⟨S_, .f32⟩
  | 39 => ⟨S1x128x4x256, .f32⟩
  | 40 => ⟨S1x128x4x256, .f32⟩
  | 41 => ⟨S1x128x4x256, .f32⟩
  | 42 => ⟨S_, .f32⟩
  | 43 => ⟨S1x128x4x256, .f32⟩
  | 44 => ⟨S1x128x4x256, .f32⟩
  | 45 => ⟨S1x128x4x256, .f32⟩
  | 46 => ⟨S_, .f32⟩
  | 47 => ⟨S1x128x4x256, .f32⟩
  | 48 => ⟨S1x128x4x256, .f32⟩
  | 49 => ⟨S_, .f32⟩
  | 50 => ⟨S1x128x4x256, .f32⟩
  | 51 => ⟨S1x128x4x256, .f32⟩
  | 52 => ⟨S_, .f32⟩
  | 53 => ⟨S1x128x4x256, .f32⟩
  | 54 => ⟨S1x128x4x256, .f32⟩
  | 55 => ⟨S1x128x4x256, .f32⟩
  | 56 => ⟨S_, .f32⟩
  | 57 => ⟨S1x128x4x256, .f32⟩
  | 58 => ⟨S1x128x4x256, .f32⟩
  | 59 => ⟨S1x128x4x256, .f32⟩
  | 60 => ⟨S_, .f32⟩
  | 61 => ⟨S1x128x4x256, .f32⟩
  | 62 => ⟨S1x128x4x256, .f32⟩
  | 63 => ⟨S1x128x4x256, .f32⟩
  | 64 => ⟨S_, .f32⟩
  | 65 => ⟨S1x128x4x256, .f32⟩
  | 66 => ⟨S1x128x4x256, .f32⟩
  | 67 => ⟨S_, .f32⟩
  | 68 => ⟨S1x128x4x256, .f32⟩
  | 69 => ⟨S1x128x4x256, .f32⟩
  | 70 => ⟨S1x128x4x256, .f32⟩
  | 71 => ⟨S_, .f32⟩
  | 72 => ⟨S1x128x4x256, .f32⟩
  | 73 => ⟨S1x128x4x256, .f32⟩
  | 74 => ⟨S1x128x4x256, .f32⟩
  | 75 => ⟨S_, .f32⟩
  | 76 => ⟨S1x128x4x256, .f32⟩
  | 77 => ⟨S1x128x4x256, .f32⟩
  | 78 => ⟨S1x128x4x256, .f32⟩
  | 79 => ⟨S_, .f32⟩
  | 80 => ⟨S1x128x4x256, .f32⟩
  | 81 => ⟨S1x128x4x256, .f32⟩
  | 82 => ⟨S_, .f32⟩
  | 83 => ⟨S1x128x4x256, .f32⟩
  | 84 => ⟨S1x128x4x256, .f32⟩
  | 85 => ⟨S_, .f32⟩
  | 86 => ⟨S1x128x4x256, .f32⟩
  | 87 => ⟨S1x128x4x256, .f32⟩
  | 88 => ⟨S1x128x4x256, .f32⟩
  | 89 => ⟨S_, .f32⟩
  | 90 => ⟨S1x128x4x256, .f32⟩
  | 91 => ⟨S1x128x4x256, .f32⟩
  | 92 => ⟨S1x128x4x256, .f32⟩
  | 93 => ⟨S_, .f32⟩
  | 94 => ⟨S1x128x4x256, .f32⟩
  | 95 => ⟨S1x128x4x256, .f32⟩
  | 96 => ⟨S1x128x4x256, .f32⟩
  | 97 => ⟨S_, .f32⟩
  | 98 => ⟨S1x128x4x256, .f32⟩
  | 99 => ⟨S1x128x4x256, .f32⟩
  | 100 => ⟨S_, .f32⟩
  | 101 => ⟨S1x128x4x256, .f32⟩
  | 102 => ⟨S1x128x4x256, .f32⟩
  | 103 => ⟨S1x128x4x256, .f32⟩
  | 104 => ⟨S_, .f32⟩
  | 105 => ⟨S1x128x4x256, .f32⟩
  | 106 => ⟨S1x128x4x256, .f32⟩
  | 107 => ⟨S1x128x4x256, .f32⟩
  | 108 => ⟨S_, .f32⟩
  | 109 => ⟨S1x128x4x256, .f32⟩
  | 110 => ⟨S1x128x4x256, .f32⟩
  | 111 => ⟨S1x128x4x256, .f32⟩
  | 112 => ⟨S_, .f32⟩
  | 113 => ⟨S1x128x4x256, .f32⟩
  | 114 => ⟨S1x128x4x256, .f32⟩
  | 115 => ⟨S_, .f32⟩
  | 116 => ⟨S1024x128, .f32⟩
  | 117 => ⟨S1024x128, .f32⟩
  | 118 => ⟨S_, .f32⟩
  | 119 => ⟨S1024x128, .f32⟩
  | 120 => ⟨S1024x128, .f32⟩
  | 121 => ⟨S1024x128, .f32⟩
  | 122 => ⟨S_, .f32⟩
  | 123 => ⟨S1024x128, .f32⟩
  | 124 => ⟨S1024x128, .f32⟩
  | 125 => ⟨S1024x128, .f32⟩
  | 126 => ⟨S_, .f32⟩
  | 127 => ⟨S1024x128, .f32⟩
  | _ => ⟨S1x128x4x256, .f32⟩

abbrev hbmTy0_1 (i : Nat) : BufTy := match i % 128 with
  | 0 => ⟨S1024x128, .f32⟩
  | 1 => ⟨S1024x128, .f32⟩
  | 2 => ⟨S_, .f32⟩
  | 3 => ⟨S1024x128, .f32⟩
  | 4 => ⟨S1024x128, .f32⟩
  | 5 => ⟨S_, .f32⟩
  | 6 => ⟨S1024x128, .f32⟩
  | 7 => ⟨S1024x128, .f32⟩
  | 8 => ⟨S1024x128, .f32⟩
  | 9 => ⟨S_, .f32⟩
  | 10 => ⟨S1024x128, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S1024x128, .f32⟩
  | 17 => ⟨S_, .f32⟩
  | 18 => ⟨S1024x128, .f32⟩
  | 19 => ⟨S1024x128, .f32⟩
  | _ => ⟨S1x128x4x256, .f32⟩

abbrev hbmTy (i : Nat) : BufTy := match i / 128 with
  | 0 => hbmTy0_0 i
  | 1 => hbmTy0_1 i
  | _ => ⟨S1x128x4x256, .f32⟩

abbrev bufTy : (tb : Table) → Fin (tcTables nBuf tb) → BufTy
  | .hbm, ⟨i, _⟩ => hbmTy i
  | _, _ => ⟨S1x128x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel13.lean ====
abbrev S8x40x1024 : Shape := ⟨3, ![8, 40, 1024]⟩
abbrev S8x24x1024 : Shape := ⟨3, ![8, 24, 1024]⟩
abbrev S8x4x128x128 : Shape := ⟨4, ![8, 4, 128, 128]⟩
abbrev S1x1024 : Shape := ⟨2, ![1, 1024]⟩
abbrev S2x512 : Shape := ⟨2, ![2, 512]⟩
abbrev S4x128 : Shape := ⟨2, ![4, 128]⟩
abbrev S1x512 : Shape := ⟨2, ![1, 512]⟩
abbrev S4x128x128 : Shape := ⟨3, ![4, 128, 128]⟩
abbrev S1x1 : Shape := ⟨2, ![1, 1]⟩
abbrev S40x1024 : Shape := ⟨2, ![40, 1024]⟩
abbrev S24x1024 : Shape := ⟨2, ![24, 1024]⟩
abbrev S1x40x1024 : Shape := ⟨3, ![1, 40, 1024]⟩
abbrev S1x24x1024 : Shape := ⟨3, ![1, 24, 1024]⟩
abbrev S1x4x128x128 : Shape := ⟨4, ![1, 4, 128, 128]⟩

abbrev nBuf : Space → Nat
  | .hbm => 67
  | .vmem => 69
  | .smem => 0
  | _ => 0

abbrev bufTy : (tb : Table) → Fin (tcTables nBuf tb) → BufTy
  | .hbm, ⟨0, _⟩ => ⟨S8x40x1024, .f32⟩
  | .hbm, ⟨1, _⟩ => ⟨S8x24x1024, .f32⟩
  | .hbm, ⟨2, _⟩ => ⟨S8x4x128x128, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2x512, .f32⟩
  | .hbm, ⟨7, _⟩ => ⟨S2x512, .f32⟩
  | .hbm, ⟨8, _⟩ => ⟨S2x512, .f32⟩
  | .hbm, ⟨9, _⟩ => ⟨S4x128, .f32⟩
  | .hbm, ⟨10, _⟩ => ⟨S4x128, .f32⟩
  | .hbm, ⟨11, _⟩ => ⟨S4x128, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S1x1, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S2x512, .f32⟩
  | .hbm, ⟨36, _⟩ => ⟨S2x512, .f32⟩
  | .hbm, ⟨37, _⟩ => ⟨S2x512, .f32⟩
  | .hbm, ⟨38, _⟩ => ⟨S2x512, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S4x128x128, .f32⟩
  | .hbm, ⟨64, _⟩ => ⟨S4x128x128, .f32⟩
  | .hbm, ⟨65, _⟩ => ⟨S4x128x128, .f32⟩
  | .hbm, ⟨66, _⟩ => ⟨S4x128x128, .f32⟩
  | .local _ .vmem, ⟨0, _⟩ => ⟨S8x40x1024, .f32⟩
  | .local _ .vmem, ⟨1, _⟩ => ⟨S8x24x1024, .f32⟩
  | .local _ .vmem, ⟨2, _⟩ => ⟨S8x4x128x128, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S2x512, .f32⟩
  | .local _ .vmem, ⟨7, _⟩ => ⟨S2x512, .f32⟩
  | .local _ .vmem, ⟨8, _⟩ => ⟨S2x512, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S4x128x128, .f32⟩
  | .local _ .vmem, ⟨28, _⟩ => ⟨S4x128x128, .f32⟩
  | .local _ .vmem, ⟨29, _⟩ => ⟨S4x128x128, .f32⟩
  | .local _ .vmem, ⟨30, _⟩ => ⟨S1x1, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S2x512, .f32⟩
  | .local _ .vmem, ⟨36, _⟩ => ⟨S2x512, .f32⟩
  | .local _ .vmem, ⟨37, _⟩ => ⟨S2x512, .f32⟩
  | .local _ .vmem, ⟨38, _⟩ => ⟨S2x512, .f32⟩
  | .local _ .vmem, ⟨39, _⟩ => ⟨S4x128, .f32⟩
  | .local _ .vmem, ⟨40, _⟩ => ⟨S4x128, .f32⟩
  | .local _ .vmem, ⟨41, _⟩ => ⟨S4x128, .f32⟩
  | .local _ .vmem, ⟨42, _⟩ => ⟨S4x128, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S4x128x128, .f32⟩
  | .local _ .vmem, ⟨64, _⟩ => ⟨S4x128x128, .f32⟩
  | .local _ .vmem, ⟨65, _⟩ => ⟨S4x128x128, .f32⟩
  | .local _ .vmem, ⟨66, _⟩ => ⟨S4x128x128, .f32⟩
  | .local _ .vmem, ⟨67, _⟩ => ⟨S40x1024, .f32⟩
  | .local _ .vmem, ⟨68, _⟩ => ⟨S24x1024, .f32⟩
  | _, _ => ⟨S8x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0_0 : Ref sig .tc := ⟨.hbm, 30, rfl⟩
abbrev main_v0_1 : Ref sig .tc := ⟨.hbm, 31, rfl⟩
abbrev main_v0_2 : Ref sig .tc := ⟨.hbm, 32, rfl⟩
abbrev main_v0_3 : Ref sig .tc := ⟨.hbm, 33, rfl⟩
abbrev main_v0_4 : Ref sig .tc := ⟨.hbm, 34, rfl⟩
abbrev main_v0_5 : Ref sig .tc := ⟨.hbm, 35, rfl⟩
abbrev main_v0_6 : Ref sig .tc := ⟨.hbm, 36, rfl⟩
abbrev main_v0_7 : Ref sig .tc := ⟨.hbm, 37, rfl⟩
abbrev main_v0_8 : Ref sig .tc := ⟨.hbm, 38, rfl⟩
abbrev main_v0_9 : Ref sig .tc := ⟨.hbm, 39, rfl⟩
abbrev main_v0_10 : Ref sig .tc := ⟨.hbm, 40, rfl⟩
abbrev main_v0_11 : Ref sig .tc := ⟨.hbm, 41, rfl⟩
abbrev main_v0_12 : Ref sig .tc := ⟨.hbm, 42, rfl⟩
abbrev main_v0_13 : Ref sig .tc := ⟨.hbm, 43, rfl⟩
abbrev main_v0_14 : Ref sig .tc := ⟨.hbm, 44, rfl⟩
abbrev main_v0_15 : Ref sig .tc := ⟨.hbm, 45, rfl⟩
abbrev main_v0_16 : Ref sig .tc := ⟨.hbm, 46, rfl⟩
abbrev main_v0_17 : Ref sig .tc := ⟨.hbm, 47, rfl⟩
abbrev main_v0_18 : Ref sig .tc := ⟨.hbm, 48, rfl⟩
abbrev main_v0_19 : Ref sig .tc := ⟨.hbm, 49, rfl⟩
abbrev main_v0_20 : Ref sig .tc := ⟨.hbm, 50, rfl⟩
abbrev main_v0_21 : Ref sig .tc := ⟨.hbm, 51, rfl⟩
abbrev main_v0_22 : Ref sig .tc := ⟨.hbm, 52, rfl⟩
abbrev main_v0_23 : Ref sig .tc := ⟨.hbm, 53, rfl⟩
abbrev main_v0_24 : Ref sig .tc := ⟨.hbm, 54, rfl⟩
abbrev main_v0_25 : Ref sig .tc := ⟨.hbm, 55, rfl⟩
abbrev main_v0_26 : Ref sig .tc := ⟨.hbm, 56, rfl⟩
abbrev main_v0_27 : Ref sig .tc := ⟨.hbm, 57, rfl⟩
abbrev main_v0_28 : Ref sig .tc := ⟨.hbm, 58, rfl⟩
abbrev main_v0_29 : Ref sig .tc := ⟨.hbm, 59, rfl⟩
abbrev main_v0_30 : Ref sig .tc := ⟨.hbm, 60, rfl⟩
abbrev main_v0_31 : Ref sig .tc := ⟨.hbm, 61, rfl⟩
abbrev main_v0_32 : Ref sig .tc := ⟨.hbm, 62, rfl⟩
abbrev main_v0_33 : Ref sig .tc := ⟨.hbm, 63, rfl⟩
abbrev main_v0_34 : Ref sig .tc := ⟨.hbm, 64, rfl⟩
abbrev main_v0_35 : Ref sig .tc := ⟨.hbm, 65, rfl⟩
abbrev main_v0_36 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_scratch0 : Ref sig .tc := ⟨.vmem, 67, rfl⟩
abbrev cc0_scratch1 : Ref sig .tc := ⟨.vmem, 68, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66

abbrev nD : Nat := 1
abbrev τ : Topo := Topo.v7x

variable {F : FTy → Type} [FloatOps F]

abbrev grid0 : Pipeline.Grid := .none

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S4x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S4x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x512 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x512 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S4x128x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S4x128x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S4x128x128 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S4x128x128 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))
-- ==== Reference13Ideal.lean ====
abbrev S8x40x1024 : Shape := ⟨3, ![8, 40, 1024]⟩
abbrev S8x24x1024 : Shape := ⟨3, ![8, 24, 1024]⟩
abbrev S8x4x128x128 : Shape := ⟨4, ![8, 4, 128, 128]⟩
abbrev S1x1024 : Shape := ⟨2, ![1, 1024]⟩
abbrev S2x512 : Shape := ⟨2, ![2, 512]⟩
abbrev S4x128 : Shape := ⟨2, ![4, 128]⟩
abbrev S1x512 : Shape := ⟨2, ![1, 512]⟩
abbrev S4x128x128 : Shape := ⟨3, ![4, 128, 128]⟩
abbrev S_ : Shape := ⟨0, ![]⟩
abbrev S40x1024 : Shape := ⟨2, ![40, 1024]⟩
abbrev S24x1024 : Shape := ⟨2, ![24, 1024]⟩
abbrev S1x1 : Shape := ⟨2, ![1, 1]⟩

abbrev nBuf : Space → Nat
  | .hbm => 342
  | .vmem => 0
  | .smem => 0
  | _ => 0

abbrev hbmTy0_0 (i : Nat) : BufTy := match i % 128 with
  | 0 => ⟨S8x40x1024, .f32⟩
  | 1 => ⟨S8x24x1024, .f32⟩
  | 2 => ⟨S8x4x128x128, .f32⟩
  | 3 => ⟨S1x1024, .f32⟩
  | 4 => ⟨S1x1024, .f32⟩
  | 5 => ⟨S1x1024, .f32⟩
  | 6 => ⟨S2x512, .f32⟩
  | 7 => ⟨S2x512, .f32⟩
  | 8 => ⟨S2x512, .f32⟩
  | 9 => ⟨S4x128, .f32⟩
  | 10 => ⟨S4x128, .f32⟩
  | 11 => ⟨S4x128, .f32⟩
  | 12 => ⟨S1x512, .f32⟩
  | 13 => ⟨S1x512, .f32⟩
  | 14 => ⟨S1x512, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S4x128x128, .f32⟩
  | 28 => ⟨S4x128x128, .f32⟩
  | 29 => ⟨S4x128x128, .f32⟩
  | 30 => ⟨S_, .f32⟩
  | 31 => ⟨S40x1024, .f32⟩
  | 32 => ⟨S_, .f32⟩
  | 33 => ⟨S24x1024, .f32⟩
  | 34 => ⟨S1x1024, .f32⟩
  | 35 => ⟨S1x1024, .f32⟩
  | 36 => ⟨S1x1024, .f32⟩
  | 37 => ⟨S1x1024, .f32⟩
  | 38 => ⟨S1x512, .f32⟩
  | 39 => ⟨S1x1024, .f32⟩
  | 40 => ⟨S2x512, .f32⟩
  | 41 => ⟨S4x128, .f32⟩
  | 42 => ⟨S_, .f32⟩
  | 43 => ⟨S4x128x128, .f32⟩
  | 44 => ⟨S1x1, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S_, .f32⟩
  | 79 => ⟨S2x512, .f32⟩
  | 80 => ⟨S2x512, .f32⟩
  | 81 => ⟨S_, .f32⟩
  | 82 => ⟨S2x512, .f32⟩
  | 83 => ⟨S2x512, .f32⟩
  | 84 => ⟨S2x512, .f32⟩
  | 85 => ⟨S_, .f32⟩
  | 86 => ⟨S2x512, .f32⟩
  | 87 => ⟨S2x512, .f32⟩
  | 88 => ⟨S2x512, .f32⟩
  | 89 => ⟨S_, .f32⟩
  | 90 => ⟨S2x512, .f32⟩
  | 91 => ⟨S2x512, .f32⟩
  | 92 => ⟨S2x512, .f32⟩
  | 93 => ⟨S_, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S2x512, .f32⟩
  | 104 => ⟨S_, .f32⟩
  | 105 => ⟨S2x512, .f32⟩
  | 106 => ⟨S2x512, .f32⟩
  | 107 => ⟨S2x512, .f32⟩
  | 108 => ⟨S_, .f32⟩
  | 109 => ⟨S2x512, .f32⟩
  | 110 => ⟨S2x512, .f32⟩
  | 111 => ⟨S_, .f32⟩
  | 112 => ⟨S4x128, .f32⟩
  | 113 => ⟨S4x128, .f32⟩
  | 114 => ⟨S_, .f32⟩
  | 115 => ⟨S4x128, .f32⟩
  | 116 => ⟨S4x128, .f32⟩
  | 117 => ⟨S4x128, .f32⟩
  | 118 => ⟨S_, .f32⟩
  | 119 => ⟨S4x128, .f32⟩
  | 120 => ⟨S4x128, .f32⟩
  | 121 => ⟨S4x128, .f32⟩
  | 122 => ⟨S_, .f32⟩
  | 123 => ⟨S4x128, .f32⟩
  | 124 => ⟨S4x128, .f32⟩
  | 125 => ⟨S4x128, .f32⟩
  | 126 => ⟨S_, .f32⟩
  | 127 => ⟨S4x128, .f32⟩
  | _ => ⟨S8x40x1024, .f32⟩

abbrev hbmTy0_1 (i : Nat) : BufTy := match i % 128 with
  | 0 => ⟨S4x128, .f32⟩
  | 1 => ⟨S_, .f32⟩
  | 2 => ⟨S4x128, .f32⟩
  | 3 => ⟨S4x128, .f32⟩
  | 4 => ⟨S4x128, .f32⟩
  | 5 => ⟨S_, .f32⟩
  | 6 => ⟨S4x128, .f32⟩
  | 7 => ⟨S4x128, .f32⟩
  | 8 => ⟨S4x128, .f32⟩
  | 9 => ⟨S_, .f32⟩
  | 10 => ⟨S4x128, .f32⟩
  | 11 => ⟨S4x128, .f32⟩
  | 12 => ⟨S4x128, .f32⟩
  | 13 => ⟨S_, .f32⟩
  | 14 => ⟨S4x128, .f32⟩
  | 15 => ⟨S4x128, .f32⟩
  | 16 => ⟨S_, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x40x1024, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S_, .f32⟩
  | 54 => ⟨S4x128x128, .f32⟩
  | 55 => ⟨S4x128x128, .f32⟩
  | 56 => ⟨S_, .f32⟩
  | 57 => ⟨S4x128x128, .f32⟩
  | 58 => ⟨S4x128x128, .f32⟩
  | 59 => ⟨S4x128x128, .f32⟩
  | 60 => ⟨S_, .f32⟩
  | 61 => ⟨S4x128x128, .f32⟩
  | 62 => ⟨S4x128x128, .f32⟩
  | 63 => ⟨S4x128x128, .f32⟩
  | 64 => ⟨S_, .f32⟩
  | 65 => ⟨S4x128x128, .f32⟩
  | 66 => ⟨S4x128x128, .f32⟩
  | 67 => ⟨S4x128x128, .f32⟩
  | 68 => ⟨S_, .f32⟩
  | 69 => ⟨S4x128x128, .f32⟩
  | 70 => ⟨S4x128x128, .f32⟩
  | 71 => ⟨S_, .f32⟩
  | 72 => ⟨S4x128x128, .f32⟩
  | 73 => ⟨S4x128x128, .f32⟩
  | 74 => ⟨S4x128x128, .f32⟩
  | 75 => ⟨S_, .f32⟩
  | 76 => ⟨S4x128x128, .f32⟩
  | 77 => ⟨S4x128x128, .f32⟩
  | 78 => ⟨S4x128x128, .f32⟩
  | 79 => ⟨S_, .f32⟩
  | 80 => ⟨S4x128x128, .f32⟩
  | 81 => ⟨S4x128x128, .f32⟩
  | 82 => ⟨S4x128x128, .f32⟩
  | 83 => ⟨S_, .f32⟩
  | 84 => ⟨S4x128x128, .f32⟩
  | 85 => ⟨S4x128x128, .f32⟩
  | _ => ⟨S8x40x1024, .f32⟩

abbrev hbmTy (i : Nat) : BufTy := match i / 128 with
  | 0 => hbmTy0_0 i
  | 1 => hbmTy0_1 i
  | 2 => hbmTy0_2 i
  | _ => ⟨S8x40x1024, .f32⟩

abbrev bufTy : (tb : Table) → Fin (tcTables nBuf tb) → BufTy
  | .hbm, ⟨i, _⟩ => hbmTy i
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_cst_3 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_4 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_5 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_6 : Ref sig .tc := ⟨.hbm, 60, rfl⟩
abbrev main_v23 : Ref sig .tc := ⟨.hbm, 61, rfl⟩
abbrev main_v24 : Ref sig .tc := ⟨.hbm, 62, rfl⟩
abbrev main_cst_7 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_8 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_9 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_10 : Ref sig .tc := ⟨.hbm, 75, rfl⟩
abbrev main_v34 : Ref sig .tc := ⟨.hbm, 76, rfl⟩
abbrev main_v35 : Ref sig .tc := ⟨.hbm, 77, rfl⟩
abbrev main_cst_11 : Ref sig .tc := ⟨.hbm, 78, rfl⟩
abbrev main_v36 : Ref sig .tc := ⟨.hbm, 79, rfl⟩
abbrev main_v37 : Ref sig .tc := ⟨.hbm, 80, rfl⟩
abbrev main_cst_12 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_13 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_14 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_15 : Ref sig .tc := ⟨.hbm, 93, rfl⟩
abbrev main_v47 : Ref sig .tc := ⟨.hbm, 94, rfl⟩
abbrev main_v48 : Ref sig .tc := ⟨.hbm, 95, rfl⟩
abbrev main_cst_16 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_17 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_18 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_19 : Ref sig .tc := ⟨.hbm, 108, rfl⟩
abbrev main_v58 : Ref sig .tc := ⟨.hbm, 109, rfl⟩
abbrev main_v59 : Ref sig .tc := ⟨.hbm, 110, rfl⟩
abbrev main_cst_20 : Ref sig .tc := ⟨.hbm, 111, rfl⟩
abbrev main_v60 : Ref sig .tc := ⟨.hbm, 112, rfl⟩
abbrev main_v61 : Ref sig .tc := ⟨.hbm, 113, rfl⟩
abbrev main_cst_21 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_22 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_23 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_24 : Ref sig .tc := ⟨.hbm, 126, rfl⟩
abbrev main_v71 : Ref sig .tc := ⟨.hbm, 127, rfl⟩
abbrev main_v72 : Ref sig .tc := ⟨.hbm, 128, rfl⟩
abbrev main_cst_25 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_26 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_27 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_28 : Ref sig .tc := ⟨.hbm, 141, rfl⟩
abbrev main_v82 : Ref sig .tc := ⟨.hbm, 142, rfl⟩
abbrev main_v83 : Ref sig .tc := ⟨.hbm, 143, rfl⟩
abbrev main_cst_29 : Ref sig .tc := ⟨.hbm, 144, rfl⟩
abbrev main_v84 : Ref sig .tc := ⟨.hbm, 145, rfl⟩
abbrev main_v85 : Ref sig .tc := ⟨.hbm, 146, rfl⟩
abbrev main_cst_30 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_31 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_32 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_33 : Ref sig .tc := ⟨.hbm, 159, rfl⟩
abbrev main_v95 : Ref sig .tc := ⟨.hbm, 160, rfl⟩
abbrev main_v96 : Ref sig .tc := ⟨.hbm, 161, rfl⟩
abbrev main_cst_34 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_35 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_36 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_37 : Ref sig .tc := ⟨.hbm, 174, rfl⟩
abbrev main_v106 : Ref sig .tc := ⟨.hbm, 175, rfl⟩
abbrev main_v107 : Ref sig .tc := ⟨.hbm, 176, rfl⟩
abbrev main_cst_38 : Ref sig .tc := ⟨.hbm, 177, rfl⟩
abbrev main_v108 : Ref sig .tc := ⟨.hbm, 178, rfl⟩
abbrev main_v109 : Ref sig .tc := ⟨.hbm, 179, rfl⟩
abbrev main_cst_39 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_40 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_cst_41 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_42 : Ref sig .tc := ⟨.hbm, 192, rfl⟩
abbrev main_v119 : Ref sig .tc := ⟨.hbm, 193, rfl⟩
abbrev main_v120 : Ref sig .tc := ⟨.hbm, 194, rfl⟩
abbrev main_cst_43 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_cst_44 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_cst_45 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_cst_46 : Ref sig .tc := ⟨.hbm, 207, rfl⟩
abbrev main_v130 : Ref sig .tc := ⟨.hbm, 208, rfl⟩
abbrev main_v131 : Ref sig .tc := ⟨.hbm, 209, rfl⟩
abbrev main_cst_47 : Ref sig .tc := ⟨.hbm, 210, rfl⟩
abbrev main_v132 : Ref sig .tc := ⟨.hbm, 211, rfl⟩
abbrev main_v133 : Ref sig .tc := ⟨.hbm, 212, rfl⟩
abbrev main_cst_48 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_49 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_cst_50 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_51 : Ref sig .tc := ⟨.hbm, 225, rfl⟩
abbrev main_v143 : Ref sig .tc := ⟨.hbm, 226, rfl⟩
abbrev main_v144 : Ref sig .tc := ⟨.hbm, 227, rfl⟩
abbrev main_cst_52 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_cst_53 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_54 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_55 : Ref sig .tc := ⟨.hbm, 240, rfl⟩
abbrev main_v154 : Ref sig .tc := ⟨.hbm, 241, rfl⟩
abbrev main_v155 : Ref sig .tc := ⟨.hbm, 242, rfl⟩
abbrev main_cst_56 : Ref sig .tc := ⟨.hbm, 243, rfl⟩
abbrev main_v156 : Ref sig .tc := ⟨.hbm, 244, rfl⟩
abbrev main_v157 : Ref sig .tc := ⟨.hbm, 245, rfl⟩
abbrev main_cst_57 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_cst_58 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_cst_59 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_cst_60 : Ref sig .tc := ⟨.hbm, 258, rfl⟩
abbrev main_v167 : Ref sig .tc := ⟨.hbm, 259, rfl⟩
abbrev main_v168 : Ref sig .tc := ⟨.hbm, 260, rfl⟩
abbrev main_cst_61 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_cst_62 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_cst_63 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_cst_64 : Ref sig .tc := ⟨.hbm, 273, rfl⟩
abbrev main_v178 : Ref sig .tc := ⟨.hbm, 274, rfl⟩
abbrev main_v179 : Ref sig .tc := ⟨.hbm, 275, rfl⟩
abbrev main_cst_65 : Ref sig .tc := ⟨.hbm, 276, rfl⟩
abbrev main_v180 : Ref sig .tc := ⟨.hbm, 277, rfl⟩
abbrev main_v181 : Ref sig .tc := ⟨.hbm, 278, rfl⟩
abbrev main_cst_66 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_cst_67 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_cst_68 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_cst_69 : Ref sig .tc := ⟨.hbm, 291, rfl⟩
abbrev main_v191 : Ref sig .tc := ⟨.hbm, 292, rfl⟩
abbrev main_v192 : Ref sig .tc := ⟨.hbm, 293, rfl⟩
abbrev main_cst_70 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_cst_71 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_cst_72 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_cst_73 : Ref sig .tc := ⟨.hbm, 306, rfl⟩
abbrev main_v202 : Ref sig .tc := ⟨.hbm, 307, rfl⟩
abbrev main_v203 : Ref sig .tc := ⟨.hbm, 308, rfl⟩
abbrev main_cst_74 : Ref sig .tc := ⟨.hbm, 309, rfl⟩
abbrev main_v204 : Ref sig .tc := ⟨.hbm, 310, rfl⟩
abbrev main_v205 : Ref sig .tc := ⟨.hbm, 311, rfl⟩
abbrev main_cst_75 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_cst_76 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_cst_77 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_78 : Ref sig .tc := ⟨.hbm, 324, rfl⟩
abbrev main_v215 : Ref sig .tc := ⟨.hbm, 325, rfl⟩
abbrev main_v216 : Ref sig .tc := ⟨.hbm, 326, rfl⟩
abbrev main_cst_79 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_cst_80 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_cst_81 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_cst_82 : Ref sig .tc := ⟨.hbm, 339, rfl⟩
abbrev main_v226 : Ref sig .tc := ⟨.hbm, 340, rfl⟩
abbrev main_v227 : Ref sig .tc := ⟨.hbm, 341, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1024x2560 : Shape := ⟨2, ![1024, 2560]⟩
abbrev S2560x1024 : Shape := ⟨2, ![2560, 1024]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S2560x1024, .f32⟩
  | .hbm, ⟨4, _⟩ => ⟨S2560x1024, .bf16⟩
  | .hbm, ⟨5, _⟩ => ⟨S4096x2560, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x1024 : Shape := ⟨2, ![4096, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2560, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1 : Shape := ⟨1, ![1]⟩
abbrev S1x1 : Shape := ⟨2, ![1, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4096, .bf16⟩
  | .hbm, ⟨13, _⟩ => ⟨S4096x1024, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x4096, .bf16⟩
  | .local _ .vmem, ⟨13, _⟩ => ⟨S512x4096, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference17Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S6x1024 : Shape := ⟨2, ![6, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S6x1024, .f32⟩
  | .hbm, ⟨103, _⟩ => ⟨S8x1024, .f32⟩
  | .hbm, ⟨104, _⟩ => ⟨S4096x1024, .bf16⟩
  | .hbm, ⟨105, _⟩ => ⟨S4096x4096, .bf16⟩
  | .hbm, ⟨106, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Kernel18.lean ====
abbrev S256x1024 : Shape := ⟨2, ![256, 1024]⟩
abbrev S1x1024 : Shape := ⟨2, ![1, 1024]⟩
abbrev S1024x4x256 : Shape := ⟨3, ![1024, 4, 256]⟩
abbrev S1024x1024 : Shape := ⟨2, ![1024, 1024]⟩
abbrev S256 : Shape := ⟨1, ![256]⟩
abbrev S256x1 : Shape := ⟨2, ![256, 1]⟩

abbrev nBuf : Space → Nat
  | .hbm => 11
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x4x256, .f32⟩
  | .hbm, ⟨3, _⟩ => ⟨S1024x4x256, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference18Ideal.lean ====
abbrev S256x1024 : Shape := ⟨2, ![256, 1024]⟩
abbrev S1x1024 : Shape := ⟨2, ![1, 1024]⟩
abbrev S1024x4x256 : Shape := ⟨3, ![1024, 4, 256]⟩
abbrev S1024 : Shape := ⟨1, ![1024]⟩
abbrev S_ : Shape := ⟨0, ![]⟩
abbrev S256 : Shape := ⟨1, ![256]⟩
abbrev S256x1 : Shape := ⟨2, ![256, 1]⟩
abbrev S256x4x256 : Shape := ⟨3, ![256, 4, 256]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x4x256, .f32⟩
  | .hbm, ⟨3, _⟩ => ⟨S1024x4x256, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x4x256, .f32⟩
  | .hbm, ⟨22, _⟩ => ⟨S256x4x256, .f32⟩
  | .hbm, ⟨23, _⟩ => ⟨S1024, .f32⟩
  | .hbm, ⟨24, _⟩ => ⟨S256x1024, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S256x1024, .bf16⟩
  | .hbm, ⟨41, _⟩ => ⟨S256x1024, .f32⟩
  | .hbm, ⟨42, _⟩ => ⟨S256x1024, .bf16⟩
  | .hbm, ⟨43, _⟩ => ⟨S256x1024, .f32⟩
  | .hbm, ⟨44, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel19.lean ====
abbrev S256x1024 : Shape := ⟨2, ![256, 1024]⟩
abbrev S1x1024 : Shape := ⟨2, ![1, 1024]⟩
abbrev S1024x4x256 : Shape := ⟨3, ![1024, 4, 256]⟩
abbrev S1024 : Shape := ⟨1, ![1024]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S8x1024 : Shape := ⟨2, ![8, 1024]⟩

abbrev nBuf : Space → Nat
  | .hbm => 31
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1024x4x256, .f32⟩
  | .hbm, ⟨5, _⟩ => ⟨S1024x4x256, .f32⟩
  | .hbm, ⟨6, _⟩ => ⟨S1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .f32⟩
  | .local _ .vmem, ⟨4, _⟩ => ⟨S256x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference19Ideal.lean ====
abbrev S256x1024 : Shape := ⟨2, ![256, 1024]⟩
abbrev S1x1024 : Shape := ⟨2, ![1, 1024]⟩
abbrev S1024x4x256 : Shape := ⟨3, ![1024, 4, 256]⟩
abbrev S1024 : Shape := ⟨1, ![1024]⟩
abbrev S_ : Shape := ⟨0, ![]⟩
abbrev S256 : Shape := ⟨1, ![256]⟩
abbrev S256x1 : Shape := ⟨2, ![256, 1]⟩
abbrev S256x4x256 : Shape := ⟨3, ![256, 4, 256]⟩
abbrev S4x256x1024 : Shape := ⟨3, ![4, 256, 1024]⟩
abbrev S1024x1024 : Shape := ⟨2, ![1024, 1024]⟩
abbrev S8x1024 : Shape := ⟨2, ![8, 1024]⟩

abbrev nBuf : Space → Nat
  | .hbm => 48
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1024x4x256, .f32⟩
  | .hbm, ⟨5, _⟩ => ⟨S1024x4x256, .f32⟩
  | .hbm, ⟨6, _⟩ => ⟨S1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x4x256, .f32⟩
  | .hbm, ⟨24, _⟩ => ⟨S256x4x256, .f32⟩
  | .hbm, ⟨25, _⟩ => ⟨S256x4x256, .f32⟩
  | .hbm, ⟨26, _⟩ => ⟨S256x4x256, .f32⟩
  | .hbm, ⟨27, _⟩ => ⟨S4x256x1024, .f32⟩
  | .hbm, ⟨28, _⟩ => ⟨S1024x4x256, .f32⟩
  | .hbm, ⟨29, _⟩ => ⟨S256x1024, .f32⟩
  | .hbm, ⟨30, _⟩ => ⟨S4x256x1024, .f32⟩
  | .hbm, ⟨31, _⟩ => ⟨S1024x4x256, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1024x1024, .f32⟩
  | .hbm, ⟨41, _⟩ => ⟨S1024x1024, .bf16⟩
  | .hbm, ⟨42, _⟩ => ⟨S1024x1024, .f32⟩
  | .hbm, ⟨43, _⟩ => ⟨S1024x1024, .bf16⟩
  | .hbm, ⟨44, _⟩ => ⟨S1x1024, .f32⟩
  | .hbm, ⟨45, _⟩ => ⟨S_, .i32⟩
  | .hbm, ⟨46, _⟩ => ⟨S_, .f32⟩
  | .hbm, ⟨47, _⟩ => ⟨S8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Slot.lean ====
module
public import Idealize.ShloMosaic.Lib.Pipeline.ValueKit
public import Idealize.ShloMosaic.Lib.Pointwise
public import Idealize.ShloMosaic.Lib.Pipeline.ReadBack
public import Idealize.ShloMosaic.Lib.WritesUnit
/-! The slot of a gain's gradient: eight rows of which each point writes the first. -/
@[expose] public section
open Idealize.ShloMosaic Idealize.SL.Sem
namespace Cert.Slot

/-- What the first row's store leaves: the stored row there, below it what was there before. -/
theorem row_writes {sig : RefSig} {κ : Kind} {sp : Space} (v : View sig κ sp ⟨2, ![8, 1024]⟩ .f32) (f : v.ty.Contents (Elt Ideal))
    (i) (p : Vec Ideal ⟨2, ![1, 1024]⟩ .f32) (L : List (View.Piece (Elt Ideal) ⟨2, ![8, 1024]⟩ .f32)) (j : Shape.Idx ⟨2, ![8, 1024]⟩) :
    v.read (Elt Ideal) (v.writes (Elt Ideal) f (⟨Rect.unit ![0, 0] ![1, 1024] i, p⟩ :: L)) j
      = if (j 0 : ℕ) = 0 then p (ix2 0 (j 1)) else v.read (Elt Ideal) (v.writes (Elt Ideal) f L) j := by
  split
  · next h => exact View.read_writes_cons_unit_of_mem v f i p L j (ix2 0 (j 1)) rfl (Fin.forall_fin_two.mpr ⟨h, (Nat.zero_add _).symm⟩)
  · next h => exact View.read_writes_cons_unit_of_not_mem v f i p L j rfl (0 : Fin 2) (Or.inr (by show 0 + 1 ≤ (j 0 : ℕ); omega))

/-- What a store of all rows leaves. -/
theorem all_writes {sig : RefSig} {κ : Kind} {sp : Space} (v : View sig κ sp ⟨2, ![8, 1024]⟩ .f32) (f : v.ty.Contents (Elt Ideal))
    (i) (p : Vec Ideal ⟨2, ![8, 1024]⟩ .f32) (L : List (View.Piece (Elt Ideal) ⟨2, ![8, 1024]⟩ .f32)) (j : Shape.Idx ⟨2, ![8, 1024]⟩) :
    v.read (Elt Ideal) (v.writes (Elt Ideal) f (⟨Rect.unit ![0, 0] ![8, 1024] i, p⟩ :: L)) j = p j :=
  View.read_writes_cons_unit_of_mem v f i p L j j rfl (Fin.forall_fin_two.mpr ⟨(Nat.zero_add _).symm, (Nat.zero_add _).symm⟩)

/-- An element the first row holds, read in the first row. -/
theorem first (j : Shape.Idx ⟨2, ![8, 1024]⟩) (h : (j 0 : ℕ) = 0) : j = ix2 0 (j 1) := by
  funext a
  fin_cases a
  · exact Fin.ext h
  · rfl

theorem run_sum {N : ℕ} (T M : ℕ) (f : Fin M → EReal) (a : (k : ℕ) → k < N → EReal) (lt : ∀ k, k < N → ∀ r : Fin T, T * k + r.val < M)
    (h0 : ∀ h, a 0 h = ∑ r : Fin T, f ⟨T * 0 + r.val, lt 0 h r⟩)
    (hs : ∀ k h, k ≠ 0 → a k h = a (k - 1) (Nat.lt_of_le_of_lt (Nat.sub_le _ _) h) + ∑ r : Fin T, f ⟨T * k + r.val, lt k h r⟩) :
    ∀ k h, a k h = ∑ s ∈ Finset.range (T * (k + 1)), (if e : s < M then f ⟨s, e⟩ else 0) := by
  have step : ∀ k (h : k < N), (∑ r : Fin T, f ⟨T * k + r.val, lt k h r⟩) = ∑ s ∈ Finset.range T, (if e : T * k + s < M then f ⟨T * k + s, e⟩ else 0) := by
    intro k h
    rw [Finset.sum_range]
    exact Finset.sum_congr rfl fun r _ => by rw [dif_pos (lt k h r)]
  intro k
  induction k with
  | zero =>
    intro h
    rw [h0, step 0 h]
    simp
  | succ n ih =>
    intro h
    rw [hs (n + 1) h (Nat.succ_ne_zero n), step (n + 1) h, show T * (n + 1 + 1) = T * (n + 1) + T from Nat.mul_succ _ _, Finset.sum_range_add]
    exact congrArg (· + _) (ih _)

/-- Points that each add the sum over the next `T` rows to what the one before left add up the sum over all rows. -/
theorem total {N : ℕ} (T M : ℕ) (f : Fin M → EReal) (a : (k : ℕ) → k < N → EReal) (lt : ∀ k, k < N → ∀ r : Fin T, T * k + r.val < M)
    (h0 : ∀ h, a 0 h = ∑ r : Fin T, f ⟨T * 0 + r.val, lt 0 h r⟩)
    (hs : ∀ k h, k ≠ 0 → a k h = a (k - 1) (Nat.lt_of_le_of_lt (Nat.sub_le _ _) h) + ∑ r : Fin T, f ⟨T * k + r.val, lt k h r⟩)
    (k : ℕ) (h : k < N) (e : T * (k + 1) = M) : a k h = ∑ s : Fin M, f s := by
  rw [run_sum T M f a lt h0 hs k h, e, Finset.sum_range]
  exact Finset.sum_congr rfl fun s _ => by rw [dif_pos s.isLt]

/-- The integer zero, converted. -/
theorem zero_int : FloatOps.sitofp (F := Ideal) (w := 32) .f32 0#32 = 0 := by
  show (((0#32 : BitVec 32).toInt : ℝ) : EReal) = 0
  simp
end Cert.Slot
-- ==== Proof.Cols.lean ====
module
public import Idealize.ShloMosaic.Lib.Pipeline.ValueKit
public import Idealize.ShloMosaic.Lib.Pointwise
public import Idealize.ShloMosaic.Lib.Pipeline.ReadBack
public import Idealize.ShloMosaic.Lib.WritesUnit
/-! Blocks of columns: eight stores that each fill 512 of 4096 columns, and sums over 4096 columns taken by blocks. -/
@[expose] public section
open Idealize.ShloMosaic Idealize.SL.Sem
namespace Cert.Cols

theorem col_lt (q : Fin 8) (k : Fin 512) : 512 * q.val + k.val < 4096 := by omega
/-- The column `k` of block `q`. -/
abbrev col (q : Fin 8) (k : Fin 512) : Fin 4096 := ⟨512 * q.val + k.val, col_lt q k⟩

/-- What the store of one block leaves in that block. -/
theorem hit {φ : EltTy} {n : ℕ} {sig : RefSig} {κ : Kind} {sp : Space} (v : View sig κ sp ⟨2, ![n, 4096]⟩ φ) (f : v.ty.Contents (Elt Ideal)) (o : ℕ)
    (i) (p : Vec Ideal ⟨2, ![n, 512]⟩ φ) (L : List (View.Piece (Elt Ideal) ⟨2, ![n, 4096]⟩ φ)) (r : Fin n) (k : Fin 512) (c : Fin 4096) (h : c.val = o + k.val) :
    v.read (Elt Ideal) (v.writes (Elt Ideal) f (⟨Rect.unit ![0, o] ![n, 512] i, p⟩ :: L)) (ix2 r c) = p (ix2 r k) :=
  View.read_writes_cons_unit_of_mem v f i p L (ix2 r c) (ix2 r k) rfl (Fin.forall_fin_two.mpr ⟨(Nat.zero_add _).symm, h⟩)

/-- What it leaves elsewhere. -/
theorem miss {φ : EltTy} {n : ℕ} {sig : RefSig} {κ : Kind} {sp : Space} (v : View sig κ sp ⟨2, ![n, 4096]⟩ φ) (f : v.ty.Contents (Elt Ideal)) (o : ℕ)
    (i) (p : Vec Ideal ⟨2, ![n, 512]⟩ φ) (L : List (View.Piece (Elt Ideal) ⟨2, ![n, 4096]⟩ φ)) (r : Fin n) (c : Fin 4096) (h : c.val < o ∨ o + 512 ≤ c.val) :
    v.read (Elt Ideal) (v.writes (Elt Ideal) f (⟨Rect.unit ![0, o] ![n, 512] i, p⟩ :: L)) (ix2 r c) = v.read (Elt Ideal) (v.writes (Elt Ideal) f L) (ix2 r c) :=
  View.read_writes_cons_unit_of_not_mem v f i p L (ix2 r c) rfl (1 : Fin 2) h

/-- Eight stores, the last first in the list, leave at a column of block `q` what the store of that block holds. -/
theorem eight {φ : EltTy} {n : ℕ} {sig : RefSig} {κ : Kind} {sp : Space} (v : View sig κ sp ⟨2, ![n, 4096]⟩ φ) (f : v.ty.Contents (Elt Ideal))
    (i0 i1 i2 i3 i4 i5 i6 i7) (p0 p1 p2 p3 p4 p5 p6 p7 : Vec Ideal ⟨2, ![n, 512]⟩ φ) (r : Fin n) (q : Fin 8) (k : Fin 512) :
    v.read (Elt Ideal) (v.writes (Elt Ideal) f [⟨Rect.unit ![0, 3584] ![n, 512] i7, p7⟩, ⟨Rect.unit ![0, 3072] ![n, 512] i6, p6⟩, ⟨Rect.unit ![0, 2560] ![n, 512] i5, p5⟩,
      ⟨Rect.unit ![0, 2048] ![n, 512] i4, p4⟩, ⟨Rect.unit ![0, 1536] ![n, 512] i3, p3⟩, ⟨Rect.unit ![0, 1024] ![n, 512] i2, p2⟩, ⟨Rect.unit ![0, 512] ![n, 512] i1, p1⟩,
      ⟨Rect.unit ![0, 0] ![n, 512] i0, p0⟩]) (ix2 r (col q k)) = (![p0, p1, p2, p3, p4, p5, p6, p7] q) (ix2 r k) := by
  have hk := k.isLt
  have lo (o : ℕ) (h : 512 * q.val + 512 ≤ o) : (col q k).val < o ∨ o + 512 ≤ (col q k).val := Or.inl (by show 512 * q.val + k.val < o; omega)
  by_cases h7 : q = 7
  · subst h7; exact hit v f 3584 i7 p7 _ r k _ rfl
  refine (miss v f 3584 i7 p7 _ r _ (lo _ (by omega))).trans ?_
  by_cases h6 : q = 6
  · subst h6; exact hit v f 3072 i6 p6 _ r k _ rfl
  refine (miss v f 3072 i6 p6 _ r _ (lo _ (by omega))).trans ?_
  by_cases h5 : q = 5
  · subst h5; exact hit v f 2560 i5 p5 _ r k _ rfl
  refine (miss v f 2560 i5 p5 _ r _ (lo _ (by omega))).trans ?_
  by_cases h4 : q = 4
  · subst h4; exact hit v f 2048 i4 p4 _ r k _ rfl
  refine (miss v f 2048 i4 p4 _ r _ (lo _ (by omega))).trans ?_
  by_cases h3 : q = 3
  · subst h3; exact hit v f 1536 i3 p3 _ r k _ rfl
  refine (miss v f 1536 i3 p3 _ r _ (lo _ (by omega))).trans ?_
  by_cases h2 : q = 2
  · subst h2; exact hit v f 1024 i2 p2 _ r k _ rfl
  refine (miss v f 1024 i2 p2 _ r _ (lo _ (by omega))).trans ?_
  by_cases h1 : q = 1
  · subst h1; exact hit v f 512 i1 p1 _ r k _ rfl
  refine (miss v f 512 i1 p1 _ r _ (lo _ (by omega))).trans ?_
  have h0 : q = 0 := by omega
  subst h0
  exact hit v f 0 i0 p0 _ r k _ (by simp [col])

/-- A column's block and its place in it. -/
theorem split (f : Fin 4096) : ∃ (q : Fin 8) (k : Fin 512), f = col q k :=
  ⟨⟨f.val / 512, by omega⟩, ⟨f.val % 512, by omega⟩, Fin.ext (by show f.val = 512 * (f.val / 512) + f.val % 512; omega)⟩

/-- The sum over the columns is the sum over the blocks of their sums. -/
theorem sum_blocks (f : Fin 4096 → EReal) : (∑ q : Fin 8, ∑ k : Fin 512, f (col q k)) = ∑ s : Fin 4096, f s := by
  rw [← Fintype.sum_prod_type']
  refine Fintype.sum_equiv (finProdFinEquiv (m := 8) (n := 512)) _ _ fun x => congrArg f (Fin.ext ?_)
  show 512 * x.1.val + x.2.val = x.2.val + 512 * x.1.val
  omega
end Cert.Cols
-- ==== Proof.Reals.lean ====
module
public import Idealize.ShloMosaic.Lib.Pointwise
public import Idealize.ShloMosaic.Lib.ReduceAll
public import Idealize.ShloMosaic.Lib.Affine
/-! Extended reals that are real numbers: sums and products of them are, and an array of which the precondition says
    that every magnitude is below infinity holds nothing else. -/
@[expose] public section
open Idealize.ShloMosaic
namespace Cert.Reals

/-- `x` is a real number. -/
def Is (x : EReal) : Prop := ∃ r : ℝ, x = (r : EReal)

theorem is_coe (r : ℝ) : Is (r : EReal) := ⟨r, rfl⟩
theorem is_mul {x y : EReal} (hx : Is x) (hy : Is y) : Is (x * y) := by
  obtain ⟨a, rfl⟩ := hx; obtain ⟨b, rfl⟩ := hy; exact ⟨a * b, (EReal.coe_mul a b).symm⟩
theorem is_add {x y : EReal} (hx : Is x) (hy : Is y) : Is (x + y) := by
  obtain ⟨a, rfl⟩ := hx; obtain ⟨b, rfl⟩ := hy; exact ⟨a + b, (EReal.coe_add a b).symm⟩
theorem is_sub {x y : EReal} (hx : Is x) (hy : Is y) : Is (x - y) := by
  obtain ⟨a, rfl⟩ := hx; obtain ⟨b, rfl⟩ := hy; exact ⟨a - b, (EReal.coe_sub a b).symm⟩

/-- A finite sum of real numbers, taken among the extended reals. -/
theorem coe_sum {ι : Type*} (s : Finset ι) (f : ι → ℝ) : (∑ k ∈ s, (f k : EReal)) = ((∑ k ∈ s, f k : ℝ) : EReal) := by
  classical
  induction s using Finset.induction_on with
  | empty => simp
  | insert a t ha ih => rw [Finset.sum_insert ha, Finset.sum_insert ha, ih, EReal.coe_add]

theorem is_sum {ι : Type*} (s : Finset ι) (f : ι → EReal) (h : ∀ k ∈ s, Is (f k)) : Is (∑ k ∈ s, f k) := by
  classical
  induction s using Finset.induction_on with
  | empty => exact ⟨0, by simp⟩
  | insert a t ha ih =>
    rw [Finset.sum_insert ha]
    exact is_add (h a (Finset.mem_insert_self _ _)) (ih fun k hk => h k (Finset.mem_insert_of_mem hk))

theorem top_f32 : Ideal.ofBits .f32 0x7F800000#32 = ⊤ := by simp [Ideal.ofBits, Ideal.ieee, -EReal.coe_mul]

/-- A magnitude below infinity is that of a real number. -/
theorem is_of_lt (x : EReal) (h : FloatOps.cmpf (F := Ideal) (φ := .f32) .olt (FloatOps.hostAbsf (F := Ideal) (φ := .f32) x) (Ideal.ofBits .f32 0x7F800000#32) = 1#1) : Is x := by
  rw [top_f32] at h
  have h' : max x (-x) < ⊤ := by
    by_contra hn
    have : FloatOps.cmpf (F := Ideal) (φ := .f32) .olt (FloatOps.hostAbsf (F := Ideal) (φ := .f32) x) ⊤ = 0#1 := by
      show BitVec.ofBool (decide (max x (-x) < ⊤)) = 0#1
      rw [decide_eq_false hn]; rfl
    rw [this] at h
    exact absurd h (by decide)
  induction x with
  | bot => simp at h'
  | top => simp at h'
  | coe r => exact ⟨r, rfl⟩

/-- The precondition's test of one array that is 1 says that the array holds real numbers. -/
theorem is_of_all {s t u w : Shape} [Subsingleton t.Idx] {axes : List (Fin s.rank)} (x : FVec Ideal s .f32) (dims hb) (init : u.Idx → BitVec 1)
    (h : s.ReducesTo axes t) (hu : 0 < u.numel) (i : t.Idx)
    (e : Host.reduce IntOp.andi (cmpf .olt (Host.absf x) (broadcastInDim (t := s) (s := w) dims hb (constant w .f32 0x7F800000#32))) init h hu i = 1#1) (j : s.Idx) : Is (x j) :=
  is_of_lt (x j) (Host.reduce_andi_all _ init h hu i e j)
end Cert.Reals
-- ==== Proof.Rms.lean ====
module
public import proofs.«01_k».proof.Proof.Reals
/-! The gradient of a root-mean-square norm over 1024 entries, in its two forms: the kernel's, by the normalised
    row and one mean, and the one the derivative of the reciprocal square root gives, are equal on real numbers. -/
@[expose] public section
open Idealize.ShloMosaic
namespace Cert.Rms
open Cert.Reals

/-- The printed constants: the length of a row, the addend under the root, minus one half. -/
noncomputable def C : EReal := Ideal.ofBits FTy.f32 1149239296#32
noncomputable def E : EReal := Ideal.ofBits FTy.f32 897988541#32
noncomputable def H : EReal := Ideal.ofBits FTy.f32 3204448256#32

theorem C_eq : C = ((1024 : ℝ) : EReal) := by
  unfold C; simp [Ideal.ofBits, Ideal.ieee, -EReal.coe_mul]; norm_num
theorem H_eq : H = ((-(1 / 2) : ℝ) : EReal) := by
  unfold H; simp [Ideal.ofBits, Ideal.ieee, -EReal.coe_mul]; norm_num
theorem E_pos : ∃ e : ℝ, 0 < e ∧ E = (e : EReal) := by
  refine ⟨8796093 / 2 ^ 43, by norm_num, ?_⟩
  unfold E; simp [Ideal.ofBits, Ideal.ieee, -EReal.coe_mul]; norm_num

/-- The mean of the squares and the addend; the reciprocal of its root. -/
noncomputable def ms (x : Fin 1024 → EReal) : EReal := Ideal.div (∑ k, x k * x k) C + E
noncomputable def rs (x : Fin 1024 → EReal) : EReal := Ideal.rsqrt (ms x)

/-- The gradient as the kernels write it, `d` being the gradient of the normalised row. -/
noncomputable def bwdK (x d : Fin 1024 → EReal) (i : Fin 1024) : EReal :=
  rs x * (d i - x i * rs x * Ideal.div (∑ k, d k * (x k * rs x)) C)

/-- The gradient through the derivative of the reciprocal square root. -/
noncomputable def slope (x d : Fin 1024 → EReal) : EReal := Ideal.div ((∑ k, x k * d k) * (H * Ideal.div (rs x) (ms x))) C
noncomputable def bwdR (x d : Fin 1024 → EReal) (i : Fin 1024) : EReal :=
  d i * rs x + x i * (∑ _k : Fin 1, slope x d) + (∑ _k : Fin 1, slope x d) * x i

theorem ms_real (x : Fin 1024 → EReal) (hx : ∀ k, Is (x k)) : ∃ M : ℝ, 0 < M ∧ ms x = (M : EReal) := by
  choose X hX using hx
  obtain ⟨e, he, hE⟩ := E_pos
  refine ⟨(∑ k, X k * X k) * (1 / 1024) + e, by have := Finset.sum_nonneg (s := Finset.univ) fun k _ => mul_self_nonneg (X k); positivity, ?_⟩
  unfold ms
  rw [C_eq, Ideal.div_coe (by norm_num), hE]
  simp only [hX, ← EReal.coe_mul, coe_sum, ← EReal.coe_add]

theorem rs_real (x : Fin 1024 → EReal) (hx : ∀ k, Is (x k)) : Is (rs x) := by
  obtain ⟨M, hM, h⟩ := ms_real x hx
  unfold rs
  rw [h, Ideal.rsqrt_coe, if_neg (not_lt.mpr hM.le), if_neg hM.ne']
  exact ⟨_, rfl⟩

theorem bwd_eq (x d : Fin 1024 → EReal) (hx : ∀ k, Is (x k)) (hd : ∀ k, Is (d k)) (i : Fin 1024) : bwdK x d i = bwdR x d i := by
  obtain ⟨M, hM, h⟩ := ms_real x hx
  have hr : rs x = (((Real.sqrt M)⁻¹ : ℝ) : EReal) := by
    unfold rs
    rw [h, Ideal.rsqrt_coe, if_neg (not_lt.mpr hM.le), if_neg hM.ne']
  have hq : (Real.sqrt M)⁻¹ * (Real.sqrt M)⁻¹ = 1 / M := by
    rw [← mul_inv, Real.mul_self_sqrt hM.le, one_div]
  choose X hX using hx
  choose D hD using hd
  unfold bwdK bwdR slope
  rw [h, hr, Ideal.div_coe hM.ne', C_eq, Ideal.div_coe (by norm_num), Ideal.div_coe (by norm_num), H_eq]
  simp only [hX, hD, ← EReal.coe_mul, coe_sum, ← EReal.coe_add, ← EReal.coe_sub, Finset.univ_unique, Finset.sum_singleton]
  congr 1
  generalize (Real.sqrt M)⁻¹ = r at hq
  have e : ∑ k, D k * (X k * r) = r * ∑ k, X k * D k := by
    rw [Finset.mul_sum]; exact Finset.sum_congr rfl fun k _ => by ring
  rw [e, ← hq]
  ring
end Cert.Rms
-- ==== Proof.MlpBwd.lean ====
module
public import proofs.«01_k».proof.Proof.Gen.Kernel2Ideal.Value
public import proofs.«01_k».proof.Proof.Slot
public import proofs.«01_k».proof.Proof.Cols
public import proofs.«01_k».proof.Proof.Rms
public import Idealize.ShloMosaic.Lib.Pipeline.ValueKit
public import Idealize.ShloMosaic.Lib.Pointwise
public import Idealize.ShloMosaic.Lib.Pipeline.ReadBack
public import Idealize.ShloMosaic.Lib.Tactic.WordOmega
/-! The gradient of the squared-ReLU MLP: what one grid point of the call computes from its blocks. -/
@[expose] public section
set_option maxRecDepth 16384
open Idealize.ShloMosaic Idealize.ShloMosaic.TcCoe Idealize.SL.Sem
open Idealize.ShloMosaic.Pipeline (Dat)
namespace Cert.Kernel2Ideal.Value
open Cert.Kernel2Ideal Cert.Kernel2Ideal.Gen
open Cert.Cols (col)

/-- The slope of the squared ReLU from the activation `u`, as the kernel takes it: `2u` over the root of `u`, cut off below. -/
noncomputable def lam (u : EReal) : EReal := Ideal.ofBits FTy.f32 0x40000000#32 * u * Ideal.rsqrt (max u (Ideal.ofBits FTy.f32 0x0DA24260#32))

section
variable (D : Vec Ideal S256x1024 .f32) (U : Vec Ideal S256x4096 .bf16) (W1 : Vec Ideal S8x1024x512 .bf16) (W2 : Vec Ideal S8x512x1024 .bf16)

/-- The gradient of the pre-activation in block `q` of the columns. -/
noncomputable def da (r : Fin 256) (q : Fin 8) (k : Fin 512) : EReal := (∑ d : Fin 1024, D (ix2 r d) * W2 (ix3 q k d)) * lam (U (ix2 r (col q k)))

noncomputable abbrev l5 (q : ℕ) (h : ∀ i, ![q, 0, 0] i + ![1, 512, 1024] i ≤ S8x512x1024.size i) := View.ld W2 (Rect.unit ![q, 0, 0] ![1, 512, 1024] h)
noncomputable abbrev l4 (q : ℕ) (h : ∀ i, ![q, 0, 0] i + ![1, 1024, 512] i ≤ S8x1024x512.size i) := View.ld W1 (Rect.unit ![q, 0, 0] ![1, 1024, 512] h)
noncomputable abbrev l1 (q : ℕ) (h : ∀ i, ![0, q] i + ![256, 512] i ≤ S256x4096.size i) := View.ld U (Rect.unit ![0, q] ![256, 512] h)

noncomputable def a0 := k0_pay8 (F := Ideal) D (l5 W2 0 inb_S8x512x1024_S1x512x1024_0_0_0) (l1 U 0 inb_S256x4096_S256x512_0_0)
noncomputable def a1 := k0_pay11 (F := Ideal) (k0_pay7 D (l5 W2 1 inb_S8x512x1024_S1x512x1024_1_0_0)) (l1 U 512 inb_S256x4096_S256x512_0_512)
noncomputable def a2 := k0_pay14 (F := Ideal) (k0_pay6 D) (k0_pay10 (l5 W2 2 inb_S8x512x1024_S1x512x1024_2_0_0)) (constant S256x512 FTy.f32 0#32) (l1 U 1024 inb_S256x4096_S256x512_0_1024)
noncomputable def a3 := k0_pay16 (F := Ideal) (k0_pay13 (k0_pay6 D) (l5 W2 3 inb_S8x512x1024_S1x512x1024_3_0_0)) (l1 U 1536 inb_S256x4096_S256x512_0_1536)
noncomputable def a4 := k0_pay19 (F := Ideal) (k0_pay6 D) (l5 W2 4 inb_S8x512x1024_S1x512x1024_4_0_0) (l1 U 2048 inb_S256x4096_S256x512_0_2048)
noncomputable def a5 := k0_pay21 (F := Ideal) (k0_pay18 (k0_pay6 D) (l5 W2 5 inb_S8x512x1024_S1x512x1024_5_0_0)) (l1 U 2560 inb_S256x4096_S256x512_0_2560)
noncomputable def a6 := k0_pay26 (F := Ideal) (k0_pay20 (k0_pay6 D) (l5 W2 6 inb_S8x512x1024_S1x512x1024_6_0_0)) (k0_pay24 (l1 U 3072 inb_S256x4096_S256x512_0_3072))
  (k0_pay25 (l1 U 3072 inb_S256x4096_S256x512_0_3072)) (FloatOps.ofBits FTy.f32 228737632#32)
noncomputable def a7 := k0_pay27 (F := Ideal) (k0_pay23 (k0_pay6 D) (l5 W2 7 inb_S8x512x1024_S1x512x1024_7_0_0)) (l1 U 3584 inb_S256x4096_S256x512_0_3584)

/-- The eight blocks of the gradient of the pre-activation. -/
theorem da_pay (r : Fin 256) (q : Fin 8) (k : Fin 512) :
    (![a0 D U W2, a1 D U W2, a2 D U W2, a3 D U W2, a4 D U W2, a5 D U W2, a6 D U W2, a7 D U W2] q : Vec Ideal S256x512 .bf16) (ix2 r k) = da D U W2 r q k := by
  fin_cases q
  · have e0 (h : k.val < 4096) : (⟨k.val, h⟩ : Fin 4096) = col 0 k := Fin.ext (Nat.zero_add _).symm
    show a0 D U W2 (ix2 r k) = _
    unfold a0 l5 l1
    pointwise [k0_pay8, k0_pay6]
    rw [e0]
    rfl
  · show a1 D U W2 (ix2 r k) = _
    unfold a1 l5 l1
    pointwise [k0_pay11, k0_pay7, k0_pay6]
    rfl
  · show a2 D U W2 (ix2 r k) = _
    unfold a2 l5 l1
    pointwise [k0_pay14, k0_pay10, k0_pay6]
    rfl
  · show a3 D U W2 (ix2 r k) = _
    unfold a3 l5 l1
    pointwise [k0_pay16, k0_pay13, k0_pay6]
    rfl
  · show a4 D U W2 (ix2 r k) = _
    unfold a4 l5 l1
    pointwise [k0_pay19, k0_pay6]
    rfl
  · show a5 D U W2 (ix2 r k) = _
    unfold a5 l5 l1
    pointwise [k0_pay21, k0_pay18, k0_pay6]
    rfl
  · show a6 D U W2 (ix2 r k) = _
    unfold a6 l5 l1
    pointwise [k0_pay26, k0_pay20, k0_pay24, k0_pay25, k0_pay6]
    rfl
  · show a7 D U W2 (ix2 r k) = _
    unfold a7 l5 l1
    pointwise [k0_pay27, k0_pay23, k0_pay6]
    rfl

/-- The gradient of the normalised rows, as the eight products add up. -/
noncomputable def h1 := k0_pay12 (F := Ideal) (k0_pay7 D (l5 W2 1 inb_S8x512x1024_S1x512x1024_1_0_0))
  (k0_pay9 D (l5 W2 0 inb_S8x512x1024_S1x512x1024_0_0_0) (l1 U 0 inb_S256x4096_S256x512_0_0) (l4 W1 0 inb_S8x1024x512_S1x1024x512_0_0_0))
  (l1 U 512 inb_S256x4096_S256x512_0_512) (l4 W1 1 inb_S8x1024x512_S1x1024x512_1_0_0)
noncomputable def h3 := k0_pay17 (F := Ideal) (h1 D U W1 W2) (k0_pay13 (k0_pay6 D) (l5 W2 3 inb_S8x512x1024_S1x512x1024_3_0_0)) (a2 D U W2)
  (k0_pay15 (l4 W1 2 inb_S8x1024x512_S1x1024x512_2_0_0)) (constant S256x1024 FTy.f32 0#32) (l1 U 1536 inb_S256x4096_S256x512_0_1536) (l4 W1 3 inb_S8x1024x512_S1x1024x512_3_0_0)
noncomputable def h5 := k0_pay22 (F := Ideal) (h3 D U W1 W2) (k0_pay18 (k0_pay6 D) (l5 W2 5 inb_S8x512x1024_S1x512x1024_5_0_0)) (a4 D U W2)
  (l4 W1 4 inb_S8x1024x512_S1x1024x512_4_0_0) (l1 U 2560 inb_S256x4096_S256x512_0_2560) (l4 W1 5 inb_S8x1024x512_S1x1024x512_5_0_0)
noncomputable def h7 := k0_pay28 (F := Ideal) (k0_pay20 (k0_pay6 D) (l5 W2 6 inb_S8x512x1024_S1x512x1024_6_0_0)) (h5 D U W1 W2)
  (k0_pay23 (k0_pay6 D) (l5 W2 7 inb_S8x512x1024_S1x512x1024_7_0_0)) (k0_pay24 (l1 U 3072 inb_S256x4096_S256x512_0_3072)) (k0_pay25 (l1 U 3072 inb_S256x4096_S256x512_0_3072))
  (FloatOps.ofBits FTy.f32 228737632#32) (l4 W1 6 inb_S8x1024x512_S1x1024x512_6_0_0) (l1 U 3584 inb_S256x4096_S256x512_0_3584) (l4 W1 7 inb_S8x1024x512_S1x1024x512_7_0_0)

/-- One block's term of the gradient of the normalised rows. -/
noncomputable def term (r : Fin 256) (i : Fin 1024) (q : Fin 8) : EReal := ∑ k : Fin 512, da D U W2 r q k * W1 (ix3 q i k)

theorem h1_at (r : Fin 256) (i : Fin 1024) : h1 D U W1 W2 (ix2 r i) = term D U W1 W2 r i 0 + term D U W1 W2 r i 1 := by
  unfold h1 l4
  have e0 (k : Fin 512) := da_pay D U W2 r 0 k
  have e1 (k : Fin 512) := da_pay D U W2 r 1 k
  simp only [term, ← e0, ← e1]
  pointwise [k0_pay12, k0_pay9]
  rfl
theorem h3_at (r : Fin 256) (i : Fin 1024) : h3 D U W1 W2 (ix2 r i) = h1 D U W1 W2 (ix2 r i) + term D U W1 W2 r i 2 + term D U W1 W2 r i 3 := by
  unfold h3 l4
  have e0 (k : Fin 512) := da_pay D U W2 r 2 k
  have e1 (k : Fin 512) := da_pay D U W2 r 3 k
  simp only [term, ← e0, ← e1]
  pointwise [k0_pay17, k0_pay15]
  rfl
theorem h5_at (r : Fin 256) (i : Fin 1024) : h5 D U W1 W2 (ix2 r i) = h3 D U W1 W2 (ix2 r i) + term D U W1 W2 r i 4 + term D U W1 W2 r i 5 := by
  unfold h5 l4
  have e0 (k : Fin 512) := da_pay D U W2 r 4 k
  have e1 (k : Fin 512) := da_pay D U W2 r 5 k
  simp only [term, ← e0, ← e1]
  pointwise [k0_pay22]
  rfl
theorem h7_at (r : Fin 256) (i : Fin 1024) : h7 D U W1 W2 (ix2 r i) = h5 D U W1 W2 (ix2 r i) + term D U W1 W2 r i 6 + term D U W1 W2 r i 7 := by
  unfold h7 l4
  have e0 (k : Fin 512) := da_pay D U W2 r 6 k
  have e1 (k : Fin 512) := da_pay D U W2 r 7 k
  simp only [term, ← e0, ← e1]
  pointwise [k0_pay28]
  rfl
theorem h_at (r : Fin 256) (i : Fin 1024) : h7 D U W1 W2 (ix2 r i) = ∑ q : Fin 8, ∑ k : Fin 512, da D U W2 r q k * W1 (ix3 q i k) := by
  rw [h7_at, h5_at, h3_at, h1_at]
  exact (Fin.sum_univ_eight (M := EReal) (term D U W1 W2 r i)).symm
end

theorem dx_pay (d h x g) (r : Fin 256) (i : Fin 1024) : k0_pay3 (F := Ideal) d h x g (k0_pay29 x) k0_pay30 (ix2 r i)
    = d (ix2 r i) + Cert.Rms.bwdK (fun k => x (ix2 r k)) (fun k => h (ix2 r k) * g (ix2 0 k)) i := by
  pointwise [k0_pay3, k0_pay2, k0_pay1, k0_pay29, k0_pay30]
  rfl
theorem dg_pay (h x v) (i : Fin 1024) : k0_pay4 (F := Ideal) h x (k0_pay29 x) k0_pay30 v (ix2 0 i)
    = v (ix2 0 i) + ∑ r : Fin 256, h (ix2 r i) * (x (ix2 r i) * Cert.Rms.rs (fun k => x (ix2 r k))) := by
  pointwise [k0_pay4, k0_pay2, k0_pay1, k0_pay29, k0_pay30]
  rfl
theorem zero_pay (j) : k0_pay5 (F := Ideal) j = 0 := by pointwise [k0_pay5]
end Cert.Kernel2Ideal.Value
-- ==== Proof.MlpBwdArr.lean ====
module
public import proofs.«01_k».proof.Proof.Gen.Kernel2Ideal.Value
public import proofs.«01_k».proof.Proof.MlpBwd
public import Idealize.ShloMosaic.Lib.Pipeline.ValueKit
public import Idealize.ShloMosaic.Lib.Pointwise
public import Idealize.ShloMosaic.Lib.Pipeline.ReadBack
public import Idealize.ShloMosaic.Lib.Tactic.WordOmega
/-! The gradient of the squared-ReLU MLP: the call's three arrays as functions of its arguments. -/
@[expose] public section
set_option maxRecDepth 16384
open Idealize.ShloMosaic Idealize.ShloMosaic.TcCoe Idealize.SL.Sem
open Idealize.ShloMosaic.Pipeline (Dat)
namespace Cert.Kernel2Ideal.Value
open Cert.Kernel2Ideal Cert.Kernel2Ideal.Gen
open Cert.Cols (col)
variable (m : (ℓ : Loc nD τ sig) → Buf (Elt Ideal) ℓ)

section
variable (D X : Vec Ideal S4096x1024 .f32) (G : Vec Ideal S1x1024 .f32) (W1 : Vec Ideal S1024x4096 .f32) (W2 : Vec Ideal S4096x1024 .f32)
/-- The pre-activation, and the activation: the square of its positive part. -/
noncomputable def PA (s : Fin 4096) (f : Fin 4096) : EReal := ∑ d : Fin 1024, X (ix2 s d) * Cert.Rms.rs (fun k => X (ix2 s k)) * G (ix2 0 d) * W1 (ix2 d f)
noncomputable def UU (s : Fin 4096) (f : Fin 4096) : EReal := max (PA X G W1 s f) 0 * max (PA X G W1 s f) 0
/-- The gradient of the activation. -/
noncomputable def DU (s : Fin 4096) (f : Fin 4096) : EReal := ∑ d : Fin 1024, D (ix2 s d) * W2 (ix2 f d)
/-- The gradient of the pre-activation. -/
noncomputable def DA (s : Fin 4096) (f : Fin 4096) : EReal := DU D W2 s f * lam (UU X G W1 s f)
/-- The gradient of the normalised rows, `a` being that of the pre-activation. -/
noncomputable def DH (a : Fin 4096 → Fin 4096 → EReal) (s : Fin 4096) (i : Fin 1024) : EReal := ∑ f : Fin 4096, a s f * W1 (ix2 i f)
/-- The gradient of the input. -/
noncomputable def DX (a : Fin 4096 → Fin 4096 → EReal) (s : Fin 4096) (i : Fin 1024) : EReal :=
  D (ix2 s i) + Cert.Rms.bwdK (fun k => X (ix2 s k)) (fun k => DH W1 a s k * G (ix2 0 k)) i
/-- One row's term of the gradient of the gain. -/
noncomputable def DGT (a : Fin 4096 → Fin 4096 → EReal) (i : Fin 1024) (s : Fin 4096) : EReal := DH W1 a s i * (X (ix2 s i) * Cert.Rms.rs (fun k => X (ix2 s k)))
end

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0] ∧ win0_6.index t = ![t.val, 0] ∧ win0_7.index t = ![t.val, 0] :=
  (by decide +kernel : ∀ t : Fin grid0.N, _)

noncomputable def DB (c : Dev nD) (t : Fin cfg0.N) : Vec Ideal S256x1024 .f32 := iblk m c 0 t
noncomputable def UB (c : Dev nD) (t : Fin cfg0.N) : Vec Ideal S256x4096 .bf16 := iblk m c 1 t
noncomputable def XB (c : Dev nD) (t : Fin cfg0.N) : Vec Ideal S256x1024 .f32 := iblk m c 2 t
noncomputable def GB (c : Dev nD) (t : Fin cfg0.N) : Vec Ideal S1x1024 .f32 := iblk m c 3 t
noncomputable def W1B (c : Dev nD) (t : Fin cfg0.N) : Vec Ideal S8x1024x512 .bf16 := iblk m c 4 t
noncomputable def W2B (c : Dev nD) (t : Fin cfg0.N) : Vec Ideal S8x512x1024 .bf16 := iblk m c 5 t

theorem row_lt (t : Fin cfg0.N) (r : Fin 256) : 256 * t.val + r.val < 4096 := by
  have : t.val < 16 := lt_of_lt_of_eq t.isLt N_0
  omega
/-- The row of the arrays that the row `r` of a point's block is. -/
abbrev row (t : Fin cfg0.N) (r : Fin 256) : Fin 4096 := ⟨256 * t.val + r.val, row_lt t r⟩

noncomputable abbrev mD (c : Dev nD) : Vec Ideal S4096x1024 .f32 := m ((c.tc : Thread nD τ).loc main_arg0)
noncomputable abbrev mX (c : Dev nD) : Vec Ideal S4096x1024 .f32 := m ((c.tc : Thread nD τ).loc main_arg1)
noncomputable abbrev mG (c : Dev nD) : Vec Ideal S1x1024 .f32 := m ((c.tc : Thread nD τ).loc main_arg2)
noncomputable abbrev mW1 (c : Dev nD) : Vec Ideal S1024x4096 .f32 := m ((c.tc : Thread nD τ).loc main_arg3)
noncomputable abbrev mW2 (c : Dev nD) : Vec Ideal S4096x1024 .f32 := m ((c.tc : Thread nD τ).loc main_arg4)
/-- The gradient of the pre-activation, of the arguments in memory. -/
noncomputable abbrev mA (c : Dev nD) : Fin 4096 → Fin 4096 → EReal := DA (mD m c) (mX m c) (mG m c) (mW1 m c) (mW2 m c)

theorem db (c t) (r : Fin 256) (x : Fin 1024) : DB m c t (ix2 r x) = (m ((c.tc : Thread nD τ).loc main_arg0) : Vec Ideal S4096x1024 .f32) (ix2 ⟨256 * t.val + r.val, row_lt t r⟩ x) := by
  unfold DB; blk_point [iblk, V, idx t]
theorem xb (c t) (r : Fin 256) (x : Fin 1024) : XB m c t (ix2 r x) = (m ((c.tc : Thread nD τ).loc main_arg1) : Vec Ideal S4096x1024 .f32) (ix2 ⟨256 * t.val + r.val, row_lt t r⟩ x) := by
  unfold XB; blk_point [iblk, V, idx t]
theorem gb (c t) (r : Fin 1) (x : Fin 1024) : GB m c t (ix2 r x) = (m ((c.tc : Thread nD τ).loc main_arg2) : Vec Ideal S1x1024 .f32) (ix2 r x) := by
  unfold GB; blk_point [iblk, V, idx t]
/-- What the stretch of operations before the call leaves: the weights in blocks, the activation. -/
theorem host_w1 (c : Dev nD) (q : Fin 8) (i : Fin 1024) (k : Fin 512) : (V m c main_v20 : Vec Ideal S8x1024x512 .bf16) (ix3 q i k) = mW1 m c (ix2 i (col q k)) := by
  unfold V
  simp only [List.flatten_cons, List.flatten_nil, List.append_nil, List.cons_append, List.nil_append]
  after_results_simp
  pointwise
  refine congrArg (mW1 m c) ?_
  blk_ext
theorem host_w2 (c : Dev nD) (q : Fin 8) (k : Fin 512) (d : Fin 1024) : (V m c main_v22 : Vec Ideal S8x512x1024 .bf16) (ix3 q k d) = mW2 m c (ix2 (col q k) d) := by
  unfold V
  simp only [List.flatten_cons, List.flatten_nil, List.append_nil, List.cons_append, List.nil_append]
  after_results_simp
  pointwise
  refine congrArg (mW2 m c) ?_
  blk_ext
theorem host_u (c : Dev nD) (s f : Fin 4096) : (V m c main_v17 : Vec Ideal S4096x4096 .bf16) (ix2 s f) = UU (mX m c) (mG m c) (mW1 m c) s f := by
  unfold V
  simp only [List.flatten_cons, List.flatten_nil, List.append_nil, List.cons_append, List.nil_append, StableHlo.TRef.binary, StableHlo.TRef.nullary, StableHlo.TRef.unary,
    StableHlo.TRef.toBuf, StableHlo.TRef.ofBuf, cast_eq]
  after_results_simp
  pointwise
  rfl
theorem w1b (c t) (q : Fin 8) (i : Fin 1024) (k : Fin 512) : W1B m c t (ix3 q i k) = mW1 m c (ix2 i (col q k)) := by
  rw [← host_w1]; unfold W1B; blk_point [iblk, idx t]
theorem w2b (c t) (q : Fin 8) (k : Fin 512) (d : Fin 1024) : W2B m c t (ix3 q k d) = mW2 m c (ix2 (col q k) d) := by
  rw [← host_w2]; unfold W2B; blk_point [iblk, idx t]
theorem ub (c t) (r : Fin 256) (f : Fin 4096) : UB m c t (ix2 r f) = UU (mX m c) (mG m c) (mW1 m c) (row t r) f := by
  rw [← host_u]; unfold UB; blk_point [iblk, idx t]

/-- The block forms are the arrays' forms at the point's rows. -/
theorem da_row (c t) (r : Fin 256) (q : Fin 8) (k : Fin 512) : da (DB m c t) (UB m c t) (W2B m c t) r q k = mA m c (row t r) (col q k) := by
  unfold da
  simp only [db, ub, w2b]
  rfl
theorem dh_row (c t) (r : Fin 256) (i : Fin 1024) : h7 (DB m c t) (UB m c t) (W1B m c t) (W2B m c t) (ix2 r i) = DH (mW1 m c) (mA m c) (row t r) i := by
  rw [h_at]
  simp only [da_row, w1b]
  exact Cert.Cols.sum_blocks fun f => mA m c (row t r) f * mW1 m c (ix2 i f)

theorem dx_row (c t) (r : Fin 256) (i : Fin 1024) : k0_pay3 (F := Ideal) (DB m c t) (h7 (DB m c t) (UB m c t) (W1B m c t) (W2B m c t)) (XB m c t) (GB m c t)
    (k0_pay29 (XB m c t)) k0_pay30 (ix2 r i) = DX (mD m c) (mX m c) (mG m c) (mW1 m c) (mA m c) (row t r) i := by
  refine (dx_pay _ _ _ _ r i).trans ?_
  simp only [db, xb, gb, dh_row]
  rfl

/-- A point's share of the gradient of the gain. -/
noncomputable def DGP (c : Dev nD) (t : Fin cfg0.N) (i : Fin 1024) : EReal := ∑ r : Fin 256, DGT (mX m c) (mW1 m c) (mA m c) i (row t r)

theorem dg_point (c t) (v) (i : Fin 1024) : k0_pay4 (F := Ideal) (h7 (DB m c t) (UB m c t) (W1B m c t) (W2B m c t)) (XB m c t) (k0_pay29 (XB m c t)) k0_pay30 v (ix2 0 i)
    = v (ix2 0 i) + DGP m c t i := by
  refine (dg_pay _ _ _ i).trans ?_
  simp only [xb, dh_row]
  rfl

theorem da_A (c : Dev nD) (t : Fin cfg0.N) (h0 : t.val % 16 = 0) (r : Fin 256) (f : Fin 4096) : (outsAt0 m c t.val t.isLt).1 (ix2 r f) = mA m c (row t r) f := by
  rw [outsAt0_A m c t h0]
  frame_out
  obtain ⟨q, k, rfl⟩ := Cert.Cols.split f
  rw [← da_row, ← da_pay, ← View.read_writes_junk_apply_eq_canon (ms0_6 t).view]
  exact Cert.Cols.eight (ms0_6 t).view _ _ _ _ _ _ _ _ _ (a0 _ _ _) (a1 _ _ _) (a2 _ _ _) (a3 _ _ _) (a4 _ _ _) (a5 _ _ _) (a6 _ _ _) (a7 _ _ _) r q k
theorem da_B (c : Dev nD) (t : Fin cfg0.N) (h0 : ¬ t.val % 16 = 0) (r : Fin 256) (f : Fin 4096) : (outsAt0 m c t.val t.isLt).1 (ix2 r f) = mA m c (row t r) f := by
  rw [outsAt0_B m c t h0]
  frame_out
  obtain ⟨q, k, rfl⟩ := Cert.Cols.split f
  rw [← da_row, ← da_pay, ← View.read_writes_junk_apply_eq_canon (ms0_6 t).view]
  exact Cert.Cols.eight (ms0_6 t).view _ _ _ _ _ _ _ _ _ (a0 _ _ _) (a1 _ _ _) (a2 _ _ _) (a3 _ _ _) (a4 _ _ _) (a5 _ _ _) (a6 _ _ _) (a7 _ _ _) r q k
theorem dx_A (c : Dev nD) (t : Fin cfg0.N) (h0 : t.val % 16 = 0) (r : Fin 256) (i : Fin 1024) :
    (outsAt0 m c t.val t.isLt).2.1 (ix2 r i) = DX (mD m c) (mX m c) (mG m c) (mW1 m c) (mA m c) (row t r) i := by
  rw [outsAt0_A m c t h0]
  frame_out
  exact dx_row m c t r i
theorem dx_B (c : Dev nD) (t : Fin cfg0.N) (h0 : ¬ t.val % 16 = 0) (r : Fin 256) (i : Fin 1024) :
    (outsAt0 m c t.val t.isLt).2.1 (ix2 r i) = DX (mD m c) (mX m c) (mG m c) (mW1 m c) (mA m c) (row t r) i := by
  rw [outsAt0_B m c t h0]
  frame_out
  exact dx_row m c t r i

theorem slot_A (c : Dev nD) (t : Fin cfg0.N) (h0 : t.val % 16 = 0) (j : S8x1024.Idx) :
    (outsAt0 m c t.val t.isLt).2.2 j = if (j 0 : ℕ) = 0 then DGP m c t (j 1) else 0 := by
  rw [outsAt0_A m c t h0]
  frame_out
  rw [← View.read_writes_junk_apply_eq_canon (ms0_8 t).view j]
  refine (Cert.Slot.row_writes _ _ _ _ _ _).trans ?_
  rw [Cert.Slot.all_writes, zero_pay]
  split
  · simp (disch := decide) only [↓ View.readCov_fill, ↓ View.readCov_skip]
    refine (dg_point m c t _ (j 1)).trans ?_
    refine (congrArg (· + _) (?_ : _ = (0 : EReal))).trans (zero_add _)
    exact zero_pay _
  · rfl

theorem slot_B (c : Dev nD) (t : Fin cfg0.N) (h0 : ¬ t.val % 16 = 0) (j : S8x1024.Idx) :
    (outsAt0 m c t.val t.isLt).2.2 j = (outsAt0 m c (t.val - 1) (Nat.lt_of_le_of_lt (Nat.sub_le _ _) t.isLt)).2.2 j + if (j 0 : ℕ) = 0 then DGP m c t (j 1) else 0 := by
  rw [outsAt0_B m c t h0]
  frame_out
  refine (Cert.Slot.row_writes _ _ _ _ _ _).trans ?_
  split
  · next hj =>
    refine (dg_point m c t _ (j 1)).trans ?_
    refine congrArg (· + _) ?_
    conv_rhs => rw [Cert.Slot.first j hj]
    pointwise
  · rw [add_zero]
    exact congrFun (Memref.IsWhole.read_unread _ _) j

theorem da_all (c : Dev nD) (t : Fin cfg0.N) (r : Fin 256) (f : Fin 4096) : (outsAt0 m c t.val t.isLt).1 (ix2 r f) = mA m c (row t r) f := by
  by_cases h : t.val % 16 = 0
  · exact da_A m c t h r f
  · exact da_B m c t h r f
theorem dx_all (c : Dev nD) (t : Fin cfg0.N) (r : Fin 256) (i : Fin 1024) :
    (outsAt0 m c t.val t.isLt).2.1 (ix2 r i) = DX (mD m c) (mX m c) (mG m c) (mW1 m c) (mA m c) (row t r) i := by
  by_cases h : t.val % 16 = 0
  · exact dx_A m c t h r i
  · exact dx_B m c t h r i

section
variable (D X : Vec Ideal S4096x1024 .f32) (G : Vec Ideal S1x1024 .f32) (W1 : Vec Ideal S1024x4096 .f32) (W2 : Vec Ideal S4096x1024 .f32)
/-- The three arrays: the gradients of the pre-activation and of the input; that of the gain in the first row of its slot, zeros below. -/
noncomputable def DAA (j : S4096x4096.Idx) : EReal := DA D X G W1 W2 (j 0) (j 1)
noncomputable def DXA (j : S4096x1024.Idx) : EReal := DX D X G W1 (DA D X G W1 W2) (j 0) (j 1)
noncomputable def SL (j : S8x1024.Idx) : EReal := if (j 0 : ℕ) = 0 then ∑ s : Fin 4096, DGT X W1 (DA D X G W1 W2) (j 1) s else 0
end

theorem arr6 (c : Dev nD) : (dats m 0 c).arrAt 6 cfg0.N = DAA (mD m c) (mX m c) (mG m c) (mW1 m c) (mW2 m c) := by
  refine (dats m 0 c).arrAt_eq_of_covers 6 _ (by decide +kernel) fun t hf y => ?_
  blk_simp
  rw [after0_6]
  obtain ⟨r, f, rfl⟩ : ∃ (r : Fin 256) (f : Fin 4096), y = ix2 r f := ⟨y 0, y 1, eq_ix2 y⟩
  rw [da_all m c t]
  have e : ((win0_6.blk t).view.emb (ix2 r f) : S4096x4096.Idx) = ix2 (row t r) f := by blk_ext [idx t]
  rw [e]
  rfl

theorem arr7 (c : Dev nD) : (dats m 0 c).arrAt 7 cfg0.N = DXA (mD m c) (mX m c) (mG m c) (mW1 m c) (mW2 m c) := by
  refine (dats m 0 c).arrAt_eq_of_covers 7 _ (by decide +kernel) fun t hf y => ?_
  blk_simp
  rw [after0_7]
  obtain ⟨r, i, rfl⟩ : ∃ (r : Fin 256) (i : Fin 1024), y = ix2 r i := ⟨y 0, y 1, eq_ix2 y⟩
  rw [dx_all m c t]
  have e : ((win0_7.blk t).view.emb (ix2 r i) : S4096x1024.Idx) = ix2 (row t r) i := by blk_ext [idx t]
  rw [e]
  rfl

theorem last : 15 < cfg0.N := lt_of_lt_of_eq (by decide : 15 < 16) N_0.symm

/-- What the point `n` leaves of the slot, at one element. -/
noncomputable def slv (c : Dev nD) (j : S8x1024.Idx) (n : ℕ) (h : n < cfg0.N) : EReal := (outsAt0 m c n h).2.2 j
/-- One row's term of the slot. -/
noncomputable def slt (c : Dev nD) (j : S8x1024.Idx) (s : Fin 4096) : EReal := if (j 0 : ℕ) = 0 then DGT (mX m c) (mW1 m c) (mA m c) (j 1) s else 0

theorem slt_sum (c : Dev nD) (j : S8x1024.Idx) {n : ℕ} (g : Fin n → Fin 4096) : (∑ r : Fin n, slt m c j (g r))
    = if (j 0 : ℕ) = 0 then ∑ r : Fin n, DGT (mX m c) (mW1 m c) (mA m c) (j 1) (g r) else 0 := by
  unfold slt
  split
  · rfl
  · exact Finset.sum_const_zero

theorem out_sl (c : Dev nD) (j : S8x1024.Idx) : slv m c j 15 last = SL (mD m c) (mX m c) (mG m c) (mW1 m c) (mW2 m c) j := by
  refine (Cert.Slot.total 256 4096 (slt m c j) (slv m c j) (fun k h r => row_lt ⟨k, h⟩ r) (fun h => ?_) (fun k h hk => ?_) 15 last rfl).trans ?_
  · rw [slt_sum]
    exact slot_A m c ⟨0, h⟩ rfl j
  · rw [slt_sum]
    have : k < 16 := lt_of_lt_of_eq h N_0
    exact slot_B m c ⟨k, h⟩ (by show ¬ k % 16 = 0; omega) j
  · exact slt_sum m c j id

theorem arr8 (c : Dev nD) : (dats m 0 c).arrAt 8 cfg0.N = SL (mD m c) (mX m c) (mG m c) (mW1 m c) (mW2 m c) := by
  refine (dats m 0 c).arrAt_eq_of_after_last 8 t0_15 (by decide +kernel) _ fun j => ?_
  blk_simp
  rw [after0_8]
  exact out_sl m c j
end Cert.Kernel2Ideal.Value
-- ==== Proof.MlpBwdClaim.lean ====
module
public import proofs.«01_k».proof.Proof.Gen.Kernel2Ideal.Value
public import proofs.«01_k».proof.Proof.Gen.Reference2Ideal.Run
public import proofs.«01_k».proof.Proof.MlpBwdArr
public import proofs.«01_k».proof.Defs
public import proofs.«01_k».proof.Proof.Gen.Pre_clear2
public import Idealize.ShloMosaic.Lib.Pointwise
public import Idealize.ShloMosaic.Lib.Claim
/-! The claim on the gradient of the squared-ReLU MLP: the reference's results are the same functions of the arguments as
    the call's arrays, where the arguments are real numbers and no activation lies strictly between zero and the cut-off. -/
@[expose] public section
set_option maxRecDepth 16384
open Idealize.ShloMosaic Idealize.ShloMosaic.TcCoe Idealize.SL.Sem
namespace Cert.Kernel2Ideal.Value
open Cert.Kernel2Ideal
open Cert.Reference2Ideal.Gen Cert.Reference2Ideal.Value

theorem two : Cert.Reals.Is (Ideal.ofBits FTy.f32 0x40000000#32) := by
  refine ⟨2, ?_⟩
  simp [Ideal.ofBits, Ideal.ieee, -EReal.coe_mul]; norm_num
theorem is_max {x : EReal} (h : Cert.Reals.Is x) : Cert.Reals.Is (max x 0) := by
  rcases le_total x 0 with h' | h'
  · rw [max_eq_right h']; exact ⟨0, rfl⟩
  · rwa [max_eq_left h']

/-- The slope taken from the activation is the slope taken from the pre-activation. -/
theorem slope_eq (d a : EReal) (ha : Cert.Reals.Is a) (h : max a 0 * max a 0 = 0 ∨ Ideal.ofBits FTy.f32 0x0DA24260#32 ≤ max a 0 * max a 0) :
    d * lam (max a 0 * max a 0) = if 0 < a then d * (Ideal.ofBits FTy.f32 0x40000000#32 * max a 0) else 0 := by
  obtain ⟨x, rfl⟩ := ha
  split
  · next hx =>
    have hx' : 0 < x := by exact_mod_cast hx
    rw [max_eq_left hx.le, ← EReal.coe_mul] at h ⊢
    have hu : Ideal.ofBits FTy.f32 0x0DA24260#32 ≤ ((x * x : ℝ) : EReal) := h.resolve_left fun e => (mul_pos hx' hx').ne' (by exact_mod_cast e)
    unfold lam
    rw [max_eq_left hu, Ideal.rsqrt_coe, if_neg (not_lt.mpr (mul_pos hx' hx').le), if_neg (mul_pos hx' hx').ne', mul_assoc (Ideal.ofBits _ _), ← EReal.coe_mul, Real.sqrt_mul_self hx'.le,
      mul_assoc, mul_inv_cancel₀ hx'.ne', mul_one]
  · next hx =>
    rw [max_eq_right (not_lt.mp hx), mul_zero]
    unfold lam
    rw [mul_zero, zero_mul, mul_zero]

section
variable (D X : Vec Ideal S4096x1024 .f32) (G : Vec Ideal S1x1024 .f32) (W1 : Vec Ideal S1024x4096 .f32) (W2 : Vec Ideal S4096x1024 .f32)
/-- The reference's gradient of the pre-activation, and with it its gradient of the input. -/
noncomputable def RA (s f : Fin 4096) : EReal := if 0 < PA X G W1 s f then DU D W2 s f * (Ideal.ofBits FTy.f32 0x40000000#32 * max (PA X G W1 s f) 0) else 0
noncomputable def RX (s : Fin 4096) (i : Fin 1024) : EReal :=
  D (ix2 s i) + Cert.Rms.bwdR (fun k => X (ix2 s k)) (fun k => DH W1 (RA D X G W1 W2) s k * G (ix2 0 k)) i
end

set_option maxHeartbeats 4000000 in
theorem ref_dx (m' : (ℓ : Loc nD Cert.Reference2Ideal.τ Cert.Reference2Ideal.sig) → Buf (Elt Ideal) ℓ) (c : Dev nD) (r : Fin 4096) (i : Fin 1024) :
    (res_main_v52 (F := Ideal) m' c : Vec Ideal S4096x1024 .f32) (ix2 r i)
      = RX (m' ((c.tc : Thread nD Cert.Reference2Ideal.τ).loc Cert.Reference2Ideal.main_arg0)) (m' ((c.tc : Thread nD Cert.Reference2Ideal.τ).loc Cert.Reference2Ideal.main_arg1))
        (m' ((c.tc : Thread nD Cert.Reference2Ideal.τ).loc Cert.Reference2Ideal.main_arg2)) (m' ((c.tc : Thread nD Cert.Reference2Ideal.τ).loc Cert.Reference2Ideal.main_arg3))
        (m' ((c.tc : Thread nD Cert.Reference2Ideal.τ).loc Cert.Reference2Ideal.main_arg4)) r i := by
  pointwise [res_main_v52]
  rfl

theorem ref_slot (X : Vec Ideal S4096x1024 .f32) (W1 : Vec Ideal S1024x4096 .f32) (a : Fin 4096 → Fin 4096 → EReal) (r : Fin 8) (i : Fin 1024) :
    (if _ : (r : ℕ) < 1 then ∑ _ : Fin 1, ∑ s : Fin 4096, X (ix2 s i) * Cert.Rms.rs (fun k => X (ix2 s k)) * DH W1 a s i
      else FloatOps.sitofp (F := Ideal) .f32 (0#32)) = if ((ix2 r i : S8x1024.Idx) 0 : ℕ) = 0 then ∑ s : Fin 4096, DGT X W1 a i s else 0 := by
  by_cases hr : (r : ℕ) = 0
  · rw [dif_pos (by omega : (r : ℕ) < 1), if_pos (show ((ix2 r i : S8x1024.Idx) 0 : ℕ) = 0 from hr), Fin.sum_univ_one]
    exact Finset.sum_congr rfl fun s _ => mul_comm (_ : EReal) _
  · rw [dif_neg (by omega : ¬ (r : ℕ) < 1), if_neg (show ¬ ((ix2 r i : S8x1024.Idx) 0 : ℕ) = 0 from hr), Cert.Slot.zero_int]

section
variable (D X : Vec Ideal S4096x1024 .f32) (G : Vec Ideal S1x1024 .f32) (W1 : Vec Ideal S1024x4096 .f32) (W2 : Vec Ideal S4096x1024 .f32)
theorem real (h : Cert.Pre_clear2.fn (F := Ideal) D X G W1 W2 = fun _ => 1#1) :
    ((∀ j, Cert.Reals.Is (D j)) ∧ (∀ j, Cert.Reals.Is (X j)) ∧ (∀ j, Cert.Reals.Is (G j)) ∧ (∀ j, Cert.Reals.Is (W1 j)) ∧ ∀ j, Cert.Reals.Is (W2 j))
    ∧ ∀ s f, UU X G W1 s f = 0 ∨ Ideal.ofBits FTy.f32 0x0DA24260#32 ≤ UU X G W1 s f := by
  have e := congrFun h ix0
  dsimp only [Cert.Pre_clear2.fn, Cert.Pre_clear2.fn_part1, Cert.Pre_clear2.fn_part2] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine ⟨⟨Cert.Reals.is_of_all _ _ _ _ _ _ _ h0, Cert.Reals.is_of_all _ _ _ _ _ _ _ h1, Cert.Reals.is_of_all _ _ _ _ _ _ _ h2, Cert.Reals.is_of_all _ _ _ _ _ _ _ h3,
    Cert.Reals.is_of_all _ _ _ _ _ _ _ h4⟩, fun s f => ?_⟩
  have k := Host.reduce_andi_all _ _ _ _ _ h5 (ix2 s f)
  have k' : IntOp.ori (BitVec.ofBool (decide (UU X G W1 s f = 0))) (BitVec.ofBool (decide (Ideal.ofBits FTy.f32 0x0DA24260#32 ≤ UU X G W1 s f))) = 1#1 := by
    refine Eq.trans ?_ k
    symm
    pointwise [Cert.Pre_clear2.fn_relu]
    rfl
  by_contra hn
  rw [not_or] at hn
  rw [decide_eq_false hn.1, decide_eq_false hn.2] at k'
  exact absurd k' (by decide)

theorem pa_real (hX : ∀ j, Cert.Reals.Is (X j)) (hG : ∀ j, Cert.Reals.Is (G j)) (hW : ∀ j, Cert.Reals.Is (W1 j)) (s f) : Cert.Reals.Is (PA X G W1 s f) :=
  Cert.Reals.is_sum _ _ fun d _ => Cert.Reals.is_mul (Cert.Reals.is_mul (Cert.Reals.is_mul (hX _) (Cert.Rms.rs_real _ fun k => hX _)) (hG _)) (hW _)

theorem a_eq (h : Cert.Pre_clear2.fn (F := Ideal) D X G W1 W2 = fun _ => 1#1) : RA D X G W1 W2 = DA D X G W1 W2 := by
  obtain ⟨⟨hD, hX, hG, h1, h2⟩, hu⟩ := real D X G W1 W2 h
  funext s f
  exact (slope_eq (DU D W2 s f) _ (pa_real X G W1 hX hG h1 s f) (hu s f)).symm

theorem ra_real (h : Cert.Pre_clear2.fn (F := Ideal) D X G W1 W2 = fun _ => 1#1) (s f) : Cert.Reals.Is (RA D X G W1 W2 s f) := by
  obtain ⟨⟨hD, hX, hG, h1, h2⟩, hu⟩ := real D X G W1 W2 h
  unfold RA
  split
  · exact Cert.Reals.is_mul (Cert.Reals.is_sum _ _ fun d _ => Cert.Reals.is_mul (hD _) (h2 _)) (Cert.Reals.is_mul two (is_max (pa_real X G W1 hX hG h1 s f)))
  · exact ⟨0, rfl⟩

theorem dx_eq (h : Cert.Pre_clear2.fn (F := Ideal) D X G W1 W2 = fun _ => 1#1) (r : Fin 4096) (i : Fin 1024) :
    RX D X G W1 W2 r i = DX D X G W1 (DA D X G W1 W2) r i := by
  obtain ⟨⟨hD, hX, hG, h1, h2⟩, hu⟩ := real D X G W1 W2 h
  rw [← a_eq D X G W1 W2 h]
  unfold RX DX
  exact congrArg (D (ix2 r i) + ·) (Cert.Rms.bwd_eq (fun k => X (ix2 r k)) (fun k => DH W1 (RA D X G W1 W2) r k * G (ix2 0 k)) (fun k => hX _)
    (fun k => Cert.Reals.is_mul (Cert.Reals.is_sum _ _ fun x _ => Cert.Reals.is_mul (ra_real D X G W1 W2 h _ _) (h1 _)) (hG _)) i).symm
end

end Cert.Kernel2Ideal.Value

set_option maxHeartbeats 4000000 in
theorem Cert.Kernel2Ideal.Value.claim : Cert.algebraic_Kernel2Ideal_Reference2Ideal_pre_clear2 (hKernel2Ideal := Cert.Kernel2Ideal.Gen.facts)
    (hReference2Ideal := Cert.Reference2Ideal.Gen.facts) (hPre_clear2 := Cert.Pre_clear2.Gen.facts) := by
  intro m g m' g' hp hag
  refine ⟨fun c => Cert.Kernel2Ideal.Value.DAA (Cert.Kernel2Ideal.Value.mD m c) (Cert.Kernel2Ideal.Value.mX m c) (Cert.Kernel2Ideal.Value.mG m c) (Cert.Kernel2Ideal.Value.mW1 m c) (Cert.Kernel2Ideal.Value.mW2 m c),
    fun c => Cert.Kernel2Ideal.Value.DXA (Cert.Kernel2Ideal.Value.mD m c) (Cert.Kernel2Ideal.Value.mX m c) (Cert.Kernel2Ideal.Value.mG m c) (Cert.Kernel2Ideal.Value.mW1 m c) (Cert.Kernel2Ideal.Value.mW2 m c),
    fun c => Cert.Kernel2Ideal.Value.SL (Cert.Kernel2Ideal.Value.mD m c) (Cert.Kernel2Ideal.Value.mX m c) (Cert.Kernel2Ideal.Value.mG m c) (Cert.Kernel2Ideal.Value.mW1 m c) (Cert.Kernel2Ideal.Value.mW2 m c), ?_, ?_⟩
  · exact (θ_run _ _ _).mono (fun r h c => ⟨(h c).1.trans (Cert.Kernel2Ideal.Value.arr6 m c), (h c).2.1.trans (Cert.Kernel2Ideal.Value.arr7 m c),
      (h c).2.2.1.trans (Cert.Kernel2Ideal.Value.arr8 m c), (h c).2.2.2⟩) (Cert.Kernel2Ideal.Value.run_blocks m g)
  · refine (θ_run _ _ _).mono (fun r h c => ⟨(h c).1.trans ?_, (h c).2.1.trans ?_, (h c).2.2.1.trans ?_, (h c).2.2.2⟩) (Cert.Reference2Ideal.Value.run m' g')
    · obtain ⟨h0, h1, h2, h3, h4⟩ := hag c
      have hp := hp c
      rw [h0, h1, h2, h3, h4]
      beta_reduce
      revert hp
      dsimp only [Cert.Kernel2Ideal.Value.mD, Cert.Kernel2Ideal.Value.mX, Cert.Kernel2Ideal.Value.mG, Cert.Kernel2Ideal.Value.mW1, Cert.Kernel2Ideal.Value.mW2]
      generalize m ((c.tc : Thread Cert.Kernel2Ideal.nD Cert.Kernel2Ideal.τ).loc Cert.Kernel2Ideal.main_arg0) = D
      generalize m ((c.tc : Thread Cert.Kernel2Ideal.nD Cert.Kernel2Ideal.τ).loc Cert.Kernel2Ideal.main_arg1) = X
      generalize m ((c.tc : Thread Cert.Kernel2Ideal.nD Cert.Kernel2Ideal.τ).loc Cert.Kernel2Ideal.main_arg2) = G
      generalize m ((c.tc : Thread Cert.Kernel2Ideal.nD Cert.Kernel2Ideal.τ).loc Cert.Kernel2Ideal.main_arg3) = W1
      generalize m ((c.tc : Thread Cert.Kernel2Ideal.nD Cert.Kernel2Ideal.τ).loc Cert.Kernel2Ideal.main_arg4) = W2
      intro hp
      funext j
      obtain ⟨s, f, rfl⟩ : ∃ (s : Fin 4096) (f : Fin 4096), j = ix2 s f := ⟨j 0, j 1, eq_ix2 j⟩
      pointwise
      exact congrFun (congrFun (Cert.Kernel2Ideal.Value.a_eq D X G W1 W2 hp) s) f
    · obtain ⟨h0, h1, h2, h3, h4⟩ := hag c
      funext j
      rw [show j = ix2 (j 0) (j 1) from eq_ix2 (n0 := 4096) (n1 := 1024) j]
      refine (Cert.Kernel2Ideal.Value.ref_dx m' c (j 0) (j 1)).trans ?_
      rw [h0, h1, h2, h3, h4]
      exact Cert.Kernel2Ideal.Value.dx_eq _ _ _ _ _ (hp c) (j 0) (j 1)
    · obtain ⟨h0, h1, h2, h3, h4⟩ := hag c
      have hp := hp c
      rw [h0, h1, h2, h3, h4]
      beta_reduce
      revert hp
      dsimp only [Cert.Kernel2Ideal.Value.mD, Cert.Kernel2Ideal.Value.mX, Cert.Kernel2Ideal.Value.mG, Cert.Kernel2Ideal.Value.mW1, Cert.Kernel2Ideal.Value.mW2]
      generalize m ((c.tc : Thread Cert.Kernel2Ideal.nD Cert.Kernel2Ideal.τ).loc Cert.Kernel2Ideal.main_arg0) = D
      generalize m ((c.tc : Thread Cert.Kernel2Ideal.nD Cert.Kernel2Ideal.τ).loc Cert.Kernel2Ideal.main_arg1) = X
      generalize m ((c.tc : Thread Cert.Kernel2Ideal.nD Cert.Kernel2Ideal.τ).loc Cert.Kernel2Ideal.main_arg2) = G
      generalize m ((c.tc : Thread Cert.Kernel2Ideal.nD Cert.Kernel2Ideal.τ).loc Cert.Kernel2Ideal.main_arg3) = W1
      generalize m ((c.tc : Thread Cert.Kernel2Ideal.nD Cert.Kernel2Ideal.τ).loc Cert.Kernel2Ideal.main_arg4) = W2
      intro hp
      funext j
      obtain ⟨r, i, rfl⟩ : ∃ (r : Fin 8) (i : Fin 1024), j = ix2 r i := ⟨j 0, j 1, eq_ix2 j⟩
      pointwise
      refine (Cert.Kernel2Ideal.Value.ref_slot X W1 (Cert.Kernel2Ideal.Value.RA D X G W1 W2) r i).trans ?_
      rw [Cert.Kernel2Ideal.Value.a_eq D X G W1 W2 hp]
      rfl

theorem Cert.Reference2Ideal.Value.frame : Cert.quiescent_Reference2Ideal (hReference2Ideal := Cert.Reference2Ideal.Gen.facts) := fun m g _ =>
  (θ_run _ _ _).mono (fun r h => ⟨fun c => (h c).2.2.2, sem_eq_zero_of_no_sems (by decide) r.2⟩) (Cert.Reference2Ideal.Value.run m g)
-- ==== Proof.WgradFf1.lean ====
module
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The gradient of the first weight of the MLP: the kernel's blocks, each summed over the two halves of the rows,
    are the one sum over all rows which the reference's product is. -/
@[expose] public section
set_option maxRecDepth 16384
open Idealize.ShloMosaic Idealize.ShloMosaic.TcCoe Idealize.SL.Sem
open Idealize.ShloMosaic.Pipeline (Dat)
namespace Cert.Kernel4Ideal.Value
open Cert.Kernel4Ideal Cert.Kernel4Ideal.Gen
variable (m : (ℓ : Loc nD τ sig) → Buf (Elt Ideal) ℓ)

/-- The reference's result, as its run leaves it. -/
noncomputable def REF (H : Vec Ideal S4096x1024 .bf16) (D : Vec Ideal S4096x4096 .bf16) : Vec Ideal S8x1024x512 .bf16 :=
  transpose Cert.Reference4Ideal.S8x1024x512 [1, 0, 2] (shapeCast _ (truncf .bf16 (transpose Cert.Reference4Ideal.S1024x4096 [1, 0] (Host.dotGeneral (F := Ideal) Cert.Reference4Ideal.dot_S4096x4096_S4096x1024_S4096x1024_0_0_1_1_n_n none (extf .f32 D Cert.Reference4Ideal.Gen.bitsLt_bf16_f32) (extf .f32 H Cert.Reference4Ideal.Gen.bitsLt_bf16_f32)) Cert.Reference4Ideal.Gen.transposes_S4096x1024_S1024x4096_1_0) Cert.Reference4Ideal.Gen.bitsLt_bf16_f32) Cert.Reference4Ideal.Gen.shapeCasts_S1024x4096_S1024x8x512) Cert.Reference4Ideal.Gen.transposes_S1024x8x512_S8x1024x512_1_0_2

theorem ref_at (H D) (q : Fin 8) (a : Fin 1024) (b : Fin 512) : REF H D (ix3 q a b)
    = ∑ s : Fin 4096, H (ix2 s a) * D (ix2 s ⟨q.val * 512 + b.val, by omega⟩) := by
  pointwise [REF]
  refine Fin.sum_fin_congr fun s => (mul_comm (_ : EReal) _).trans ?_
  blk_point []

theorem zero_at (j) : k0_pay1 (F := Ideal) j = 0 := by pointwise [k0_pay1]
theorem add_at (a x y j) : k0_pay2 (F := Ideal) a x y j = a j + ∑ k : Fin 2048, x (ix2 k (j 0)) * y (ix2 k (j 1)) := by
  pointwise [k0_pay2]
theorem cast_lo (a j) : k0_pay3 (F := Ideal) a j = a (ix2 (j 1) (j 2)) := by pointwise [k0_pay3]
theorem cast_hi (a j) : k0_pay4 (F := Ideal) a j = a (ix2 (j 1) (j 2)) := by pointwise [k0_pay4]

theorem ld_lo (Y : Vec Ideal S1024x1024 .f32) (a : Fin 1024) (b : Fin 512) :
    View.ld Y (Rect.unit ![0, 0] ![1024, 512] inb_S1024x1024_S1024x512_0_0) (ix2 a b) = Y (ix2 a ⟨b.val, by omega⟩) := by
  pointwise
theorem ld_hi (Y : Vec Ideal S1024x1024 .f32) (a : Fin 1024) (b : Fin 512) :
    View.ld Y (Rect.unit ![0, 512] ![1024, 512] inb_S1024x1024_S1024x512_0_512) (ix2 a b) = Y (ix2 a ⟨512 + b.val, by omega⟩) := by
  pointwise

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The two blocks a point reads: half the rows of each factor. -/
noncomputable def LB (c : Dev nD) (t : Fin cfg0.N) : Vec Ideal S2048x1024 .bf16 := iblk m c 0 t
noncomputable def RB (c : Dev nD) (t : Fin cfg0.N) : Vec Ideal S2048x1024 .bf16 := iblk m c 1 t

/-- A point's share of the sum. -/
noncomputable def PART (c : Dev nD) (t : Fin cfg0.N) (j : S1024x1024.Idx) : EReal := ∑ k : Fin 2048, LB m c t (ix2 k (j 0)) * RB m c t (ix2 k (j 1))

/-- The accumulator after the first half of the rows. -/
theorem half (c : Dev nD) (t : Fin cfg0.N) (h0 : t.val % 2 = 0) (h1 : ¬t.val % 2 = 1) (j) :
    (outsAt0 m c t.val t.isLt).2 j = PART m c t j := by
  rw [outsAt0_A m c t h0 h1]
  frame_out
  rw [add_at, zero_at, zero_add]; rfl

/-- What is written back after the second half. -/
theorem whole (c : Dev nD) (t : Fin cfg0.N) (h0 : ¬t.val % 2 = 0) (h1 : t.val % 2 = 1) (q : Fin 2) (a : Fin 1024) (b : Fin 512) :
    (outsAt0 m c t.val t.isLt).1 (ix3 q a b) = (outsAt0 m c (t.val - 1) (Nat.lt_of_le_of_lt (Nat.sub_le _ _) t.isLt)).2 (ix2 a ⟨q.val * 512 + b.val, by omega⟩)
      + PART m c t (ix2 a ⟨q.val * 512 + b.val, by omega⟩) := by
  rw [outsAt0_B m c t h0 h1]
  frame_out
  canon_tiles x hx
  · have e0 : q.val = 1 + (x 0).val := hx0
    have e1 : a.val = (x 1).val := hx1
    have e2 : b.val = (x 2).val := hx2
    have e : (ix2 a ⟨q.val * 512 + b.val, by omega⟩ : S1024x1024.Idx) = ix2 (x 1) ⟨512 + (x 2).val, by omega⟩ := by
      blk_ext
    rw [cast_hi, e]
    simp (disch := decide) only [↓ View.readCov_fill]
    refine (ld_hi _ _ _).trans ?_
    rw [add_at, read_unread_whole]; rfl
  · have e0 : q.val = (x 0).val := hx0
    have e1 : a.val = (x 1).val := hx1
    have e2 : b.val = (x 2).val := hx2
    have e : (ix2 a ⟨q.val * 512 + b.val, by omega⟩ : S1024x1024.Idx) = ix2 (x 1) ⟨(x 2).val, by omega⟩ := by
      blk_ext
    rw [cast_lo, e]
    simp (disch := decide) only [↓ View.readCov_fill]
    refine (ld_lo _ _ _).trans ?_
    rw [add_at, read_unread_whole]; rfl

theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t hf y => ?_
  have h1 := (flush0_2 t).mp hf
  have h0 : ¬ t.val % 2 = 0 := by omega
  blk_simp
  have ht : t.val < 8 := lt_of_lt_of_eq t.isLt N_0
  have hp : t.val - 1 < cfg0.N := Nat.lt_of_le_of_lt (Nat.sub_le _ _) t.isLt
  rw [after0_2]
  obtain ⟨q, a, b, rfl⟩ : ∃ (q : Fin 2) (a : Fin 1024) (b : Fin 512), y = ix3 q a b := ⟨y 0, y 1, y 2, by blk_ext⟩
  have hq : t.val / 2 * 2 + q.val < 8 := by omega
  have e : ((win0_2.blk t).view.emb (ix3 q a b) : S8x1024x512.Idx) = ix3 ⟨t.val / 2 * 2 + q.val, hq⟩ a b := by blk_ext [idx t]
  rw [e]
  refine (whole m c t h0 h1 q a b).trans ?_
  rw [half m c ⟨t.val - 1, hp⟩ (by show (t.val - 1) % 2 = 0; omega) (by show ¬ (t.val - 1) % 2 = 1; omega), ref_at]
  show (_ : EReal) = _
  refine Eq.trans ?_ (Fin.sum_mul_add_fin 2 2048 _)
  rw [Fin.sum_univ_two]
  unfold PART LB RB
  refine congrArg₂ (· + ·) (Fin.sum_fin_congr fun k => ?_) (Fin.sum_fin_congr fun k => ?_)
  · blk_point [iblk, V, idx t, idx ⟨t.val - 1, hp⟩]
  · blk_point [iblk, V, idx t]
end Cert.Kernel4Ideal.Value
-- ==== Proof.WgradFf2.lean ====
module
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The gradient of the second weight of the MLP: the kernel's blocks, each summed over the two halves of the rows,
    are the one sum over all rows which the reference's product is. -/
@[expose] public section
set_option maxRecDepth 16384
open Idealize.ShloMosaic Idealize.ShloMosaic.TcCoe Idealize.SL.Sem
open Idealize.ShloMosaic.Pipeline (Dat)
namespace Cert.Kernel3Ideal.Value
open Cert.Kernel3Ideal Cert.Kernel3Ideal.Gen
variable (m : (ℓ : Loc nD τ sig) → Buf (Elt Ideal) ℓ)

/-- The reference's result, as its run leaves it. -/
noncomputable def REF (U : Vec Ideal S4096x4096 .bf16) (D : Vec Ideal S4096x1024 .bf16) : Vec Ideal S4096x1024 .bf16 :=
  truncf .bf16 (transpose Cert.Reference3Ideal.S4096x1024 [1, 0] (Host.dotGeneral (F := Ideal) Cert.Reference3Ideal.dot_S4096x1024_S4096x4096_S1024x4096_0_0_1_1_n_n none (extf .f32 D Cert.Reference3Ideal.Gen.bitsLt_bf16_f32) (extf .f32 U Cert.Reference3Ideal.Gen.bitsLt_bf16_f32)) Cert.Reference3Ideal.Gen.transposes_S1024x4096_S4096x1024_1_0) Cert.Reference3Ideal.Gen.bitsLt_bf16_f32

theorem ref_at (U D j) : REF U D j = ∑ s : Fin 4096, U (ix2 s (j 0)) * D (ix2 s (j 1)) := by
  pointwise [REF]
  refine Fin.sum_fin_congr fun s => mul_comm (_ : EReal) _

theorem zero_at (j) : k0_pay1 (F := Ideal) j = 0 := by pointwise [k0_pay1]
theorem add_at (a x y j) : k0_pay2 (F := Ideal) a x y j = a j + ∑ k : Fin 2048, x (ix2 k (j 0)) * y (ix2 k (j 1)) := by
  pointwise [k0_pay2]
theorem cast_at (a j) : k0_pay3 (F := Ideal) a j = a j := by pointwise [k0_pay3]

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The two blocks a point reads: half the rows of each factor. -/
noncomputable def LB (c : Dev nD) (t : Fin cfg0.N) : Vec Ideal S2048x1024 .bf16 := iblk m c 0 t
noncomputable def RB (c : Dev nD) (t : Fin cfg0.N) : Vec Ideal S2048x1024 .bf16 := iblk m c 1 t

/-- A point's share of the sum. -/
noncomputable def PART (c : Dev nD) (t : Fin cfg0.N) (j : S1024x1024.Idx) : EReal := ∑ k : Fin 2048, LB m c t (ix2 k (j 0)) * RB m c t (ix2 k (j 1))

/-- The accumulator after the first half of the rows. -/
theorem half (c : Dev nD) (t : Fin cfg0.N) (h0 : t.val % 2 = 0) (h1 : ¬t.val % 2 = 1) (j) :
    (outsAt0 m c t.val t.isLt).2 j = PART m c t j := by
  rw [outsAt0_A m c t h0 h1]
  frame_out
  rw [add_at, zero_at, zero_add]; rfl

/-- What is written back after the second half. -/
theorem whole (c : Dev nD) (t : Fin cfg0.N) (h0 : ¬t.val % 2 = 0) (h1 : t.val % 2 = 1) (j) :
    (outsAt0 m c t.val t.isLt).1 j = (outsAt0 m c (t.val - 1) (Nat.lt_of_le_of_lt (Nat.sub_le _ _) t.isLt)).2 j + PART m c t j := by
  rw [outsAt0_B m c t h0 h1]
  frame_out
  rw [cast_at, add_at, read_unread_whole]; rfl

theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t hf y => ?_
  have h1 := (flush0_2 t).mp hf
  have h0 : ¬ t.val % 2 = 0 := by omega
  blk_simp
  rw [after0_2, whole m c t h0 h1]
  have hp : t.val - 1 < cfg0.N := Nat.lt_of_le_of_lt (Nat.sub_le _ _) t.isLt
  rw [half m c ⟨t.val - 1, hp⟩ (by show (t.val - 1) % 2 = 0; omega) (by show ¬ (t.val - 1) % 2 = 1; omega), ref_at]
  show (_ : EReal) = _
  refine Eq.trans ?_ (Fin.sum_mul_add_fin 2 2048 _)
  rw [Fin.sum_univ_two]
  unfold PART LB RB
  have ht : t.val < 8 := lt_of_lt_of_eq t.isLt N_0
  refine congrArg₂ (· + ·) (Fin.sum_fin_congr fun k => ?_) (Fin.sum_fin_congr fun k => ?_)
  · blk_point [iblk, V, idx t, idx ⟨t.val - 1, hp⟩]
  · blk_point [iblk, V, idx t]
end Cert.Kernel3Ideal.Value
-- ==== Proof.WgradClaims.lean ====
module
public import proofs.«01_k».proof.Defs
public import proofs.«01_k».proof.Proof.WgradFf1
public import proofs.«01_k».proof.Proof.WgradFf2
/-! The claims on the gradients of the two weights of the MLP: each kernel's array and the reference's result are one
    function of the arguments. -/
@[expose] public section
open Idealize.ShloMosaic Idealize.ShloMosaic.TcCoe Idealize.SL.Sem

theorem Cert.Kernel3Ideal.Value.claim : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Value.REF (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run _ _ _).mono (fun r h c => ⟨(h c).1.trans (Cert.Kernel3Ideal.Value.final m c), (h c).2⟩) (Cert.Kernel3Ideal.Value.run_blocks m g)
  · refine (θ_run _ _ _).mono (fun r h c => ⟨(h c).1.trans ?_, (h c).2⟩) (Cert.Reference3Ideal.Value.run m' g')
    rw [(hag c).1, (hag c).2]; rfl

theorem Cert.Kernel4Ideal.Value.claim : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Value.REF (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run _ _ _).mono (fun r h c => ⟨(h c).1.trans (Cert.Kernel4Ideal.Value.final m c), (h c).2⟩) (Cert.Kernel4Ideal.Value.run_blocks m g)
  · refine (θ_run _ _ _).mono (fun r h c => ⟨(h c).1.trans ?_, (h c).2⟩) (Cert.Reference4Ideal.Value.run m' g')
    rw [(hag c).1, (hag c).2]; rfl

theorem Cert.Reference3Ideal.Value.frame : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem Cert.Reference4Ideal.Value.frame : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)
-- ==== Proof.InBwd.lean ====
module
public import proofs.«01_k».proof.Proof.Gen.Kernel5Ideal.Value
public import proofs.«01_k».proof.Proof.Gen.Reference5Ideal.Run
public import proofs.«01_k».proof.Proof.Rms
public import proofs.«01_k».proof.Proof.Slot
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The gradient of the input projection and its norm: the call's two arrays as functions of its arguments. -/
@[expose] public section
set_option maxRecDepth 16384
open Idealize.ShloMosaic Idealize.ShloMosaic.TcCoe Idealize.SL.Sem
open Idealize.ShloMosaic.Pipeline (Dat)
namespace Cert.Kernel5Ideal.Value
open Cert.Kernel5Ideal Cert.Kernel5Ideal.Gen
variable (m : (ℓ : Loc nD τ sig) → Buf (Elt Ideal) ℓ)
/-- The gradient of the normalised row, times the gain. -/
noncomputable def DN (Z : Vec Ideal S4096x2560 .bf16) (W : Vec Ideal S1024x2560 .f32) (s : Fin 4096) (i : Fin 1024) : EReal :=
  ∑ x : Fin 2560, Z (ix2 s x) * W (ix2 i x)

/-- The gradient of the input at one element. -/
noncomputable def DX (Z : Vec Ideal S4096x2560 .bf16) (W : Vec Ideal S1024x2560 .f32) (X : Vec Ideal S4096x1024 .f32) (G : Vec Ideal S1x1024 .f32)
    (D : Vec Ideal S4096x1024 .f32) (s : Fin 4096) (i : Fin 1024) : EReal :=
  D (ix2 s i) + Cert.Rms.bwdK (fun k => X (ix2 s k)) (fun k => DN Z W s k * G (ix2 0 k)) i

/-- One row's term of the gradient of the gain. -/
noncomputable def DGT (Z : Vec Ideal S4096x2560 .bf16) (W : Vec Ideal S1024x2560 .f32) (X : Vec Ideal S4096x1024 .f32) (i : Fin 1024) (s : Fin 4096) : EReal :=
  DN Z W s i * (X (ix2 s i) * Cert.Rms.rs (fun k => X (ix2 s k)))

theorem dx_pay (v3 v4 v5 v6 v34) (r i : Fin 1024) : k0_pay7 (F := Ideal) v3 v4 v5 v6 v34 (ix2 r i) = v34 (ix2 r i) + Cert.Rms.bwdK (fun k => v3 (ix2 r k))
    (fun k => (∑ x : Fin 2560, v5 (ix2 r x) * v6 (ix2 x k)) * v4 (ix2 0 k)) i := by
  pointwise [k0_pay7, k0_pay3, k0_pay5, k0_pay4]
  rfl

theorem dg_pay (v3 v5 v6) (i : Fin 1024) : k0_pay6 (F := Ideal) v3 v5 v6 (ix2 0 i) = ∑ r : Fin 1024,
    (∑ x : Fin 2560, v5 (ix2 r x) * v6 (ix2 x i)) * (v3 (ix2 r i) * Cert.Rms.rs (fun k => v3 (ix2 r k))) := by
  pointwise [k0_pay6, k0_pay3, k0_pay5, k0_pay4]
  rfl

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

noncomputable def ZB (c : Dev nD) (t : Fin cfg0.N) : Vec Ideal S1024x2560 .bf16 := iblk m c 0 t
noncomputable def WB (c : Dev nD) (t : Fin cfg0.N) : Vec Ideal S2560x1024 .bf16 := iblk m c 1 t
noncomputable def XB (c : Dev nD) (t : Fin cfg0.N) : Vec Ideal S1024x1024 .f32 := iblk m c 2 t
noncomputable def GB (c : Dev nD) (t : Fin cfg0.N) : Vec Ideal S1x1024 .f32 := iblk m c 3 t
noncomputable def DB (c : Dev nD) (t : Fin cfg0.N) : Vec Ideal S1024x1024 .f32 := iblk m c 4 t

theorem row_lt (t : Fin cfg0.N) (r : Fin 1024) : 1024 * t.val + r.val < 4096 := by
  have : t.val < 4 := lt_of_lt_of_eq t.isLt N_0
  omega

theorem zb (c t) (r : Fin 1024) (x : Fin 2560) : ZB m c t (ix2 r x) = (m ((c.tc : Thread nD τ).loc main_arg0) : Vec Ideal S4096x2560 .bf16) (ix2 ⟨1024 * t.val + r.val, row_lt t r⟩ x) := by
  unfold ZB; blk_point [iblk, V, idx t]
theorem wb (c t) (x : Fin 2560) (k : Fin 1024) : WB m c t (ix2 x k) = (m ((c.tc : Thread nD τ).loc main_arg1) : Vec Ideal S1024x2560 .f32) (ix2 k x) := by
  unfold WB; blk_point [iblk, V, idx t]
theorem xb (c t) (r : Fin 1024) (x : Fin 1024) : XB m c t (ix2 r x) = (m ((c.tc : Thread nD τ).loc main_arg2) : Vec Ideal S4096x1024 .f32) (ix2 ⟨1024 * t.val + r.val, row_lt t r⟩ x) := by
  unfold XB; blk_point [iblk, V, idx t]
theorem gb (c t) (r : Fin 1) (x : Fin 1024) : GB m c t (ix2 r x) = (m ((c.tc : Thread nD τ).loc main_arg3) : Vec Ideal S1x1024 .f32) (ix2 r x) := by
  unfold GB; blk_point [iblk, V, idx t]
theorem db (c t) (r : Fin 1024) (x : Fin 1024) : DB m c t (ix2 r x) = (m ((c.tc : Thread nD τ).loc main_arg4) : Vec Ideal S4096x1024 .f32) (ix2 ⟨1024 * t.val + r.val, row_lt t r⟩ x) := by
  unfold DB; blk_point [iblk, V, idx t]

/-- The gradient of the input, at a point and a row of its block. -/
noncomputable def DXP (c : Dev nD) (t : Fin cfg0.N) (r i : Fin 1024) : EReal :=
  DX (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) ⟨1024 * t.val + r.val, row_lt t r⟩ i

theorem dx_row (c t) (r i : Fin 1024) : k0_pay7 (F := Ideal) (XB m c t) (GB m c t) (ZB m c t) (WB m c t) (DB m c t) (ix2 r i) = DXP m c t r i := by
  refine (dx_pay _ _ _ _ _ r i).trans ?_
  simp only [zb, wb, xb, gb, db]
  rfl

theorem dx_point (c t) (j : S1024x1024.Idx) : k0_pay7 (F := Ideal) (XB m c t) (GB m c t) (ZB m c t) (WB m c t) (DB m c t) j = DXP m c t (j 0) (j 1) :=
  (congrArg _ (eq_ix2 j)).trans (dx_row m c t (j 0) (j 1))

theorem dx_A (c : Dev nD) (t : Fin cfg0.N) (h0 : t.val % 4 = 0) (j) : (outsAt0 m c t.val t.isLt).1 j = DXP m c t (j 0) (j 1) := by
  rw [outsAt0_A m c t h0]
  frame_out
  exact dx_point m c t j

theorem dx_B (c : Dev nD) (t : Fin cfg0.N) (h0 : ¬ t.val % 4 = 0) (j) : (outsAt0 m c t.val t.isLt).1 j = DXP m c t (j 0) (j 1) := by
  rw [outsAt0_B m c t h0]
  frame_out
  exact dx_point m c t j

/-- A point's share of the gradient of the gain. -/
noncomputable def DGP (c : Dev nD) (t : Fin cfg0.N) (i : Fin 1024) : EReal :=
  ∑ r : Fin 1024, DGT (m ((c.tc : Thread nD τ).loc main_arg0)) (m ((c.tc : Thread nD τ).loc main_arg1)) (m ((c.tc : Thread nD τ).loc main_arg2)) i ⟨1024 * t.val + r.val, row_lt t r⟩

theorem dg_point (c t) (i : Fin 1024) : k0_pay6 (F := Ideal) (XB m c t) (ZB m c t) (WB m c t) (ix2 0 i) = DGP m c t i := by
  refine (dg_pay _ _ _ i).trans ?_
  simp only [zb, wb, xb]
  rfl

theorem add_pay (a b j) : k0_pay1 (F := Ideal) a b j = b j + a j := by pointwise [k0_pay1]
theorem zero_pay (j) : k0_pay2 (F := Ideal) j = 0 := by pointwise [k0_pay2]

theorem slot_A (c : Dev nD) (t : Fin cfg0.N) (h0 : t.val % 4 = 0) (j : S8x1024.Idx) :
    (outsAt0 m c t.val t.isLt).2 j = if (j 0 : ℕ) = 0 then DGP m c t (j 1) else 0 := by
  rw [outsAt0_A m c t h0]
  frame_out
  rw [← View.read_writes_junk_apply_eq_canon (ms0_6 t).view j]
  refine (Cert.Slot.row_writes _ _ _ _ _ _).trans ?_
  rw [Cert.Slot.all_writes, zero_pay]
  split
  · simp (disch := decide) only [↓ View.readCov_fill, ↓ View.readCov_skip]
    rw [add_pay]
    refine (congrArg₂ (· + ·) (?_ : _ = (0 : EReal)) (dg_point m c t (j 1))).trans (zero_add _)
    exact zero_pay _
  · rfl

theorem slot_B (c : Dev nD) (t : Fin cfg0.N) (h0 : ¬ t.val % 4 = 0) (j : S8x1024.Idx) :
    (outsAt0 m c t.val t.isLt).2 j = (outsAt0 m c (t.val - 1) (Nat.lt_of_le_of_lt (Nat.sub_le _ _) t.isLt)).2 j + if (j 0 : ℕ) = 0 then DGP m c t (j 1) else 0 := by
  rw [outsAt0_B m c t h0]
  frame_out
  refine (Cert.Slot.row_writes _ _ _ _ _ _).trans ?_
  split
  · next hj =>
    rw [add_pay]
    refine congrArg₂ (· + ·) ?_ (dg_point m c t (j 1))
    conv_rhs => rw [Cert.Slot.first j hj]
    pointwise
  · rw [add_zero]
    exact congrFun (Memref.IsWhole.read_unread _ _) j

/-- The gradient of the gain in the first row of its slot, zeros below. -/
noncomputable def SL (Z : Vec Ideal S4096x2560 .bf16) (W : Vec Ideal S1024x2560 .f32) (X : Vec Ideal S4096x1024 .f32) (j : S8x1024.Idx) : EReal :=
  if (j 0 : ℕ) = 0 then ∑ s : Fin 4096, DGT Z W X (j 1) s else 0

theorem three : 3 < cfg0.N := lt_of_lt_of_eq (by decide : 3 < 4) N_0.symm

/-- What the point `n` leaves of the slot, at one element. -/
noncomputable def slv (c : Dev nD) (j : S8x1024.Idx) (n : ℕ) (h : n < cfg0.N) : EReal := (outsAt0 m c n h).2 j

/-- One row's term of the slot. -/
noncomputable def slt (c : Dev nD) (j : S8x1024.Idx) (s : Fin 4096) : EReal :=
  if (j 0 : ℕ) = 0 then DGT (m ((c.tc : Thread nD τ).loc main_arg0)) (m ((c.tc : Thread nD τ).loc main_arg1)) (m ((c.tc : Thread nD τ).loc main_arg2)) (j 1) s else 0

theorem slt_sum (c : Dev nD) (j : S8x1024.Idx) {n : ℕ} (g : Fin n → Fin 4096) : (∑ r : Fin n, slt m c j (g r))
    = if (j 0 : ℕ) = 0 then ∑ r : Fin n, DGT (m ((c.tc : Thread nD τ).loc main_arg0)) (m ((c.tc : Thread nD τ).loc main_arg1)) (m ((c.tc : Thread nD τ).loc main_arg2)) (j 1) (g r) else 0 := by
  unfold slt
  split
  · rfl
  · exact Finset.sum_const_zero

theorem out_sl (c : Dev nD) (j : S8x1024.Idx) : slv m c j 3 three
    = SL (m ((c.tc : Thread nD τ).loc main_arg0)) (m ((c.tc : Thread nD τ).loc main_arg1)) (m ((c.tc : Thread nD τ).loc main_arg2)) j := by
  refine (Cert.Slot.total 1024 4096 (slt m c j) (slv m c j) (fun k h r => row_lt ⟨k, h⟩ r) (fun h => ?_) (fun k h hk => ?_) 3 three rfl).trans ?_
  · rw [slt_sum]
    exact slot_A m c ⟨0, h⟩ rfl j
  · rw [slt_sum]
    have : k < 4 := lt_of_lt_of_eq h N_0
    exact slot_B m c ⟨k, h⟩ (by show ¬ k % 4 = 0; omega) j
  · exact slt_sum m c j id

theorem arr6 (c : Dev nD) : (dats m 0 c).arrAt 6 cfg0.N = SL (m ((c.tc : Thread nD τ).loc main_arg0)) (m ((c.tc : Thread nD τ).loc main_arg1)) (m ((c.tc : Thread nD τ).loc main_arg2)) := by
  refine (dats m 0 c).arrAt_eq_of_after_last 6 t0_3 (by decide +kernel) _ fun j => ?_
  blk_simp
  rw [after0_6]
  exact out_sl m c j

theorem dx_all (c : Dev nD) (t : Fin cfg0.N) (j) : (outsAt0 m c t.val t.isLt).1 j = DXP m c t (j 0) (j 1) := by
  by_cases h : t.val % 4 = 0
  · exact dx_A m c t h j
  · exact dx_B m c t h j

/-- The array of the gradient of the input. -/
noncomputable def DXA (Z : Vec Ideal S4096x2560 .bf16) (W : Vec Ideal S1024x2560 .f32) (X : Vec Ideal S4096x1024 .f32) (G : Vec Ideal S1x1024 .f32)
    (D : Vec Ideal S4096x1024 .f32) (j : S4096x1024.Idx) : EReal := DX Z W X G D (j 0) (j 1)

theorem arr5 (c : Dev nD) : (dats m 0 c).arrAt 5 cfg0.N = DXA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  blk_simp
  rw [after0_5, dx_all m c t]
  have e : ((win0_5.blk t).view.emb y : S4096x1024.Idx) = ix2 ⟨1024 * t.val + (y 0).val, row_lt t (y 0)⟩ (y 1) := by blk_ext [idx t]
  rw [e]
  rfl
end Cert.Kernel5Ideal.Value
-- ==== Proof.InBwdClaim.lean ====
module
public import proofs.«01_k».proof.Proof.Gen.Kernel5Ideal.Value
public import proofs.«01_k».proof.Proof.Gen.Reference5Ideal.Run
public import proofs.«01_k».proof.Proof.InBwd
public import proofs.«01_k».proof.Defs
public import proofs.«01_k».proof.Proof.Gen.Pre_finite5
public import proofs.«01_k».proof.Proof.Slot
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The claim on the gradient of the input projection and its norm: the reference's results are the same functions of the
    arguments as the call's arrays, where the arguments of the call are real numbers. -/
@[expose] public section
set_option maxRecDepth 16384
open Idealize.ShloMosaic Idealize.ShloMosaic.TcCoe Idealize.SL.Sem
namespace Cert.Kernel5Ideal.Value
open Cert.Kernel5Ideal
open Cert.Reference5Ideal.Gen Cert.Reference5Ideal.Value

/-- The reference's gradient of the input at one element. -/
noncomputable def RX (Z : Vec Ideal S4096x2560 .bf16) (W : Vec Ideal S1024x2560 .f32) (X : Vec Ideal S4096x1024 .f32) (G : Vec Ideal S1x1024 .f32)
    (D : Vec Ideal S4096x1024 .f32) (s : Fin 4096) (i : Fin 1024) : EReal :=
  D (ix2 s i) + Cert.Rms.bwdR (fun k => X (ix2 s k)) (fun k => DN Z W s k * G (ix2 0 k)) i

theorem ref_dx (m' : (ℓ : Loc nD Cert.Reference5Ideal.τ Cert.Reference5Ideal.sig) → Buf (Elt Ideal) ℓ) (c : Dev nD) (r : Fin 4096) (i : Fin 1024) :
    (res_main_v40 (F := Ideal) m' c : Vec Ideal S4096x1024 .f32) (ix2 r i)
      = RX (m' ((c.tc : Thread nD Cert.Reference5Ideal.τ).loc Cert.Reference5Ideal.main_arg0)) (m' ((c.tc : Thread nD Cert.Reference5Ideal.τ).loc Cert.Reference5Ideal.main_arg1))
        (m' ((c.tc : Thread nD Cert.Reference5Ideal.τ).loc Cert.Reference5Ideal.main_arg2)) (m' ((c.tc : Thread nD Cert.Reference5Ideal.τ).loc Cert.Reference5Ideal.main_arg3))
        (m' ((c.tc : Thread nD Cert.Reference5Ideal.τ).loc Cert.Reference5Ideal.main_arg4)) r i := by
  pointwise [res_main_v40]
  rfl

theorem ref_slot (Z : Vec Ideal S4096x2560 .bf16) (W : Vec Ideal S1024x2560 .f32) (X : Vec Ideal S4096x1024 .f32) (r : Fin 8) (i : Fin 1024) :
    (if _ : (r : ℕ) < 1 then ∑ _ : Fin 1, ∑ s : Fin 4096, X (ix2 s i) * Cert.Rms.rs (fun k => X (ix2 s k)) * DN Z W s i
      else FloatOps.sitofp (F := Ideal) .f32 (0#32)) = SL Z W X (ix2 r i) := by
  unfold SL
  by_cases hr : (r : ℕ) = 0
  · rw [dif_pos (by omega : (r : ℕ) < 1), if_pos (show ((ix2 r i : S8x1024.Idx) 0 : ℕ) = 0 from hr), Fin.sum_univ_one]
    exact Finset.sum_congr rfl fun s _ => mul_comm (_ : EReal) _
  · rw [dif_neg (by omega : ¬ (r : ℕ) < 1), if_neg (show ¬ ((ix2 r i : S8x1024.Idx) 0 : ℕ) = 0 from hr), Cert.Slot.zero_int]

theorem real (Z W X G D) (h : Cert.Pre_finite5.fn (F := Ideal) Z W X G D = fun _ => 1#1) :
    (∀ j, Cert.Reals.Is (Z j)) ∧ (∀ j, Cert.Reals.Is (W j)) ∧ (∀ j, Cert.Reals.Is (X j)) ∧ ∀ j, Cert.Reals.Is (G j) := by
  have e := congrFun h ix0
  dsimp only [Cert.Pre_finite5.fn, Cert.Pre_finite5.fn_part1] at e
  obtain ⟨e, h3⟩ := IntOp.andi_eq_one.1 e
  obtain ⟨e, h2⟩ := IntOp.andi_eq_one.1 e
  obtain ⟨h0, h1⟩ := IntOp.andi_eq_one.1 e
  exact ⟨Cert.Reals.is_of_all _ _ _ _ _ _ _ h0, Cert.Reals.is_of_all _ _ _ _ _ _ _ h1, Cert.Reals.is_of_all _ _ _ _ _ _ _ h2, Cert.Reals.is_of_all _ _ _ _ _ _ _ h3⟩

theorem dx_eq (Z W X G D) (h : Cert.Pre_finite5.fn (F := Ideal) Z W X G D = fun _ => 1#1) (r : Fin 4096) (i : Fin 1024) : RX Z W X G D r i = DX Z W X G D r i := by
  obtain ⟨hz, hw, hx, hg⟩ := real Z W X G D h
  unfold RX DX
  exact congrArg (D (ix2 r i) + ·) (Cert.Rms.bwd_eq (x := fun k => X (ix2 r k)) (d := fun k => DN Z W r k * G (ix2 0 k)) (fun k => hx _) (fun k => Cert.Reals.is_mul (Cert.Reals.is_sum _ _ fun x _ => Cert.Reals.is_mul (hz _) (hw _)) (hg _)) i).symm

end Cert.Kernel5Ideal.Value

theorem Cert.Kernel5Ideal.Value.claim : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hp hag
  refine ⟨fun c => Cert.Kernel5Ideal.Value.DXA (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Kernel5Ideal.Value.SL (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · exact (θ_run _ _ _).mono (fun r h c => ⟨(h c).1.trans (Cert.Kernel5Ideal.Value.arr5 m c), (h c).2.1.trans (Cert.Kernel5Ideal.Value.arr6 m c), (h c).2.2⟩)
      (Cert.Kernel5Ideal.Value.run_blocks m g)
  · refine (θ_run _ _ _).mono (fun r h c => ⟨(h c).1.trans ?_, (h c).2.1.trans ?_, (h c).2.2⟩) (Cert.Reference5Ideal.Value.run m' g')
    · obtain ⟨h0, h1, h2, h3, h4⟩ := hag c
      funext j
      rw [show j = ix2 (j 0) (j 1) from eq_ix2 (n0 := 4096) (n1 := 1024) j]
      refine (Cert.Kernel5Ideal.Value.ref_dx m' c (j 0) (j 1)).trans ?_
      rw [h0, h1, h2, h3, h4]
      exact Cert.Kernel5Ideal.Value.dx_eq _ _ _ _ _ (hp c) (j 0) (j 1)
    · obtain ⟨h0, h1, h2, h3, h4⟩ := hag c
      rw [h0, h1, h2]
      beta_reduce
      generalize m ((c.tc : Thread Cert.Kernel5Ideal.nD Cert.Kernel5Ideal.τ).loc Cert.Kernel5Ideal.main_arg0) = Z
      generalize m ((c.tc : Thread Cert.Kernel5Ideal.nD Cert.Kernel5Ideal.τ).loc Cert.Kernel5Ideal.main_arg1) = W
      generalize m ((c.tc : Thread Cert.Kernel5Ideal.nD Cert.Kernel5Ideal.τ).loc Cert.Kernel5Ideal.main_arg2) = X
      funext j
      obtain ⟨r, i, rfl⟩ : ∃ (r : Fin 8) (i : Fin 1024), j = ix2 r i := ⟨j 0, j 1, eq_ix2 j⟩
      pointwise
      exact Cert.Kernel5Ideal.Value.ref_slot Z W X r i

theorem Cert.Reference5Ideal.Value.frame : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)
-- ==== Proof.Adam.lean ====
module
public import Idealize.ShloMosaic.Lib.Pipeline.ValueKit
public import Idealize.ShloMosaic.Lib.Pointwise
/-! The step of AdamW on one number, with the constants of the training step. -/
@[expose] public section
open Idealize.ShloMosaic
namespace Cert.Adam

/-- The new first moment. -/
noncomputable def first (g m : EReal) : EReal := Ideal.ofBits FTy.f32 0x3F666666#32 * m + Ideal.ofBits FTy.f32 0x3DCCCCCD#32 * g

/-- The new second moment. -/
noncomputable def second (g v : EReal) : EReal := Ideal.ofBits FTy.f32 0x3F7FBE77#32 * v + Ideal.ofBits FTy.f32 0x3A83126F#32 * (g * g)

/-- The change of the parameter. -/
noncomputable def delta (g w m v : EReal) : EReal := Ideal.ofBits FTy.f32 0xBA83126F#32
  * (Ideal.div (Ideal.div (first g m) (Ideal.ofBits FTy.f32 0x3F26BD02#32))
      (Ideal.sqrt (Ideal.div (second g v) (Ideal.ofBits FTy.f32 0x3C231ACC#32)) + Ideal.ofBits FTy.f32 0x322BCC77#32)
    + Ideal.ofBits FTy.f32 0x3C23D70A#32 * w)

end Cert.Adam
-- ==== Proof.WgradIn.lean ====
module
public import proofs.«01_k».proof.Proof.Gen.Kernel7Ideal.Value
public import proofs.«01_k».proof.Proof.Slot
public import proofs.«01_k».proof.Proof.Adam
public import Idealize.ShloMosaic.Lib.Pipeline.ValueKit
public import Idealize.ShloMosaic.Lib.Pointwise
public import Idealize.ShloMosaic.Lib.Pipeline.ReadBack
public import Idealize.ShloMosaic.Lib.Tactic.WordOmega
public import proofs.«01_k».proof.Defs
public import proofs.«01_k».proof.Proof.Gen.Reference7Ideal.Run
public import Idealize.ShloMosaic.Lib.Claim
/-! The gradient of the input projection's weight, whose accumulator gathers four blocks of rows for each half of the
    columns, and beside it, block by block, the update of the second weight of the MLP. -/
@[expose] public section
set_option maxRecDepth 16384
open Idealize.ShloMosaic Idealize.ShloMosaic.TcCoe Idealize.SL.Sem
open Idealize.ShloMosaic.Pipeline (Dat)
namespace Cert.Kernel7Ideal.Value
open Cert.Kernel7Ideal Cert.Kernel7Ideal.Gen
variable (m : (ℓ : Loc nD τ sig) → Buf (Elt Ideal) ℓ)

/-- The sum over the devices, and the three results of the step, at one element. -/
noncomputable def GS (R : Vec Ideal S8x512x1024 .bf16) (j : S512x1024.Idx) : EReal := ∑ d : Fin 8, R (ix3 d (j 0) (j 1))
noncomputable def FM (R : Vec Ideal S8x512x1024 .bf16) (M : Vec Ideal S512x1024 .f32) (j : S512x1024.Idx) : EReal := Cert.Adam.first (GS R j) (M j)
noncomputable def SM (R : Vec Ideal S8x512x1024 .bf16) (V : Vec Ideal S512x1024 .f32) (j : S512x1024.Idx) : EReal := Cert.Adam.second (GS R j) (V j)
noncomputable def DL (R : Vec Ideal S8x512x1024 .bf16) (W M V : Vec Ideal S512x1024 .f32) (j : S512x1024.Idx) : EReal := Cert.Adam.delta (GS R j) (W j) (M j) (V j)

/-- One row's term of one entry of the gradient, and the array of the sums. -/
noncomputable def TM (A : Vec Ideal S4096x2560 .bf16) (B : Vec Ideal S4096x1024 .bf16) (j : S2560x1024.Idx) (s : Fin 4096) : EReal := A (ix2 s (j 0)) * B (ix2 s (j 1))
noncomputable def DW (A : Vec Ideal S4096x2560 .bf16) (B : Vec Ideal S4096x1024 .bf16) (j : S2560x1024.Idx) : EReal := ∑ s : Fin 4096, TM A B j s

theorem zero_at (j) : k0_pay3 (F := Ideal) j = 0 := by pointwise [k0_pay3]
theorem add_at (a x y) (j : S1280x1024.Idx) : k0_pay4 (F := Ideal) a x y j = a j + ∑ k : Fin 1024, x (ix2 k (j 0)) * y (ix2 k (j 1)) := by
  pointwise [k0_pay4]
theorem cast_at (a j) : k0_pay2 (F := Ideal) a j = a j := by pointwise [k0_pay2]

theorem idx : ∀ t : Fin cfg0.N, win0_0.index t = ![t.val % 4, t.val / 4] ∧ win0_1.index t = ![t.val % 4, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val / 4, 0] :=
  (by decide +kernel : ∀ t : Fin grid0.N, _)

/-- The first four devices' terms of a block, and the fifth. -/
noncomputable abbrev lo (x : Vec Ideal S8x64x1024 .bf16) := k0_pay5 (F := Ideal) (View.ld x (Rect.unit ![0, 0, 0] ![1, 64, 1024] inb_S8x64x1024_S1x64x1024_0_0_0)) (View.ld x (Rect.unit ![1, 0, 0] ![1, 64, 1024] inb_S8x64x1024_S1x64x1024_1_0_0))
  (View.ld x (Rect.unit ![2, 0, 0] ![1, 64, 1024] inb_S8x64x1024_S1x64x1024_2_0_0)) (View.ld x (Rect.unit ![3, 0, 0] ![1, 64, 1024] inb_S8x64x1024_S1x64x1024_3_0_0))
noncomputable abbrev mid (x : Vec Ideal S8x64x1024 .bf16) := k0_pay6 (F := Ideal) (View.ld x (Rect.unit ![4, 0, 0] ![1, 64, 1024] inb_S8x64x1024_S1x64x1024_4_0_0))
noncomputable abbrev l5 (x : Vec Ideal S8x64x1024 .bf16) := View.ld x (Rect.unit ![5, 0, 0] ![1, 64, 1024] inb_S8x64x1024_S1x64x1024_5_0_0)
noncomputable abbrev l6 (x : Vec Ideal S8x64x1024 .bf16) := View.ld x (Rect.unit ![6, 0, 0] ![1, 64, 1024] inb_S8x64x1024_S1x64x1024_6_0_0)
noncomputable abbrev l7 (x : Vec Ideal S8x64x1024 .bf16) := View.ld x (Rect.unit ![7, 0, 0] ![1, 64, 1024] inb_S8x64x1024_S1x64x1024_7_0_0)

theorem sum_blk (x) (r : Fin 64) (i : Fin 1024) : k0_pay7 (F := Ideal) (lo x) (mid x) (l5 x) (l6 x) (l7 x) (ix2 r i) = ∑ d : Fin 8, x (ix3 d r i) := by
  rw [Fin.sum_univ_eight]
  unfold lo mid l5 l6 l7
  pointwise [k0_pay7, k0_pay5, k0_pay6]
theorem first_pay (a b p q s M) (j) : k0_pay8 (F := Ideal) a b p q s M j = Cert.Adam.first (k0_pay7 (F := Ideal) a b p q s j) (M j) := by
  pointwise [k0_pay8, k0_pay7]; rfl
theorem second_pay (a b p q s V) (j) : k0_pay9 (F := Ideal) a b p q s V j = Cert.Adam.second (k0_pay7 (F := Ideal) a b p q s j) (V j) := by
  pointwise [k0_pay9, k0_pay7]; rfl
theorem delta_pay (a b p q s W M V) (j) : k0_pay1 (F := Ideal) W (k0_pay10 a b p q s M) (k0_pay11 a b p q s V) j
    = Cert.Adam.delta (k0_pay7 (F := Ideal) a b p q s j) (W j) (M j) (V j) := by
  pointwise [k0_pay1, k0_pay10, k0_pay11, k0_pay8, k0_pay9, k0_pay7]; rfl

theorem row_lt (t : Fin cfg0.N) (r : Fin 64) : 64 * t.val + r.val < 512 := by
  have : t.val < 8 := lt_of_lt_of_eq t.isLt N_0
  omega
theorem sum_point (c t) (r : Fin 64) (i : Fin 1024) : k0_pay7 (F := Ideal) (lo (iblk m c 2 t)) (mid (iblk m c 2 t)) (l5 (iblk m c 2 t)) (l6 (iblk m c 2 t)) (l7 (iblk m c 2 t)) (ix2 r i)
    = GS (m ((c.tc : Thread nD τ).loc main_arg2)) (ix2 ⟨64 * t.val + r.val, row_lt t r⟩ i) := by
  refine (sum_blk _ r i).trans (Finset.sum_congr rfl fun d _ => ?_)
  blk_point [iblk, V, idx t]
theorem w_point (c t) (r : Fin 64) (i : Fin 1024) : (iblk m c 3 t : Vec Ideal S64x1024 .f32) (ix2 r i)
    = (m ((c.tc : Thread nD τ).loc main_arg3) : Vec Ideal S512x1024 .f32) (ix2 ⟨64 * t.val + r.val, row_lt t r⟩ i) := by
  blk_point [iblk, V, idx t]
theorem m_point (c t) (r : Fin 64) (i : Fin 1024) : (iblk m c 4 t : Vec Ideal S64x1024 .f32) (ix2 r i)
    = (m ((c.tc : Thread nD τ).loc main_arg4) : Vec Ideal S512x1024 .f32) (ix2 ⟨64 * t.val + r.val, row_lt t r⟩ i) := by
  blk_point [iblk, V, idx t]
theorem v_point (c t) (r : Fin 64) (i : Fin 1024) : (iblk m c 5 t : Vec Ideal S64x1024 .f32) (ix2 r i)
    = (m ((c.tc : Thread nD τ).loc main_arg5) : Vec Ideal S512x1024 .f32) (ix2 ⟨64 * t.val + r.val, row_lt t r⟩ i) := by
  blk_point [iblk, V, idx t]

/-- What a point leaves in the four blocks of the update, whichever of its three cases it is in. -/
theorem upd (c : Dev nD) (t : Fin cfg0.N) (r : Fin 64) (i : Fin 1024) :
    (outsAt0 m c t.val t.isLt).1 (ix2 r i) = k0_pay7 (F := Ideal) (lo (iblk m c 2 t)) (mid (iblk m c 2 t)) (l5 (iblk m c 2 t)) (l6 (iblk m c 2 t)) (l7 (iblk m c 2 t)) (ix2 r i)
    ∧ (outsAt0 m c t.val t.isLt).2.1 (ix2 r i) = k0_pay1 (F := Ideal) (iblk m c 3 t)
        (k0_pay10 (lo (iblk m c 2 t)) (mid (iblk m c 2 t)) (l5 (iblk m c 2 t)) (l6 (iblk m c 2 t)) (l7 (iblk m c 2 t)) (iblk m c 4 t))
        (k0_pay11 (lo (iblk m c 2 t)) (mid (iblk m c 2 t)) (l5 (iblk m c 2 t)) (l6 (iblk m c 2 t)) (l7 (iblk m c 2 t)) (iblk m c 5 t)) (ix2 r i)
    ∧ (outsAt0 m c t.val t.isLt).2.2.1 (ix2 r i) = k0_pay8 (F := Ideal) (lo (iblk m c 2 t)) (mid (iblk m c 2 t)) (l5 (iblk m c 2 t)) (l6 (iblk m c 2 t)) (l7 (iblk m c 2 t)) (iblk m c 4 t) (ix2 r i)
    ∧ (outsAt0 m c t.val t.isLt).2.2.2.1 (ix2 r i) = k0_pay9 (F := Ideal) (lo (iblk m c 2 t)) (mid (iblk m c 2 t)) (l5 (iblk m c 2 t)) (l6 (iblk m c 2 t)) (l7 (iblk m c 2 t)) (iblk m c 5 t) (ix2 r i) := by
  by_cases h0 : t.val % 4 = 0
  · have h1 : ¬ t.val % 4 = 3 := by omega
    rw [outsAt0_A m c t h0 h1]
    refine ⟨?_, ?_, ?_, ?_⟩ <;> frame_out
  · by_cases h1 : t.val % 4 = 3
    · rw [outsAt0_C m c t h0 h1]
      refine ⟨?_, ?_, ?_, ?_⟩ <;> frame_out
    · rw [outsAt0_B m c t h0 h1]
      refine ⟨?_, ?_, ?_, ?_⟩ <;> frame_out

theorem arr6 (c : Dev nD) : (dats m 0 c).arrAt 6 cfg0.N = GS (m ((c.tc : Thread nD τ).loc main_arg2)) := by
  refine (dats m 0 c).arrAt_eq_of_covers 6 _ (by decide +kernel) fun t hf y => ?_
  blk_simp
  rw [after0_6]
  obtain ⟨r, i, rfl⟩ : ∃ (r : Fin 64) (i : Fin 1024), y = ix2 r i := ⟨y 0, y 1, eq_ix2 y⟩
  have e : ((win0_6.blk t).view.emb (ix2 r i) : S512x1024.Idx) = ix2 ⟨64 * t.val + r.val, row_lt t r⟩ i := by blk_ext [idx t]
  rw [e]
  refine ((upd m c t r i).1).trans ?_
  rw [sum_point]
theorem arr7 (c : Dev nD) : (dats m 0 c).arrAt 7 cfg0.N = DL (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  obtain ⟨r, i, rfl⟩ : ∃ (r : Fin 64) (i : Fin 1024), y = ix2 r i := ⟨y 0, y 1, eq_ix2 y⟩
  have e : ((win0_7.blk t).view.emb (ix2 r i) : S512x1024.Idx) = ix2 ⟨64 * t.val + r.val, row_lt t r⟩ i := by blk_ext [idx t]
  rw [e]
  refine ((upd m c t r i).2.1).trans ?_
  rw [delta_pay, sum_point, w_point, m_point, v_point]; rfl
theorem arr8 (c : Dev nD) : (dats m 0 c).arrAt 8 cfg0.N = FM (m ((c.tc : Thread nD τ).loc main_arg2)) (m ((c.tc : Thread nD τ).loc main_arg4)) := by
  refine (dats m 0 c).arrAt_eq_of_covers 8 _ (by decide +kernel) fun t hf y => ?_
  blk_simp
  rw [after0_8]
  obtain ⟨r, i, rfl⟩ : ∃ (r : Fin 64) (i : Fin 1024), y = ix2 r i := ⟨y 0, y 1, eq_ix2 y⟩
  have e : ((win0_8.blk t).view.emb (ix2 r i) : S512x1024.Idx) = ix2 ⟨64 * t.val + r.val, row_lt t r⟩ i := by blk_ext [idx t]
  rw [e]
  refine ((upd m c t r i).2.2.1).trans ?_
  rw [first_pay, sum_point, m_point]; rfl
theorem arr9 (c : Dev nD) : (dats m 0 c).arrAt 9 cfg0.N = SM (m ((c.tc : Thread nD τ).loc main_arg2)) (m ((c.tc : Thread nD τ).loc main_arg5)) := by
  refine (dats m 0 c).arrAt_eq_of_covers 9 _ (by decide +kernel) fun t hf y => ?_
  blk_simp
  rw [after0_9]
  obtain ⟨r, i, rfl⟩ : ∃ (r : Fin 64) (i : Fin 1024), y = ix2 r i := ⟨y 0, y 1, eq_ix2 y⟩
  have e : ((win0_9.blk t).view.emb (ix2 r i) : S512x1024.Idx) = ix2 ⟨64 * t.val + r.val, row_lt t r⟩ i := by blk_ext [idx t]
  rw [e]
  refine ((upd m c t r i).2.2.2).trans ?_
  rw [second_pay, sum_point, v_point]; rfl

theorem slot_lt (t : Fin cfg0.N) (r : Fin 1024) : 1024 * (t.val % 4) + r.val < 4096 := by omega
theorem col_lt (t : Fin cfg0.N) (r : Fin 1280) : 1280 * (t.val / 4) + r.val < 2560 := by
  have : t.val < 8 := lt_of_lt_of_eq t.isLt N_0
  omega

theorem ab (c t) (k : Fin 1024) (r : Fin 1280) : (iblk m c 0 t : Vec Ideal S1024x1280 .bf16) (ix2 k r)
    = (m ((c.tc : Thread nD τ).loc main_arg0) : Vec Ideal S4096x2560 .bf16) (ix2 ⟨1024 * (t.val % 4) + k.val, slot_lt t k⟩ ⟨1280 * (t.val / 4) + r.val, col_lt t r⟩) := by
  blk_point [iblk, V, idx t]
theorem bb (c t) (k i : Fin 1024) : (iblk m c 1 t : Vec Ideal S1024x1024 .bf16) (ix2 k i)
    = (m ((c.tc : Thread nD τ).loc main_arg1) : Vec Ideal S4096x1024 .bf16) (ix2 ⟨1024 * (t.val % 4) + k.val, slot_lt t k⟩ i) := by
  blk_point [iblk, V, idx t]

/-- A point's share of the entry at row `r` of its half. -/
noncomputable def PT (c : Dev nD) (t : Fin cfg0.N) (r : Fin 1280) (i : Fin 1024) : EReal :=
  ∑ k : Fin 1024, TM (m ((c.tc : Thread nD τ).loc main_arg0)) (m ((c.tc : Thread nD τ).loc main_arg1)) (ix2 ⟨1280 * (t.val / 4) + r.val, col_lt t r⟩ i)
    ⟨1024 * (t.val % 4) + k.val, slot_lt t k⟩

theorem add_point (c t a) (r : Fin 1280) (i : Fin 1024) : k0_pay4 (F := Ideal) a (iblk m c 0 t) (iblk m c 1 t) (ix2 r i) = a (ix2 r i) + PT m c t r i := by
  refine (add_at _ _ _ (ix2 r i)).trans (congrArg (a (ix2 r i) + ·) (Finset.sum_congr rfl fun k _ => ?_))
  exact congrArg₂ (· * ·) (ab m c t k r) (bb m c t k i)

theorem acc_A (c : Dev nD) (t : Fin cfg0.N) (h0 : t.val % 4 = 0) (h1 : ¬ t.val % 4 = 3) (r i) : (outsAt0 m c t.val t.isLt).2.2.2.2.2 (ix2 r i) = PT m c t r i := by
  rw [outsAt0_A m c t h0 h1]
  frame_out
  rw [add_point, zero_at, zero_add]
theorem acc_B (c : Dev nD) (t : Fin cfg0.N) (h0 : ¬ t.val % 4 = 0) (r i) : (outsAt0 m c t.val t.isLt).2.2.2.2.2 (ix2 r i)
    = (outsAt0 m c (t.val - 1) (Nat.lt_of_le_of_lt (Nat.sub_le _ _) t.isLt)).2.2.2.2.2 (ix2 r i) + PT m c t r i := by
  by_cases h1 : t.val % 4 = 3
  · rw [outsAt0_C m c t h0 h1]
    frame_out
    rw [add_point, read_unread_whole]
  · rw [outsAt0_B m c t h0 h1]
    frame_out
    rw [add_point, read_unread_whole]
theorem out_C (c : Dev nD) (t : Fin cfg0.N) (h0 : ¬ t.val % 4 = 0) (h1 : t.val % 4 = 3) (j) : (outsAt0 m c t.val t.isLt).2.2.2.2.1 j = (outsAt0 m c t.val t.isLt).2.2.2.2.2 j := by
  rw [outsAt0_C m c t h0 h1]
  frame_out
  rw [cast_at]

theorem at_lt (p : Fin 2) (k : ℕ) (h : k < 4) : 4 * p.val + k < cfg0.N := lt_of_lt_of_eq (by omega : 4 * p.val + k < 8) N_0.symm

/-- The accumulator after the last block of rows of one half. -/
theorem acc (c : Dev nD) (p : Fin 2) (r : Fin 1280) (i : Fin 1024) : (outsAt0 m c (4 * p.val + 3) (at_lt p 3 (by decide))).2.2.2.2.2 (ix2 r i)
    = DW (m ((c.tc : Thread nD τ).loc main_arg0)) (m ((c.tc : Thread nD τ).loc main_arg1)) (ix2 ⟨1280 * p.val + r.val, by omega⟩ i) := by
  have share (k : ℕ) (h : k < 4) : PT m c ⟨4 * p.val + k, at_lt p k h⟩ r i
      = ∑ q : Fin 1024, TM (m ((c.tc : Thread nD τ).loc main_arg0)) (m ((c.tc : Thread nD τ).loc main_arg1)) (ix2 ⟨1280 * p.val + r.val, by omega⟩ i) ⟨1024 * k + q.val, by omega⟩ := by
    unfold PT
    have e1 : (4 * p.val + k) / 4 = p.val := by omega
    have e2 : (4 * p.val + k) % 4 = k := by omega
    simp only [e1, e2]
  refine Cert.Slot.total 1024 4096 (N := 4) (TM (m ((c.tc : Thread nD τ).loc main_arg0)) (m ((c.tc : Thread nD τ).loc main_arg1)) (ix2 ⟨1280 * p.val + r.val, by omega⟩ i))
    (fun n h => (outsAt0 m c (4 * p.val + n) (at_lt p n h)).2.2.2.2.2 (ix2 r i))
    (fun k h q => by omega) (fun h => ?_) (fun k h hk => ?_) 3 (by decide) rfl
  · exact (acc_A m c ⟨4 * p.val + 0, at_lt p 0 h⟩ (by show (4 * p.val + 0) % 4 = 0; omega) (by show ¬ (4 * p.val + 0) % 4 = 3; omega) r i).trans (share 0 h)
  · obtain ⟨k, rfl⟩ : ∃ k', k = k' + 1 := ⟨k - 1, by omega⟩
    exact (acc_B m c ⟨4 * p.val + (k + 1), at_lt p (k + 1) h⟩ (by show ¬ (4 * p.val + (k + 1)) % 4 = 0; omega) r i).trans (congrArg _ (share (k + 1) h))

theorem arr10 (c : Dev nD) : (dats m 0 c).arrAt 10 cfg0.N = DW (m ((c.tc : Thread nD τ).loc main_arg0)) (m ((c.tc : Thread nD τ).loc main_arg1)) := by
  refine (dats m 0 c).arrAt_eq_of_covers 10 _ (by decide +kernel) fun t hf y => ?_
  blk_simp
  rw [after0_10]
  obtain ⟨r, i, rfl⟩ : ∃ (r : Fin 1280) (i : Fin 1024), y = ix2 r i := ⟨y 0, y 1, eq_ix2 y⟩
  have e : ((win0_10.blk t).view.emb (ix2 r i) : S2560x1024.Idx) = ix2 ⟨1280 * (t.val / 4) + r.val, col_lt t r⟩ i := by blk_ext [idx t]
  rw [e]
  have h3 : t.val % 4 = 3 := (flush0_10 t).mp hf
  have hp : t.val / 4 < 2 := by
    have : t.val < 8 := lt_of_lt_of_eq t.isLt N_0
    omega
  refine (out_C m c t (by omega) h3 (ix2 r i)).trans ?_
  have same : ∀ n (h : n < cfg0.N), n = t.val → (outsAt0 m c n h).2.2.2.2.2 (ix2 r i) = (outsAt0 m c t.val t.isLt).2.2.2.2.2 (ix2 r i) := by
    intro n h hn
    subst hn
    rfl
  exact (same (4 * (t.val / 4) + 3) (at_lt ⟨t.val / 4, hp⟩ 3 (by decide)) (by omega)).symm.trans (acc m c ⟨t.val / 4, hp⟩ r i)
end Cert.Kernel7Ideal.Value

section
open Cert.Kernel7Ideal
theorem Cert.Kernel7Ideal.Value.claim : Cert.algebraic_Kernel7Ideal_Reference7Ideal (hKernel7Ideal := Cert.Kernel7Ideal.Gen.facts)
    (hReference7Ideal := Cert.Reference7Ideal.Gen.facts) := by
  intro m g m' g' _ hag
  refine ⟨fun c => Value.DW (m ((c.tc : Thread nD τ).loc main_arg0)) (m ((c.tc : Thread nD τ).loc main_arg1)),
    fun c => Value.GS (m ((c.tc : Thread nD τ).loc main_arg2)),
    fun c => Value.DL (m ((c.tc : Thread nD τ).loc main_arg2)) (m ((c.tc : Thread nD τ).loc main_arg3)) (m ((c.tc : Thread nD τ).loc main_arg4)) (m ((c.tc : Thread nD τ).loc main_arg5)),
    fun c => Value.FM (m ((c.tc : Thread nD τ).loc main_arg2)) (m ((c.tc : Thread nD τ).loc main_arg4)),
    fun c => Value.SM (m ((c.tc : Thread nD τ).loc main_arg2)) (m ((c.tc : Thread nD τ).loc main_arg5)), ?_, ?_⟩
  · exact (θ_run _ _ _).mono (fun r h c => ⟨(h c).2.2.2.2.1.trans (Value.arr10 m c), (h c).1.trans (Value.arr6 m c), (h c).2.1.trans (Value.arr7 m c), (h c).2.2.1.trans (Value.arr8 m c),
      (h c).2.2.2.1.trans (Value.arr9 m c), (h c).2.2.2.2.2⟩) (Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.Reference7Ideal.Value.run m' g')
    all_goals
      obtain ⟨h0, h1, h2, h3, h4, h5⟩ := hag c
      simp only [h0, h1, h2, h3, h4, h5]
      funext j
    · obtain ⟨r, i, rfl⟩ : ∃ (r : Fin 2560) (i : Fin 1024), j = ix2 r i := ⟨j 0, j 1, eq_ix2 j⟩
      pointwise
      rfl
    all_goals
      obtain ⟨r, i, rfl⟩ : ∃ (r : Fin 512) (i : Fin 1024), j = ix2 r i := ⟨j 0, j 1, eq_ix2 j⟩
      pointwise
      rfl
end

theorem Cert.Reference7Ideal.Value.frame : Cert.quiescent_Reference7Ideal (hReference7Ideal := Cert.Reference7Ideal.Gen.facts) := fun m g _ =>
  (θ_run _ _ _).mono (fun r h => ⟨fun c => (h c).2.2.2.2.2, sem_eq_zero_of_no_sems (by decide) r.2⟩) (Cert.Reference7Ideal.Value.run m g)
-- ==== Proof.AdamFf1.lean ====
module
public import proofs.«01_k».proof.Proof.Gen.Kernel8Ideal.Value
public import proofs.«01_k».proof.Proof.Adam
public import Idealize.ShloMosaic.Lib.Pipeline.ReadBack
public import Idealize.ShloMosaic.Lib.Tactic.WordOmega
/-! The update of the first weight of the MLP: the sum over the devices and the step of AdamW, block by block. -/
@[expose] public section
set_option maxRecDepth 16384
open Idealize.ShloMosaic Idealize.ShloMosaic.TcCoe Idealize.SL.Sem
open Idealize.ShloMosaic.Pipeline (Dat)
namespace Cert.Kernel8Ideal.Value
open Cert.Kernel8Ideal Cert.Kernel8Ideal.Gen
variable (m : (ℓ : Loc nD τ sig) → Buf (Elt Ideal) ℓ)

/-- The sum over the devices, and the three results of the step, at one element. -/
noncomputable def GS (R : Vec Ideal S8x1024x512 .bf16) (j : S1024x512.Idx) : EReal := ∑ d : Fin 8, R (ix3 d (j 0) (j 1))
noncomputable def FM (R : Vec Ideal S8x1024x512 .bf16) (M : Vec Ideal S1024x512 .f32) (j : S1024x512.Idx) : EReal := Cert.Adam.first (GS R j) (M j)
noncomputable def SM (R : Vec Ideal S8x1024x512 .bf16) (V : Vec Ideal S1024x512 .f32) (j : S1024x512.Idx) : EReal := Cert.Adam.second (GS R j) (V j)
noncomputable def DL (R : Vec Ideal S8x1024x512 .bf16) (W M V : Vec Ideal S1024x512 .f32) (j : S1024x512.Idx) : EReal := Cert.Adam.delta (GS R j) (W j) (M j) (V j)

theorem sum_blk (x : Vec Ideal S8x256x512 .bf16) (r : Fin 256) (i : Fin 512) :
    k0_pay4 (F := Ideal) (View.ld x r0_0) (View.ld x r0_1) (View.ld x r0_2) (View.ld x r0_3) (View.ld x r0_4) (View.ld x r0_5) (View.ld x r0_6) (View.ld x r0_7) (ix2 r i)
      = ∑ d : Fin 8, x (ix3 d r i) := by
  rw [Fin.sum_univ_eight]
  pointwise [k0_pay4, r0_0, r0_1, r0_2, r0_3, r0_4, r0_5, r0_6, r0_7]
theorem first_pay (g M) (j) : k0_pay1 (F := Ideal) g M j = Cert.Adam.first (g j) (M j) := by pointwise [k0_pay1]; rfl
theorem second_pay (g V) (j) : k0_pay2 (F := Ideal) g V j = Cert.Adam.second (g j) (V j) := by pointwise [k0_pay2]; rfl
theorem delta_pay (g W M V) (j) : k0_pay3 (F := Ideal) g W M V j = Cert.Adam.delta (g j) (W j) (M j) (V j) := by
  pointwise [k0_pay3, k0_pay1, k0_pay2]; rfl

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem row_lt (t : Fin cfg0.N) (r : Fin 256) : 256 * t.val + r.val < 1024 := by
  have : t.val < 4 := lt_of_lt_of_eq t.isLt N_0
  omega

theorem sum_point (c t) (r : Fin 256) (i : Fin 512) : k0_pay5 (F := Ideal) (iblk m c 0 t) (iblk m c 1 t) (iblk m c 2 t) (iblk m c 3 t) (ix2 r i)
    = GS (m ((c.tc : Thread nD τ).loc main_arg0)) (ix2 ⟨256 * t.val + r.val, row_lt t r⟩ i) := by
  unfold k0_pay5
  refine (sum_blk _ r i).trans (Finset.sum_congr rfl fun d _ => ?_)
  blk_point [iblk, V, idx t]
theorem w_point (c t) (r : Fin 256) (i : Fin 512) : (iblk m c 1 t : Vec Ideal S256x512 .f32) (ix2 r i)
    = (m ((c.tc : Thread nD τ).loc main_arg1) : Vec Ideal S1024x512 .f32) (ix2 ⟨256 * t.val + r.val, row_lt t r⟩ i) := by
  blk_point [iblk, V, idx t]
theorem m_point (c t) (r : Fin 256) (i : Fin 512) : (iblk m c 2 t : Vec Ideal S256x512 .f32) (ix2 r i)
    = (m ((c.tc : Thread nD τ).loc main_arg2) : Vec Ideal S1024x512 .f32) (ix2 ⟨256 * t.val + r.val, row_lt t r⟩ i) := by
  blk_point [iblk, V, idx t]
theorem v_point (c t) (r : Fin 256) (i : Fin 512) : (iblk m c 3 t : Vec Ideal S256x512 .f32) (ix2 r i)
    = (m ((c.tc : Thread nD τ).loc main_arg3) : Vec Ideal S1024x512 .f32) (ix2 ⟨256 * t.val + r.val, row_lt t r⟩ i) := by
  blk_point [iblk, V, idx t]

theorem arr4 (c : Dev nD) : (dats m 0 c).arrAt 4 cfg0.N = GS (m ((c.tc : Thread nD τ).loc main_arg0)) := by
  refine (dats m 0 c).arrAt_eq_of_covers 4 _ (by decide +kernel) fun t hf y => ?_
  blk_simp
  rw [after0_4]
  obtain ⟨r, i, rfl⟩ : ∃ (r : Fin 256) (i : Fin 512), y = ix2 r i := ⟨y 0, y 1, eq_ix2 y⟩
  have e : ((win0_4.blk t).view.emb (ix2 r i) : S1024x512.Idx) = ix2 ⟨256 * t.val + r.val, row_lt t r⟩ i := by blk_ext [idx t]
  rw [e]
  frame_out
  exact sum_point m c t r i
theorem arr5 (c : Dev nD) : (dats m 0 c).arrAt 5 cfg0.N = DL (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  obtain ⟨r, i, rfl⟩ : ∃ (r : Fin 256) (i : Fin 512), y = ix2 r i := ⟨y 0, y 1, eq_ix2 y⟩
  have e : ((win0_5.blk t).view.emb (ix2 r i) : S1024x512.Idx) = ix2 ⟨256 * t.val + r.val, row_lt t r⟩ i := by blk_ext [idx t]
  rw [e]
  frame_out
  rw [delta_pay, sum_point, w_point, m_point, v_point]; rfl
theorem arr6 (c : Dev nD) : (dats m 0 c).arrAt 6 cfg0.N = FM (m ((c.tc : Thread nD τ).loc main_arg0)) (m ((c.tc : Thread nD τ).loc main_arg2)) := by
  refine (dats m 0 c).arrAt_eq_of_covers 6 _ (by decide +kernel) fun t hf y => ?_
  blk_simp
  rw [after0_6]
  obtain ⟨r, i, rfl⟩ : ∃ (r : Fin 256) (i : Fin 512), y = ix2 r i := ⟨y 0, y 1, eq_ix2 y⟩
  have e : ((win0_6.blk t).view.emb (ix2 r i) : S1024x512.Idx) = ix2 ⟨256 * t.val + r.val, row_lt t r⟩ i := by blk_ext [idx t]
  rw [e]
  frame_out
  rw [first_pay, sum_point, m_point]; rfl
theorem arr7 (c : Dev nD) : (dats m 0 c).arrAt 7 cfg0.N = SM (m ((c.tc : Thread nD τ).loc main_arg0)) (m ((c.tc : Thread nD τ).loc main_arg3)) := by
  refine (dats m 0 c).arrAt_eq_of_covers 7 _ (by decide +kernel) fun t hf y => ?_
  blk_simp
  rw [after0_7]
  obtain ⟨r, i, rfl⟩ : ∃ (r : Fin 256) (i : Fin 512), y = ix2 r i := ⟨y 0, y 1, eq_ix2 y⟩
  have e : ((win0_7.blk t).view.emb (ix2 r i) : S1024x512.Idx) = ix2 ⟨256 * t.val + r.val, row_lt t r⟩ i := by blk_ext [idx t]
  rw [e]
  frame_out
  rw [second_pay, sum_point, v_point]; rfl
end Cert.Kernel8Ideal.Value
-- ==== Proof.AdamOut.lean ====
module
public import proofs.«01_k».proof.Proof.Gen.Kernel9Ideal.Value
public import proofs.«01_k».proof.Proof.Adam
public import Idealize.ShloMosaic.Lib.Pipeline.ReadBack
public import Idealize.ShloMosaic.Lib.Tactic.WordOmega
/-! The update of the output projection: the sum over the devices and the step of AdamW, block by block. -/
@[expose] public section
set_option maxRecDepth 16384
open Idealize.ShloMosaic Idealize.ShloMosaic.TcCoe Idealize.SL.Sem
open Idealize.ShloMosaic.Pipeline (Dat)
namespace Cert.Kernel9Ideal.Value
open Cert.Kernel9Ideal Cert.Kernel9Ideal.Gen
variable (m : (ℓ : Loc nD τ sig) → Buf (Elt Ideal) ℓ)

/-- The sum over the devices, and the three results of the step, at one element. -/
noncomputable def GS (R : Vec Ideal S8x128x1024 .bf16) (j : S128x1024.Idx) : EReal := ∑ d : Fin 8, R (ix3 d (j 0) (j 1))
noncomputable def FM (R : Vec Ideal S8x128x1024 .bf16) (M : Vec Ideal S128x1024 .f32) (j : S128x1024.Idx) : EReal := Cert.Adam.first (GS R j) (M j)
noncomputable def SM (R : Vec Ideal S8x128x1024 .bf16) (V : Vec Ideal S128x1024 .f32) (j : S128x1024.Idx) : EReal := Cert.Adam.second (GS R j) (V j)
noncomputable def DL (R : Vec Ideal S8x128x1024 .bf16) (W M V : Vec Ideal S128x1024 .f32) (j : S128x1024.Idx) : EReal := Cert.Adam.delta (GS R j) (W j) (M j) (V j)

theorem sum_blk (x : Vec Ideal S8x128x1024 .bf16) (r : Fin 128) (i : Fin 1024) :
    k0_pay4 (F := Ideal) (View.ld x r0_0) (View.ld x r0_1) (View.ld x r0_2) (View.ld x r0_3) (View.ld x r0_4) (View.ld x r0_5) (View.ld x r0_6) (View.ld x r0_7) (ix2 r i)
      = ∑ d : Fin 8, x (ix3 d r i) := by
  rw [Fin.sum_univ_eight]
  pointwise [k0_pay4, r0_0, r0_1, r0_2, r0_3, r0_4, r0_5, r0_6, r0_7]
theorem first_pay (g M) (j) : k0_pay1 (F := Ideal) g M j = Cert.Adam.first (g j) (M j) := by pointwise [k0_pay1]; rfl
theorem second_pay (g V) (j) : k0_pay2 (F := Ideal) g V j = Cert.Adam.second (g j) (V j) := by pointwise [k0_pay2]; rfl
theorem delta_pay (g W M V) (j) : k0_pay3 (F := Ideal) g W M V j = Cert.Adam.delta (g j) (W j) (M j) (V j) := by
  pointwise [k0_pay3, k0_pay1, k0_pay2]; rfl

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem row_lt (t : Fin cfg0.N) (r : Fin 128) : 128 * t.val + r.val < 128 := by
  have : t.val < 1 := lt_of_lt_of_eq t.isLt N_0
  omega

theorem sum_point (c t) (r : Fin 128) (i : Fin 1024) : k0_pay5 (F := Ideal) (iblk m c 0 t) (iblk m c 1 t) (iblk m c 2 t) (iblk m c 3 t) (ix2 r i)
    = GS (m ((c.tc : Thread nD τ).loc main_arg0)) (ix2 ⟨128 * t.val + r.val, row_lt t r⟩ i) := by
  unfold k0_pay5
  refine (sum_blk _ r i).trans (Finset.sum_congr rfl fun d _ => ?_)
  blk_point [iblk, V, idx t]
theorem w_point (c t) (r : Fin 128) (i : Fin 1024) : (iblk m c 1 t : Vec Ideal S128x1024 .f32) (ix2 r i)
    = (m ((c.tc : Thread nD τ).loc main_arg1) : Vec Ideal S128x1024 .f32) (ix2 ⟨128 * t.val + r.val, row_lt t r⟩ i) := by
  blk_point [iblk, V, idx t]
theorem m_point (c t) (r : Fin 128) (i : Fin 1024) : (iblk m c 2 t : Vec Ideal S128x1024 .f32) (ix2 r i)
    = (m ((c.tc : Thread nD τ).loc main_arg2) : Vec Ideal S128x1024 .f32) (ix2 ⟨128 * t.val + r.val, row_lt t r⟩ i) := by
  blk_point [iblk, V, idx t]
theorem v_point (c t) (r : Fin 128) (i : Fin 1024) : (iblk m c 3 t : Vec Ideal S128x1024 .f32) (ix2 r i)
    = (m ((c.tc : Thread nD τ).loc main_arg3) : Vec Ideal S128x1024 .f32) (ix2 ⟨128 * t.val + r.val, row_lt t r⟩ i) := by
  blk_point [iblk, V, idx t]

theorem arr4 (c : Dev nD) : (dats m 0 c).arrAt 4 cfg0.N = GS (m ((c.tc : Thread nD τ).loc main_arg0)) := by
  refine (dats m 0 c).arrAt_eq_of_covers 4 _ (by decide +kernel) fun t hf y => ?_
  blk_simp
  rw [after0_4]
  obtain ⟨r, i, rfl⟩ : ∃ (r : Fin 128) (i : Fin 1024), y = ix2 r i := ⟨y 0, y 1, eq_ix2 y⟩
  have e : ((win0_4.blk t).view.emb (ix2 r i) : S128x1024.Idx) = ix2 ⟨128 * t.val + r.val, row_lt t r⟩ i := by blk_ext [idx t]
  rw [e]
  frame_out
  exact sum_point m c t r i
theorem arr5 (c : Dev nD) : (dats m 0 c).arrAt 5 cfg0.N = DL (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  obtain ⟨r, i, rfl⟩ : ∃ (r : Fin 128) (i : Fin 1024), y = ix2 r i := ⟨y 0, y 1, eq_ix2 y⟩
  have e : ((win0_5.blk t).view.emb (ix2 r i) : S128x1024.Idx) = ix2 ⟨128 * t.val + r.val, row_lt t r⟩ i := by blk_ext [idx t]
  rw [e]
  frame_out
  rw [delta_pay, sum_point, w_point, m_point, v_point]; rfl
theorem arr6 (c : Dev nD) : (dats m 0 c).arrAt 6 cfg0.N = FM (m ((c.tc : Thread nD τ).loc main_arg0)) (m ((c.tc : Thread nD τ).loc main_arg2)) := by
  refine (dats m 0 c).arrAt_eq_of_covers 6 _ (by decide +kernel) fun t hf y => ?_
  blk_simp
  rw [after0_6]
  obtain ⟨r, i, rfl⟩ : ∃ (r : Fin 128) (i : Fin 1024), y = ix2 r i := ⟨y 0, y 1, eq_ix2 y⟩
  have e : ((win0_6.blk t).view.emb (ix2 r i) : S128x1024.Idx) = ix2 ⟨128 * t.val + r.val, row_lt t r⟩ i := by blk_ext [idx t]
  rw [e]
  frame_out
  rw [first_pay, sum_point, m_point]; rfl
theorem arr7 (c : Dev nD) : (dats m 0 c).arrAt 7 cfg0.N = SM (m ((c.tc : Thread nD τ).loc main_arg0)) (m ((c.tc : Thread nD τ).loc main_arg3)) := by
  refine (dats m 0 c).arrAt_eq_of_covers 7 _ (by decide +kernel) fun t hf y => ?_
  blk_simp
  rw [after0_7]
  obtain ⟨r, i, rfl⟩ : ∃ (r : Fin 128) (i : Fin 1024), y = ix2 r i := ⟨y 0, y 1, eq_ix2 y⟩
  have e : ((win0_7.blk t).view.emb (ix2 r i) : S128x1024.Idx) = ix2 ⟨128 * t.val + r.val, row_lt t r⟩ i := by blk_ext [idx t]
  rw [e]
  frame_out
  rw [second_pay, sum_point, v_point]; rfl
end Cert.Kernel9Ideal.Value
-- ==== Proof.AdamIn.lean ====
module
public import proofs.«01_k».proof.Proof.Gen.Kernel10Ideal.Value
public import proofs.«01_k».proof.Proof.Adam
public import Idealize.ShloMosaic.Lib.Pipeline.ReadBack
public import Idealize.ShloMosaic.Lib.Tactic.WordOmega
/-! The update of the input projection, its weight and moments read transposed: the sum over the devices and the step of AdamW, block by block. -/
@[expose] public section
set_option maxRecDepth 16384
open Idealize.ShloMosaic Idealize.ShloMosaic.TcCoe Idealize.SL.Sem
open Idealize.ShloMosaic.Pipeline (Dat)
namespace Cert.Kernel10Ideal.Value
open Cert.Kernel10Ideal Cert.Kernel10Ideal.Gen
variable (m : (ℓ : Loc nD τ sig) → Buf (Elt Ideal) ℓ)

/-- The sum over the devices, and the three results of the step, at one element. -/
noncomputable def GS (R : Vec Ideal S8x320x1024 .bf16) (j : S320x1024.Idx) : EReal := ∑ d : Fin 8, R (ix3 d (j 0) (j 1))
noncomputable def FM (R : Vec Ideal S8x320x1024 .bf16) (M : Vec Ideal S1024x320 .f32) (j : S320x1024.Idx) : EReal := Cert.Adam.first (GS R j) (M (ix2 (j 1) (j 0)))
noncomputable def SM (R : Vec Ideal S8x320x1024 .bf16) (V : Vec Ideal S1024x320 .f32) (j : S320x1024.Idx) : EReal := Cert.Adam.second (GS R j) (V (ix2 (j 1) (j 0)))
noncomputable def DL (R : Vec Ideal S8x320x1024 .bf16) (W M V : Vec Ideal S1024x320 .f32) (j : S320x1024.Idx) : EReal := Cert.Adam.delta (GS R j) (W (ix2 (j 1) (j 0))) (M (ix2 (j 1) (j 0))) (V (ix2 (j 1) (j 0)))

theorem sum_blk (x : Vec Ideal S8x320x1024 .bf16) (r : Fin 320) (i : Fin 1024) :
    k0_pay4 (F := Ideal) (View.ld x r0_0) (View.ld x r0_1) (View.ld x r0_2) (View.ld x r0_3) (View.ld x r0_4) (View.ld x r0_5) (View.ld x r0_6) (View.ld x r0_7) (ix2 r i)
      = ∑ d : Fin 8, x (ix3 d r i) := by
  rw [Fin.sum_univ_eight]
  pointwise [k0_pay4, r0_0, r0_1, r0_2, r0_3, r0_4, r0_5, r0_6, r0_7]
theorem first_pay (g M) (j) : k0_pay1 (F := Ideal) g M j = Cert.Adam.first (g j) (M j) := by pointwise [k0_pay1]; rfl
theorem second_pay (g V) (j) : k0_pay2 (F := Ideal) g V j = Cert.Adam.second (g j) (V j) := by pointwise [k0_pay2]; rfl
theorem delta_pay (g W M V) (j) : k0_pay3 (F := Ideal) g W M V j = Cert.Adam.delta (g j) (W j) (M j) (V j) := by
  pointwise [k0_pay3, k0_pay1, k0_pay2]; rfl

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem row_lt (t : Fin cfg0.N) (r : Fin 320) : 320 * t.val + r.val < 320 := by
  have : t.val < 1 := lt_of_lt_of_eq t.isLt N_0
  omega

theorem sum_point (c t) (r : Fin 320) (i : Fin 1024) : k0_pay5 (F := Ideal) (iblk m c 0 t) (iblk m c 1 t) (iblk m c 2 t) (iblk m c 3 t) (ix2 r i)
    = GS (m ((c.tc : Thread nD τ).loc main_arg0)) (ix2 ⟨320 * t.val + r.val, row_lt t r⟩ i) := by
  unfold k0_pay5
  refine (sum_blk _ r i).trans (Finset.sum_congr rfl fun d _ => ?_)
  blk_point [iblk, V, idx t]
theorem w_point (c t) (r : Fin 320) (i : Fin 1024) : (iblk m c 1 t : Vec Ideal S320x1024 .f32) (ix2 r i)
    = (m ((c.tc : Thread nD τ).loc main_arg1) : Vec Ideal S1024x320 .f32) (ix2 i ⟨320 * t.val + r.val, row_lt t r⟩) := by
  blk_point [iblk, V, idx t]
theorem m_point (c t) (r : Fin 320) (i : Fin 1024) : (iblk m c 2 t : Vec Ideal S320x1024 .f32) (ix2 r i)
    = (m ((c.tc : Thread nD τ).loc main_arg2) : Vec Ideal S1024x320 .f32) (ix2 i ⟨320 * t.val + r.val, row_lt t r⟩) := by
  blk_point [iblk, V, idx t]
theorem v_point (c t) (r : Fin 320) (i : Fin 1024) : (iblk m c 3 t : Vec Ideal S320x1024 .f32) (ix2 r i)
    = (m ((c.tc : Thread nD τ).loc main_arg3) : Vec Ideal S1024x320 .f32) (ix2 i ⟨320 * t.val + r.val, row_lt t r⟩) := by
  blk_point [iblk, V, idx t]

theorem arr4 (c : Dev nD) : (dats m 0 c).arrAt 4 cfg0.N = GS (m ((c.tc : Thread nD τ).loc main_arg0)) := by
  refine (dats m 0 c).arrAt_eq_of_covers 4 _ (by decide +kernel) fun t hf y => ?_
  blk_simp
  rw [after0_4]
  obtain ⟨r, i, rfl⟩ : ∃ (r : Fin 320) (i : Fin 1024), y = ix2 r i := ⟨y 0, y 1, eq_ix2 y⟩
  have e : ((win0_4.blk t).view.emb (ix2 r i) : S320x1024.Idx) = ix2 ⟨320 * t.val + r.val, row_lt t r⟩ i := by blk_ext [idx t]
  rw [e]
  frame_out
  exact sum_point m c t r i
theorem arr5 (c : Dev nD) : (dats m 0 c).arrAt 5 cfg0.N = DL (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  obtain ⟨r, i, rfl⟩ : ∃ (r : Fin 320) (i : Fin 1024), y = ix2 r i := ⟨y 0, y 1, eq_ix2 y⟩
  have e : ((win0_5.blk t).view.emb (ix2 r i) : S320x1024.Idx) = ix2 ⟨320 * t.val + r.val, row_lt t r⟩ i := by blk_ext [idx t]
  rw [e]
  frame_out
  rw [delta_pay, sum_point, w_point, m_point, v_point]; rfl
theorem arr6 (c : Dev nD) : (dats m 0 c).arrAt 6 cfg0.N = FM (m ((c.tc : Thread nD τ).loc main_arg0)) (m ((c.tc : Thread nD τ).loc main_arg2)) := by
  refine (dats m 0 c).arrAt_eq_of_covers 6 _ (by decide +kernel) fun t hf y => ?_
  blk_simp
  rw [after0_6]
  obtain ⟨r, i, rfl⟩ : ∃ (r : Fin 320) (i : Fin 1024), y = ix2 r i := ⟨y 0, y 1, eq_ix2 y⟩
  have e : ((win0_6.blk t).view.emb (ix2 r i) : S320x1024.Idx) = ix2 ⟨320 * t.val + r.val, row_lt t r⟩ i := by blk_ext [idx t]
  rw [e]
  frame_out
  rw [first_pay, sum_point, m_point]; rfl
theorem arr7 (c : Dev nD) : (dats m 0 c).arrAt 7 cfg0.N = SM (m ((c.tc : Thread nD τ).loc main_arg0)) (m ((c.tc : Thread nD τ).loc main_arg3)) := by
  refine (dats m 0 c).arrAt_eq_of_covers 7 _ (by decide +kernel) fun t hf y => ?_
  blk_simp
  rw [after0_7]
  obtain ⟨r, i, rfl⟩ : ∃ (r : Fin 320) (i : Fin 1024), y = ix2 r i := ⟨y 0, y 1, eq_ix2 y⟩
  have e : ((win0_7.blk t).view.emb (ix2 r i) : S320x1024.Idx) = ix2 ⟨320 * t.val + r.val, row_lt t r⟩ i := by blk_ext [idx t]
  rw [e]
  frame_out
  rw [second_pay, sum_point, v_point]; rfl
end Cert.Kernel10Ideal.Value
-- ==== Proof.AdamClaims.lean ====
module
public import proofs.«01_k».proof.Defs
public import proofs.«01_k».proof.Proof.AdamFf1
public import proofs.«01_k».proof.Proof.AdamOut
public import proofs.«01_k».proof.Proof.AdamIn
public import proofs.«01_k».proof.Proof.Gen.Reference8Ideal.Run
public import proofs.«01_k».proof.Proof.Gen.Reference9Ideal.Run
public import proofs.«01_k».proof.Proof.Gen.Reference10Ideal.Run
public import Idealize.ShloMosaic.Lib.Claim
/-! The claims on the updates of the first weight of the MLP, of the output projection and of the input projection. -/
@[expose] public section
set_option maxRecDepth 16384
open Idealize.ShloMosaic Idealize.ShloMosaic.TcCoe Idealize.SL.Sem

section
open Cert.Kernel8Ideal
theorem Cert.Kernel8Ideal.Value.claim : Cert.algebraic_Kernel8Ideal_Reference8Ideal (hKernel8Ideal := Cert.Kernel8Ideal.Gen.facts)
    (hReference8Ideal := Cert.Reference8Ideal.Gen.facts) := by
  intro m g m' g' _ hag
  refine ⟨fun c => Value.GS (m ((c.tc : Thread nD τ).loc main_arg0)),
    fun c => Value.DL (m ((c.tc : Thread nD τ).loc main_arg0)) (m ((c.tc : Thread nD τ).loc main_arg1)) (m ((c.tc : Thread nD τ).loc main_arg2)) (m ((c.tc : Thread nD τ).loc main_arg3)),
    fun c => Value.FM (m ((c.tc : Thread nD τ).loc main_arg0)) (m ((c.tc : Thread nD τ).loc main_arg2)),
    fun c => Value.SM (m ((c.tc : Thread nD τ).loc main_arg0)) (m ((c.tc : Thread nD τ).loc main_arg3)), ?_, ?_⟩
  · exact (θ_run _ _ _).mono (fun r h c => ⟨(h c).1.trans (Value.arr4 m c), (h c).2.1.trans (Value.arr5 m c), (h c).2.2.1.trans (Value.arr6 m c),
      (h c).2.2.2.1.trans (Value.arr7 m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference8Ideal.Value.run m' g')
    all_goals
      obtain ⟨h0, h1, h2, h3⟩ := hag c
      simp only [h0, h1, h2, h3]
      funext j
      obtain ⟨r, i, rfl⟩ : ∃ (r : Fin 1024) (i : Fin 512), j = ix2 r i := ⟨j 0, j 1, eq_ix2 j⟩
      pointwise
      rfl
end

theorem Cert.Reference8Ideal.Value.frame : Cert.quiescent_Reference8Ideal (hReference8Ideal := Cert.Reference8Ideal.Gen.facts) := fun m g _ =>
  (θ_run _ _ _).mono (fun r h => ⟨fun c => (h c).2.2.2.2, sem_eq_zero_of_no_sems (by decide) r.2⟩) (Cert.Reference8Ideal.Value.run m g)

section
open Cert.Kernel9Ideal
theorem Cert.Kernel9Ideal.Value.claim : Cert.algebraic_Kernel9Ideal_Reference9Ideal (hKernel9Ideal := Cert.Kernel9Ideal.Gen.facts)
    (hReference9Ideal := Cert.Reference9Ideal.Gen.facts) := by
  intro m g m' g' _ hag
  refine ⟨fun c => Value.GS (m ((c.tc : Thread nD τ).loc main_arg0)),
    fun c => Value.DL (m ((c.tc : Thread nD τ).loc main_arg0)) (m ((c.tc : Thread nD τ).loc main_arg1)) (m ((c.tc : Thread nD τ).loc main_arg2)) (m ((c.tc : Thread nD τ).loc main_arg3)),
    fun c => Value.FM (m ((c.tc : Thread nD τ).loc main_arg0)) (m ((c.tc : Thread nD τ).loc main_arg2)),
    fun c => Value.SM (m ((c.tc : Thread nD τ).loc main_arg0)) (m ((c.tc : Thread nD τ).loc main_arg3)), ?_, ?_⟩
  · exact (θ_run _ _ _).mono (fun r h c => ⟨(h c).1.trans (Value.arr4 m c), (h c).2.1.trans (Value.arr5 m c), (h c).2.2.1.trans (Value.arr6 m c),
      (h c).2.2.2.1.trans (Value.arr7 m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference9Ideal.Value.run m' g')
    all_goals
      obtain ⟨h0, h1, h2, h3⟩ := hag c
      simp only [h0, h1, h2, h3]
      funext j
      obtain ⟨r, i, rfl⟩ : ∃ (r : Fin 128) (i : Fin 1024), j = ix2 r i := ⟨j 0, j 1, eq_ix2 j⟩
      pointwise
      rfl
end

theorem Cert.Reference9Ideal.Value.frame : Cert.quiescent_Reference9Ideal (hReference9Ideal := Cert.Reference9Ideal.Gen.facts) := fun m g _ =>
  (θ_run _ _ _).mono (fun r h => ⟨fun c => (h c).2.2.2.2, sem_eq_zero_of_no_sems (by decide) r.2⟩) (Cert.Reference9Ideal.Value.run m g)

section
open Cert.Kernel10Ideal
theorem Cert.Kernel10Ideal.Value.claim : Cert.algebraic_Kernel10Ideal_Reference10Ideal (hKernel10Ideal := Cert.Kernel10Ideal.Gen.facts)
    (hReference10Ideal := Cert.Reference10Ideal.Gen.facts) := by
  intro m g m' g' _ hag
  refine ⟨fun c => Value.GS (m ((c.tc : Thread nD τ).loc main_arg0)),
    fun c => Value.DL (m ((c.tc : Thread nD τ).loc main_arg0)) (m ((c.tc : Thread nD τ).loc main_arg1)) (m ((c.tc : Thread nD τ).loc main_arg2)) (m ((c.tc : Thread nD τ).loc main_arg3)),
    fun c => Value.FM (m ((c.tc : Thread nD τ).loc main_arg0)) (m ((c.tc : Thread nD τ).loc main_arg2)),
    fun c => Value.SM (m ((c.tc : Thread nD τ).loc main_arg0)) (m ((c.tc : Thread nD τ).loc main_arg3)), ?_, ?_⟩
  · exact (θ_run _ _ _).mono (fun r h c => ⟨(h c).1.trans (Value.arr4 m c), (h c).2.1.trans (Value.arr5 m c), (h c).2.2.1.trans (Value.arr6 m c),
      (h c).2.2.2.1.trans (Value.arr7 m c), (h c).2.2.2.2⟩) (Value.run_blocks m g)
  · refine (θ_run _ _ _).mono (fun r h c => ⟨(h c).1.trans ?_, (h c).2.1.trans ?_, (h c).2.2.1.trans ?_, (h c).2.2.2.1.trans ?_, (h c).2.2.2.2⟩)
      (Cert.Reference10Ideal.Value.run m' g')
    all_goals
      obtain ⟨h0, h1, h2, h3⟩ := hag c
      simp only [h0, h1, h2, h3]
      funext j
      obtain ⟨r, i, rfl⟩ : ∃ (r : Fin 320) (i : Fin 1024), j = ix2 r i := ⟨j 0, j 1, eq_ix2 j⟩
      pointwise
      rfl
end

theorem Cert.Reference10Ideal.Value.frame : Cert.quiescent_Reference10Ideal (hReference10Ideal := Cert.Reference10Ideal.Gen.facts) := fun m g _ =>
  (θ_run _ _ _).mono (fun r h => ⟨fun c => (h c).2.2.2.2, sem_eq_zero_of_no_sems (by decide) r.2⟩) (Cert.Reference10Ideal.Value.run m g)
-- ==== Proof.AttnClaims.lean ====
module
public import proofs.«01_k».proof.Defs
public import proofs.«01_k».proof.Proof.Gen.Kernel11Ideal.Value
public import proofs.«01_k».proof.Proof.Gen.Kernel12Ideal.Value
public import proofs.«01_k».proof.Proof.Gen.Reference11Ideal.Run
public import proofs.«01_k».proof.Proof.Gen.Reference12Ideal.Run
public import Idealize.ShloMosaic.Lib.Pipeline.ValueKit
public import Idealize.ShloMosaic.Lib.Pointwise
public import Idealize.ShloMosaic.Lib.Claim
/-! The claims on the sums over the devices of the four gradients of the cross-attention, and on the updates of its
    four weights: every result is read at one element on both sides. -/
@[expose] public section
set_option maxRecDepth 16384
open Idealize.ShloMosaic Idealize.ShloMosaic.TcCoe Idealize.SL.Sem

theorem Cert.Kernel11Ideal.Value.claim : Cert.algebraic_Kernel11Ideal_Reference11Ideal (hKernel11Ideal := Cert.Kernel11Ideal.Gen.facts)
    (hReference11Ideal := Cert.Reference11Ideal.Gen.facts) := by
  intro m g m' g' _ hag
  refine ⟨_, _, _, _, Cert.Kernel11Ideal.Value.run m g, ?_⟩
  refine (θ_run _ _ _).mono (fun r h c => ⟨(h c).1.trans ?_, (h c).2.1.trans ?_, (h c).2.2.1.trans ?_, (h c).2.2.2.1.trans ?_, (h c).2.2.2.2⟩) (Cert.Reference11Ideal.Value.run m' g')
  all_goals
    obtain ⟨h0, h1, h2, h3⟩ := hag c
    simp only [h0, h1, h2, h3]
    funext j
    obtain ⟨r, i, rfl⟩ : ∃ (r : Fin 128) (i : Fin 1024), j = ix2 r i := ⟨j 0, j 1, eq_ix2 j⟩
    pointwise
    refine (Fin.sum_univ_eight (M := EReal) _).trans ?_
    pointwise [Cert.Kernel11Ideal.Gen.k0_pay1, Cert.Kernel11Ideal.Gen.k0_pay2, Cert.Kernel11Ideal.Gen.k0_pay3, Cert.Kernel11Ideal.Gen.k0_pay4] <;> rfl

theorem Cert.Kernel12Ideal.Value.claim : Cert.algebraic_Kernel12Ideal_Reference12Ideal (hKernel12Ideal := Cert.Kernel12Ideal.Gen.facts)
    (hReference12Ideal := Cert.Reference12Ideal.Gen.facts) := by
  intro m g m' g' _ hag
  refine ⟨_, _, _, _, _, _, _, _, _, _, _, _, Cert.Kernel12Ideal.Value.run m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (Cert.Reference12Ideal.Value.run m' g')
  all_goals
    obtain ⟨h0, h1, h2, h3, h4, h5, h6, h7, h8, h9, h10, h11, h12, h13, h14, h15⟩ := hag c
    simp only [h0, h1, h2, h3, h4, h5, h6, h7, h8, h9, h10, h11, h12, h13, h14, h15]
    clear h h0 h1 h2 h3 h4 h5 h6 h7 h8 h9 h10 h11 h12 h13 h14 h15
    funext j
    first
    | obtain ⟨a, b, d, rfl⟩ : ∃ (a : Fin 128) (b : Fin 4) (d : Fin 256), j = ix4 0 a b d := ⟨j 1, j 2, j 3, by
        funext x; exact match x with | 0 => Subsingleton.elim (α := Fin 1) _ _ | 1 => rfl | 2 => rfl | 3 => rfl⟩
    | skip
    pointwise [Cert.Kernel12Ideal.Gen.k0_pay1, Cert.Kernel12Ideal.Gen.k0_pay2, Cert.Kernel12Ideal.Gen.k0_pay3, Cert.Kernel12Ideal.Gen.k0_pay4, Cert.Kernel12Ideal.Gen.k0_pay5, Cert.Kernel12Ideal.Gen.k0_pay6, Cert.Kernel12Ideal.Gen.k0_pay7, Cert.Kernel12Ideal.Gen.k0_pay8, Cert.Kernel12Ideal.Gen.k0_pay9, Cert.Kernel12Ideal.Gen.k0_pay10, Cert.Kernel12Ideal.Gen.k0_pay11, Cert.Kernel12Ideal.Gen.k0_pay12, Cert.Kernel12Ideal.Gen.k0_pay13, Cert.Kernel12Ideal.Gen.k0_pay14, Cert.Kernel12Ideal.Gen.k0_pay15, Cert.Kernel12Ideal.Gen.k0_pay16, Cert.Kernel12Ideal.Gen.k0_pay17, Cert.Kernel12Ideal.Gen.k0_pay18] <;> rfl

theorem Cert.Reference11Ideal.Value.frame : Cert.quiescent_Reference11Ideal (hReference11Ideal := Cert.Reference11Ideal.Gen.facts) := fun m g _ =>
  (θ_run _ _ _).mono (fun r h => ⟨fun c => (h c).2.2.2.2, sem_eq_zero_of_no_sems (by decide) r.2⟩) (Cert.Reference11Ideal.Value.run m g)

theorem Cert.Reference12Ideal.Value.frame : Cert.quiescent_Reference12Ideal (hReference12Ideal := Cert.Reference12Ideal.Gen.facts) := fun m g _ =>
  (θ_run _ _ _).mono (fun r h => ⟨fun c => (h c).2.2.2.2.2.2.2.2.2.2.2.2, sem_eq_zero_of_no_sems (by decide) r.2⟩) (Cert.Reference12Ideal.Value.run m g)
-- ==== Proof.SmallBody.lean ====
module

public import proofs.«01_k».proof.Proof.Gen.Kernel13Ideal.Frame.Runs
public import Idealize.ShloMosaic.Lib.Pipeline.ReadBack

/-! # The body of the small parameters' update

`small_update` sums the eight devices' packed gradients into two scratch buffers (and `w_pool`'s into a value), writes the loss out of its slot, and for
each of the nine small parameters writes the gradient out of its slot, the AdamW step, and the two new moments. Here are these values as functions of the
arrays read, over any floats, and the run of the body that writes them: each is one store of a whole buffer. -/

@[expose] public section

set_option maxRecDepth 16384

noncomputable section

namespace Cert.Kernel13Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (UR sig nD τ) ℕ

/-- The first packed array's sum over the eight devices: the contents of the first scratch buffer. -/
def acc0 (x0 : Vec F S8x40x1024 .f32) : Vec F S40x1024 .f32 :=
  k0_pay1 (View.ld x0 (Rect.unit (s := S8x40x1024) ![0, 0, 0] S1x40x1024.size inb_S8x40x1024_S1x40x1024_0_0_0))
    (View.ld x0 (Rect.unit (s := S8x40x1024) ![1, 0, 0] S1x40x1024.size inb_S8x40x1024_S1x40x1024_1_0_0))
    (View.ld x0 (Rect.unit (s := S8x40x1024) ![2, 0, 0] S1x40x1024.size inb_S8x40x1024_S1x40x1024_2_0_0))
    (View.ld x0 (Rect.unit (s := S8x40x1024) ![3, 0, 0] S1x40x1024.size inb_S8x40x1024_S1x40x1024_3_0_0))
    (View.ld x0 (Rect.unit (s := S8x40x1024) ![4, 0, 0] S1x40x1024.size inb_S8x40x1024_S1x40x1024_4_0_0))
    (View.ld x0 (Rect.unit (s := S8x40x1024) ![5, 0, 0] S1x40x1024.size inb_S8x40x1024_S1x40x1024_5_0_0))
    (View.ld x0 (Rect.unit (s := S8x40x1024) ![6, 0, 0] S1x40x1024.size inb_S8x40x1024_S1x40x1024_6_0_0))
    (View.ld x0 (Rect.unit (s := S8x40x1024) ![7, 0, 0] S1x40x1024.size inb_S8x40x1024_S1x40x1024_7_0_0))

/-- The second packed array's sum over the eight devices: the contents of the second scratch buffer. -/
def acc1 (x1 : Vec F S8x24x1024 .f32) : Vec F S24x1024 .f32 :=
  k0_pay3 (k0_pay2 (View.ld x1 (Rect.unit (s := S8x24x1024) ![0, 0, 0] S1x24x1024.size inb_S8x24x1024_S1x24x1024_0_0_0)))
    (View.ld x1 (Rect.unit (s := S8x24x1024) ![1, 0, 0] S1x24x1024.size inb_S8x24x1024_S1x24x1024_1_0_0))
    (View.ld x1 (Rect.unit (s := S8x24x1024) ![2, 0, 0] S1x24x1024.size inb_S8x24x1024_S1x24x1024_2_0_0))
    (View.ld x1 (Rect.unit (s := S8x24x1024) ![3, 0, 0] S1x24x1024.size inb_S8x24x1024_S1x24x1024_3_0_0))
    (View.ld x1 (Rect.unit (s := S8x24x1024) ![4, 0, 0] S1x24x1024.size inb_S8x24x1024_S1x24x1024_4_0_0))
    (View.ld x1 (Rect.unit (s := S8x24x1024) ![5, 0, 0] S1x24x1024.size inb_S8x24x1024_S1x24x1024_5_0_0))
    (View.ld x1 (Rect.unit (s := S8x24x1024) ![6, 0, 0] S1x24x1024.size inb_S8x24x1024_S1x24x1024_6_0_0))
    (View.ld x1 (Rect.unit (s := S8x24x1024) ![7, 0, 0] S1x24x1024.size inb_S8x24x1024_S1x24x1024_7_0_0))

/-- The loss: its slot of the first sum. -/
def loss (x0 : Vec F S8x40x1024 .f32) : Vec F S1x1 .f32 :=
  View.ld (acc0 x0) (Rect.unit (s := S40x1024) ![25, 0] S1x1.size inb_S40x1024_S1x1_25_0)

/-- The gradient of `norm_mix_g`: its slot of the second sum. -/
def grad0 (x1 : Vec F S8x24x1024 .f32) : Vec F S1x1024 .f32 :=
  View.ld (acc1 x1) (Rect.unit (s := S24x1024) ![0, 0] S1x1024.size inb_S24x1024_S1x1024_0_0)

/-- The gradient of `lb_logits`: its slot of the second sum. -/
def grad1 (x1 : Vec F S8x24x1024 .f32) : Vec F S2x512 .f32 :=
  View.ld (acc1 x1) (Rect.unit (s := S24x1024) ![8, 0] S2x512.size inb_S24x1024_S2x512_8_0)

/-- The gradient of `hgrn_norm_g`: its slot of the second sum. -/
def grad2 (x1 : Vec F S8x24x1024 .f32) : Vec F S4x128 .f32 :=
  View.ld (acc1 x1) (Rect.unit (s := S24x1024) ![16, 0] S4x128.size inb_S24x1024_S4x128_16_0)

/-- The gradient of `pool_scale`: its slot of the first sum. -/
def grad3 (x0 : Vec F S8x40x1024 .f32) : Vec F S1x512 .f32 :=
  View.ld (acc0 x0) (Rect.unit (s := S40x1024) ![32, 0] S1x512.size inb_S40x1024_S1x512_32_0)

/-- The gradient of `norm_x_g`: its slot of the first sum. -/
def grad4 (x0 : Vec F S8x40x1024 .f32) : Vec F S1x1024 .f32 :=
  View.ld (acc0 x0) (Rect.unit (s := S40x1024) ![0, 0] S1x1024.size inb_S40x1024_S1x1024_0_0)

/-- The gradient of `norm_mem_g`: its slot of the first sum. -/
def grad5 (x0 : Vec F S8x40x1024 .f32) : Vec F S1x1024 .f32 :=
  View.ld (acc0 x0) (Rect.unit (s := S40x1024) ![8, 0] S1x1024.size inb_S40x1024_S1x1024_8_0)

/-- The gradient of `norm_ffn_g`: its slot of the first sum. -/
def grad6 (x0 : Vec F S8x40x1024 .f32) : Vec F S1x1024 .f32 :=
  View.ld (acc0 x0) (Rect.unit (s := S40x1024) ![16, 0] S1x1024.size inb_S40x1024_S1x1024_16_0)

/-- The gradient of `final_norm_g`: its slot of the first sum. -/
def grad7 (x0 : Vec F S8x40x1024 .f32) : Vec F S1x1024 .f32 :=
  View.ld (acc0 x0) (Rect.unit (s := S40x1024) ![24, 0] S1x1024.size inb_S40x1024_S1x1024_24_0)

/-- The gradient of `w_pool`: its packed array's sum over the eight devices. -/
def grad8 (x2 : Vec F S8x4x128x128 .f32) : Vec F S4x128x128 .f32 :=
  k0_pay28 (View.ld x2 (Rect.unit (s := S8x4x128x128) ![0, 0, 0, 0] S1x4x128x128.size inb_S8x4x128x128_S1x4x128x128_0_0_0_0))
    (View.ld x2 (Rect.unit (s := S8x4x128x128) ![1, 0, 0, 0] S1x4x128x128.size inb_S8x4x128x128_S1x4x128x128_1_0_0_0))
    (View.ld x2 (Rect.unit (s := S8x4x128x128) ![2, 0, 0, 0] S1x4x128x128.size inb_S8x4x128x128_S1x4x128x128_2_0_0_0))
    (View.ld x2 (Rect.unit (s := S8x4x128x128) ![3, 0, 0, 0] S1x4x128x128.size inb_S8x4x128x128_S1x4x128x128_3_0_0_0))
    (View.ld x2 (Rect.unit (s := S8x4x128x128) ![4, 0, 0, 0] S1x4x128x128.size inb_S8x4x128x128_S1x4x128x128_4_0_0_0))
    (View.ld x2 (Rect.unit (s := S8x4x128x128) ![5, 0, 0, 0] S1x4x128x128.size inb_S8x4x128x128_S1x4x128x128_5_0_0_0))
    (View.ld x2 (Rect.unit (s := S8x4x128x128) ![6, 0, 0, 0] S1x4x128x128.size inb_S8x4x128x128_S1x4x128x128_6_0_0_0))
    (View.ld x2 (Rect.unit (s := S8x4x128x128) ![7, 0, 0, 0] S1x4x128x128.size inb_S8x4x128x128_S1x4x128x128_7_0_0_0))

section
variable {S : Shape} {e : EltTy} {κ : Kind} {sp : Space} {off : Fin S.rank → ℕ} {inb : ∀ a, off a + S.size a ≤ S.size a}

/-- A buffer after one store of the whole of it reads what was stored. -/
theorem stored (h : ∀ a, off a = 0) {w z : S.Idx → Elt F e}
    (ht : View.Piece.tiled [(⟨Rect.unit off S.size inb, w⟩ : View.Piece (Elt F) S e)] S.size = true)
    (v : View sig κ sp S e) (f : v.ty.Contents (Elt F)) (hw : w = z) :
    v.read (Elt F) (v.writes (Elt F) f [⟨Rect.unit off S.size inb, w⟩]) = z :=
  (View.read_writes_eq_canon v f _ (View.cover_of_tiled _ S.size ht)).trans ((View.canon_cons_unit_lit inb w [] h).trans hw)

/-- A load of a whole buffer reads its contents. -/
theorem whole (h : ∀ a, off a = 0) (v : View sig κ sp S e) (f : v.ty.Contents (Elt F)) :
    View.readAt (Elt F) v (Rect.unit off S.size inb).toLoadRect f = v.read (Elt F) f :=
  View.ld_unit_lit inb (v.read (Elt F) f) h

/-- A load of a slot after one store of the whole buffer reads the slot of what was stored. -/
theorem slot (h : ∀ a, off a = 0) (v : View sig κ sp S e) (Z : S.Idx → Elt F e) (r : Rect S) {z : r.shape.Idx → Elt F e} (hz : View.ld Z r = z) :
    v.readCov [(⟨Rect.unit off S.size inb, Z⟩ : View.Piece (Elt F) S e)] r.toLoadRect = z :=
  (View.readCov_fill v inb Z [] r h).trans hz
end

/-- Equal arguments, equal values: of two arguments, and of four. -/
theorem app2 {α β γ : Type} (f : α → β → γ) {a a' : α} {b b' : β} (h : a = a') (k : b = b') : f a b = f a' b' := by subst h k; rfl
theorem app4 {α β γ δ ε : Type} (f : α → β → γ → δ → ε) {a a' : α} {b b' : β} {c c' : γ} {d d' : δ}
    (h : a = a') (k : b = b') (l : c = c') (n : d = d') : f a b c d = f a' b' c' d' := by subst h k l n; rfl

set_option maxHeartbeats 8000000 in
/-- The body on whole buffers, the inputs' at their contents and the outputs' and both scratch buffers at anything: it runs to the continuation holding
    the inputs' as they were, each output's at its value and the scratch buffers at something. The run is `sl_exec`'s over the skeleton. -/
theorem sound_kernel (c : Dev nD) (E : Set ℕ)
    (arg0 : Memref sig .tc .vmem S8x40x1024 .f32) (harg0 : arg0.IsWhole)
    (arg1 : Memref sig .tc .vmem S8x24x1024 .f32) (harg1 : arg1.IsWhole)
    (arg2 : Memref sig .tc .vmem S8x4x128x128 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S2x512 .f32) (harg6 : arg6.IsWhole)
    (arg7 : Memref sig .tc .vmem S2x512 .f32) (harg7 : arg7.IsWhole)
    (arg8 : Memref sig .tc .vmem S2x512 .f32) (harg8 : arg8.IsWhole)
    (arg9 : Memref sig .tc .vmem S4x128 .f32) (harg9 : arg9.IsWhole)
    (arg10 : Memref sig .tc .vmem S4x128 .f32) (harg10 : arg10.IsWhole)
    (arg11 : Memref sig .tc .vmem S4x128 .f32) (harg11 : arg11.IsWhole)
    (arg12 : Memref sig .tc .vmem S1x512 .f32) (harg12 : arg12.IsWhole)
    (arg13 : Memref sig .tc .vmem S1x512 .f32) (harg13 : arg13.IsWhole)
    (arg14 : Memref sig .tc .vmem S1x512 .f32) (harg14 : arg14.IsWhole)
    (arg15 : Memref sig .tc .vmem S1x1024 .f32) (harg15 : arg15.IsWhole)
    (arg16 : Memref sig .tc .vmem S1x1024 .f32) (harg16 : arg16.IsWhole)
    (arg17 : Memref sig .tc .vmem S1x1024 .f32) (harg17 : arg17.IsWhole)
    (arg18 : Memref sig .tc .vmem S1x1024 .f32) (harg18 : arg18.IsWhole)
    (arg19 : Memref sig .tc .vmem S1x1024 .f32) (harg19 : arg19.IsWhole)
    (arg20 : Memref sig .tc .vmem S1x1024 .f32) (harg20 : arg20.IsWhole)
    (arg21 : Memref sig .tc .vmem S1x1024 .f32) (harg21 : arg21.IsWhole)
    (arg22 : Memref sig .tc .vmem S1x1024 .f32) (harg22 : arg22.IsWhole)
    (arg23 : Memref sig .tc .vmem S1x1024 .f32) (harg23 : arg23.IsWhole)
    (arg24 : Memref sig .tc .vmem S1x1024 .f32) (harg24 : arg24.IsWhole)
    (arg25 : Memref sig .tc .vmem S1x1024 .f32) (harg25 : arg25.IsWhole)
    (arg26 : Memref sig .tc .vmem S1x1024 .f32) (harg26 : arg26.IsWhole)
    (arg27 : Memref sig .tc .vmem S4x128x128 .f32) (harg27 : arg27.IsWhole)
    (arg28 : Memref sig .tc .vmem S4x128x128 .f32) (harg28 : arg28.IsWhole)
    (arg29 : Memref sig .tc .vmem S4x128x128 .f32) (harg29 : arg29.IsWhole)
    (arg30 : Memref sig .tc .vmem S1x1 .f32) (harg30 : arg30.IsWhole)
    (arg31 : Memref sig .tc .vmem S1x1024 .f32) (harg31 : arg31.IsWhole)
    (arg32 : Memref sig .tc .vmem S1x1024 .f32) (harg32 : arg32.IsWhole)
    (arg33 : Memref sig .tc .vmem S1x1024 .f32) (harg33 : arg33.IsWhole)
    (arg34 : Memref sig .tc .vmem S1x1024 .f32) (harg34 : arg34.IsWhole)
    (arg35 : Memref sig .tc .vmem S2x512 .f32) (harg35 : arg35.IsWhole)
    (arg36 : Memref sig .tc .vmem S2x512 .f32) (harg36 : arg36.IsWhole)
    (arg37 : Memref sig .tc .vmem S2x512 .f32) (harg37 : arg37.IsWhole)
    (arg38 : Memref sig .tc .vmem S2x512 .f32) (harg38 : arg38.IsWhole)
    (arg39 : Memref sig .tc .vmem S4x128 .f32) (harg39 : arg39.IsWhole)
    (arg40 : Memref sig .tc .vmem S4x128 .f32) (harg40 : arg40.IsWhole)
    (arg41 : Memref sig .tc .vmem S4x128 .f32) (harg41 : arg41.IsWhole)
    (arg42 : Memref sig .tc .vmem S4x128 .f32) (harg42 : arg42.IsWhole)
    (arg43 : Memref sig .tc .vmem S1x512 .f32) (harg43 : arg43.IsWhole)
    (arg44 : Memref sig .tc .vmem S1x512 .f32) (harg44 : arg44.IsWhole)
    (arg45 : Memref sig .tc .vmem S1x512 .f32) (harg45 : arg45.IsWhole)
    (arg46 : Memref sig .tc .vmem S1x512 .f32) (harg46 : arg46.IsWhole)
    (arg47 : Memref sig .tc .vmem S1x1024 .f32) (harg47 : arg47.IsWhole)
    (arg48 : Memref sig .tc .vmem S1x1024 .f32) (harg48 : arg48.IsWhole)
    (arg49 : Memref sig .tc .vmem S1x1024 .f32) (harg49 : arg49.IsWhole)
    (arg50 : Memref sig .tc .vmem S1x1024 .f32) (harg50 : arg50.IsWhole)
    (arg51 : Memref sig .tc .vmem S1x1024 .f32) (harg51 : arg51.IsWhole)
    (arg52 : Memref sig .tc .vmem S1x1024 .f32) (harg52 : arg52.IsWhole)
    (arg53 : Memref sig .tc .vmem S1x1024 .f32) (harg53 : arg53.IsWhole)
    (arg54 : Memref sig .tc .vmem S1x1024 .f32) (harg54 : arg54.IsWhole)
    (arg55 : Memref sig .tc .vmem S1x1024 .f32) (harg55 : arg55.IsWhole)
    (arg56 : Memref sig .tc .vmem S1x1024 .f32) (harg56 : arg56.IsWhole)
    (arg57 : Memref sig .tc .vmem S1x1024 .f32) (harg57 : arg57.IsWhole)
    (arg58 : Memref sig .tc .vmem S1x1024 .f32) (harg58 : arg58.IsWhole)
    (arg59 : Memref sig .tc .vmem S1x1024 .f32) (harg59 : arg59.IsWhole)
    (arg60 : Memref sig .tc .vmem S1x1024 .f32) (harg60 : arg60.IsWhole)
    (arg61 : Memref sig .tc .vmem S1x1024 .f32) (harg61 : arg61.IsWhole)
    (arg62 : Memref sig .tc .vmem S1x1024 .f32) (harg62 : arg62.IsWhole)
    (arg63 : Memref sig .tc .vmem S4x128x128 .f32) (harg63 : arg63.IsWhole)
    (arg64 : Memref sig .tc .vmem S4x128x128 .f32) (harg64 : arg64.IsWhole)
    (arg65 : Memref sig .tc .vmem S4x128x128 .f32) (harg65 : arg65.IsWhole)
    (arg66 : Memref sig .tc .vmem S4x128x128 .f32) (harg66 : arg66.IsWhole)
    (arg67 : Memref sig .tc .vmem S40x1024 .f32) (harg67 : arg67.IsWhole)
    (arg68 : Memref sig .tc .vmem S24x1024 .f32) (harg68 : arg68.IsWhole)
    (x0 : Vec F S8x40x1024 .f32) (x1 : Vec F S8x24x1024 .f32) (x2 : Vec F S8x4x128x128 .f32) (x3 : Vec F S1x1024 .f32) (x4 : Vec F S1x1024 .f32) (x5 : Vec F S1x1024 .f32) (x6 : Vec F S2x512 .f32) (x7 : Vec F S2x512 .f32) (x8 : Vec F S2x512 .f32) (x9 : Vec F S4x128 .f32) (x10 : Vec F S4x128 .f32) (x11 : Vec F S4x128 .f32) (x12 : Vec F S1x512 .f32) (x13 : Vec F S1x512 .f32) (x14 : Vec F S1x512 .f32) (x15 : Vec F S1x1024 .f32) (x16 : Vec F S1x1024 .f32) (x17 : Vec F S1x1024 .f32) (x18 : Vec F S1x1024 .f32) (x19 : Vec F S1x1024 .f32) (x20 : Vec F S1x1024 .f32) (x21 : Vec F S1x1024 .f32) (x22 : Vec F S1x1024 .f32) (x23 : Vec F S1x1024 .f32) (x24 : Vec F S1x1024 .f32) (x25 : Vec F S1x1024 .f32) (x26 : Vec F S1x1024 .f32) (x27 : Vec F S4x128x128 .f32) (x28 : Vec F S4x128x128 .f32) (x29 : Vec F S4x128x128 .f32)
    (K : PUnit → sProp 𝕄) :
    iprop(owns (c : Thread nD τ) arg0 fullShare x0 ∗ owns (c : Thread nD τ) arg1 fullShare x1 ∗ owns (c : Thread nD τ) arg2 fullShare x2 ∗
        owns (c : Thread nD τ) arg3 fullShare x3 ∗ owns (c : Thread nD τ) arg4 fullShare x4 ∗ owns (c : Thread nD τ) arg5 fullShare x5 ∗
        owns (c : Thread nD τ) arg6 fullShare x6 ∗ owns (c : Thread nD τ) arg7 fullShare x7 ∗ owns (c : Thread nD τ) arg8 fullShare x8 ∗
        owns (c : Thread nD τ) arg9 fullShare x9 ∗ owns (c : Thread nD τ) arg10 fullShare x10 ∗ owns (c : Thread nD τ) arg11 fullShare x11 ∗
        owns (c : Thread nD τ) arg12 fullShare x12 ∗ owns (c : Thread nD τ) arg13 fullShare x13 ∗ owns (c : Thread nD τ) arg14 fullShare x14 ∗
        owns (c : Thread nD τ) arg15 fullShare x15 ∗ owns (c : Thread nD τ) arg16 fullShare x16 ∗ owns (c : Thread nD τ) arg17 fullShare x17 ∗
        owns (c : Thread nD τ) arg18 fullShare x18 ∗ owns (c : Thread nD τ) arg19 fullShare x19 ∗ owns (c : Thread nD τ) arg20 fullShare x20 ∗
        owns (c : Thread nD τ) arg21 fullShare x21 ∗ owns (c : Thread nD τ) arg22 fullShare x22 ∗ owns (c : Thread nD τ) arg23 fullShare x23 ∗
        owns (c : Thread nD τ) arg24 fullShare x24 ∗ owns (c : Thread nD τ) arg25 fullShare x25 ∗ owns (c : Thread nD τ) arg26 fullShare x26 ∗
        owns (c : Thread nD τ) arg27 fullShare x27 ∗ owns (c : Thread nD τ) arg28 fullShare x28 ∗ owns (c : Thread nD τ) arg29 fullShare x29 ∗
        (∃ d, owns (c : Thread nD τ) arg30 fullShare d) ∗ (∃ d, owns (c : Thread nD τ) arg31 fullShare d) ∗ (∃ d, owns (c : Thread nD τ) arg32 fullShare d) ∗
        (∃ d, owns (c : Thread nD τ) arg33 fullShare d) ∗ (∃ d, owns (c : Thread nD τ) arg34 fullShare d) ∗ (∃ d, owns (c : Thread nD τ) arg35 fullShare d) ∗
        (∃ d, owns (c : Thread nD τ) arg36 fullShare d) ∗ (∃ d, owns (c : Thread nD τ) arg37 fullShare d) ∗ (∃ d, owns (c : Thread nD τ) arg38 fullShare d) ∗
        (∃ d, owns (c : Thread nD τ) arg39 fullShare d) ∗ (∃ d, owns (c : Thread nD τ) arg40 fullShare d) ∗ (∃ d, owns (c : Thread nD τ) arg41 fullShare d) ∗
        (∃ d, owns (c : Thread nD τ) arg42 fullShare d) ∗ (∃ d, owns (c : Thread nD τ) arg43 fullShare d) ∗ (∃ d, owns (c : Thread nD τ) arg44 fullShare d) ∗
        (∃ d, owns (c : Thread nD τ) arg45 fullShare d) ∗ (∃ d, owns (c : Thread nD τ) arg46 fullShare d) ∗ (∃ d, owns (c : Thread nD τ) arg47 fullShare d) ∗
        (∃ d, owns (c : Thread nD τ) arg48 fullShare d) ∗ (∃ d, owns (c : Thread nD τ) arg49 fullShare d) ∗ (∃ d, owns (c : Thread nD τ) arg50 fullShare d) ∗
        (∃ d, owns (c : Thread nD τ) arg51 fullShare d) ∗ (∃ d, owns (c : Thread nD τ) arg52 fullShare d) ∗ (∃ d, owns (c : Thread nD τ) arg53 fullShare d) ∗
        (∃ d, owns (c : Thread nD τ) arg54 fullShare d) ∗ (∃ d, owns (c : Thread nD τ) arg55 fullShare d) ∗ (∃ d, owns (c : Thread nD τ) arg56 fullShare d) ∗
        (∃ d, owns (c : Thread nD τ) arg57 fullShare d) ∗ (∃ d, owns (c : Thread nD τ) arg58 fullShare d) ∗ (∃ d, owns (c : Thread nD τ) arg59 fullShare d) ∗
        (∃ d, owns (c : Thread nD τ) arg60 fullShare d) ∗ (∃ d, owns (c : Thread nD τ) arg61 fullShare d) ∗ (∃ d, owns (c : Thread nD τ) arg62 fullShare d) ∗
        (∃ d, owns (c : Thread nD τ) arg63 fullShare d) ∗ (∃ d, owns (c : Thread nD τ) arg64 fullShare d) ∗ (∃ d, owns (c : Thread nD τ) arg65 fullShare d) ∗
        (∃ d, owns (c : Thread nD τ) arg66 fullShare d) ∗ (∃ d, owns (c : Thread nD τ) arg67 fullShare d) ∗ (∃ d, owns (c : Thread nD τ) arg68 fullShare d) ∗
        (iprop(owns (c : Thread nD τ) arg0 fullShare x0 ∗ owns (c : Thread nD τ) arg1 fullShare x1 ∗ owns (c : Thread nD τ) arg2 fullShare x2 ∗
          owns (c : Thread nD τ) arg3 fullShare x3 ∗ owns (c : Thread nD τ) arg4 fullShare x4 ∗ owns (c : Thread nD τ) arg5 fullShare x5 ∗
          owns (c : Thread nD τ) arg6 fullShare x6 ∗ owns (c : Thread nD τ) arg7 fullShare x7 ∗ owns (c : Thread nD τ) arg8 fullShare x8 ∗
          owns (c : Thread nD τ) arg9 fullShare x9 ∗ owns (c : Thread nD τ) arg10 fullShare x10 ∗ owns (c : Thread nD τ) arg11 fullShare x11 ∗
          owns (c : Thread nD τ) arg12 fullShare x12 ∗ owns (c : Thread nD τ) arg13 fullShare x13 ∗ owns (c : Thread nD τ) arg14 fullShare x14 ∗
          owns (c : Thread nD τ) arg15 fullShare x15 ∗ owns (c : Thread nD τ) arg16 fullShare x16 ∗ owns (c : Thread nD τ) arg17 fullShare x17 ∗
          owns (c : Thread nD τ) arg18 fullShare x18 ∗ owns (c : Thread nD τ) arg19 fullShare x19 ∗ owns (c : Thread nD τ) arg20 fullShare x20 ∗
          owns (c : Thread nD τ) arg21 fullShare x21 ∗ owns (c : Thread nD τ) arg22 fullShare x22 ∗ owns (c : Thread nD τ) arg23 fullShare x23 ∗
          owns (c : Thread nD τ) arg24 fullShare x24 ∗ owns (c : Thread nD τ) arg25 fullShare x25 ∗ owns (c : Thread nD τ) arg26 fullShare x26 ∗
          owns (c : Thread nD τ) arg27 fullShare x27 ∗ owns (c : Thread nD τ) arg28 fullShare x28 ∗ owns (c : Thread nD τ) arg29 fullShare x29 ∗
          owns (c : Thread nD τ) arg30 fullShare (loss x0) ∗ owns (c : Thread nD τ) arg31 fullShare (grad0 x1) ∗ owns (c : Thread nD τ) arg32 fullShare (k0_pay6 (grad0 x1) x3 x4 x5) ∗
          owns (c : Thread nD τ) arg33 fullShare (k0_pay4 (grad0 x1) x4) ∗ owns (c : Thread nD τ) arg34 fullShare (k0_pay5 (grad0 x1) x5) ∗ owns (c : Thread nD τ) arg35 fullShare (grad1 x1) ∗
          owns (c : Thread nD τ) arg36 fullShare (k0_pay9 (grad1 x1) x6 x7 x8) ∗ owns (c : Thread nD τ) arg37 fullShare (k0_pay7 (grad1 x1) x7) ∗ owns (c : Thread nD τ) arg38 fullShare (k0_pay8 (grad1 x1) x8) ∗
          owns (c : Thread nD τ) arg39 fullShare (grad2 x1) ∗ owns (c : Thread nD τ) arg40 fullShare (k0_pay12 (grad2 x1) x9 x10 x11) ∗ owns (c : Thread nD τ) arg41 fullShare (k0_pay10 (grad2 x1) x10) ∗
          owns (c : Thread nD τ) arg42 fullShare (k0_pay11 (grad2 x1) x11) ∗ owns (c : Thread nD τ) arg43 fullShare (grad3 x0) ∗ owns (c : Thread nD τ) arg44 fullShare (k0_pay15 (grad3 x0) x12 x13 x14) ∗
          owns (c : Thread nD τ) arg45 fullShare (k0_pay13 (grad3 x0) x13) ∗ owns (c : Thread nD τ) arg46 fullShare (k0_pay14 (grad3 x0) x14) ∗ owns (c : Thread nD τ) arg47 fullShare (grad4 x0) ∗
          owns (c : Thread nD τ) arg48 fullShare (k0_pay18 (grad4 x0) x15 x16 x17) ∗ owns (c : Thread nD τ) arg49 fullShare (k0_pay16 (grad4 x0) x16) ∗ owns (c : Thread nD τ) arg50 fullShare (k0_pay17 (grad4 x0) x17) ∗
          owns (c : Thread nD τ) arg51 fullShare (grad5 x0) ∗ owns (c : Thread nD τ) arg52 fullShare (k0_pay21 (grad5 x0) x18 x19 x20) ∗ owns (c : Thread nD τ) arg53 fullShare (k0_pay19 (grad5 x0) x19) ∗
          owns (c : Thread nD τ) arg54 fullShare (k0_pay20 (grad5 x0) x20) ∗ owns (c : Thread nD τ) arg55 fullShare (grad6 x0) ∗ owns (c : Thread nD τ) arg56 fullShare (k0_pay24 (grad6 x0) x21 x22 x23) ∗
          owns (c : Thread nD τ) arg57 fullShare (k0_pay22 (grad6 x0) x22) ∗ owns (c : Thread nD τ) arg58 fullShare (k0_pay23 (grad6 x0) x23) ∗ owns (c : Thread nD τ) arg59 fullShare (grad7 x0) ∗
          owns (c : Thread nD τ) arg60 fullShare (k0_pay27 (grad7 x0) x24 x25 x26) ∗ owns (c : Thread nD τ) arg61 fullShare (k0_pay25 (grad7 x0) x25) ∗ owns (c : Thread nD τ) arg62 fullShare (k0_pay26 (grad7 x0) x26) ∗
          owns (c : Thread nD τ) arg63 fullShare (grad8 x2) ∗ owns (c : Thread nD τ) arg64 fullShare (k0_pay31 (grad8 x2) x27 x28 x29) ∗ owns (c : Thread nD τ) arg65 fullShare (k0_pay29 (grad8 x2) x28) ∗
          owns (c : Thread nD τ) arg66 fullShare (k0_pay30 (grad8 x2) x29) ∗ (∃ d, owns (c : Thread nD τ) arg67 fullShare d) ∗ (∃ d, owns (c : Thread nD τ) arg68 fullShare d)) -∗ K ⟨⟩))
      ⊢ wp frame (wpE (defs₀ (F := F)) Variants.none c none) E (cc0_small_update arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68) K := by
  simp only [cc0_small_update_eq_skeleton]; unfold cc0_small_update_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists _; isplitr
    swap; · iexact H30
    ipureintro
    exact stored (by decide) (by rfl) _ _ (slot (by decide) _ _ _ rfl)
  isplitl [H31]
  · iexists _; isplitr
    swap; · iexact H31
    ipureintro
    exact stored (by decide) (by rfl) _ _ (slot (by decide) _ _ _ rfl)
  isplitl [H32]
  · iexists _; isplitr
    swap; · iexact H32
    ipureintro
    exact stored (by decide) (by rfl) _ _ (app4 k0_pay6 (slot (by decide) _ _ _ rfl) (whole (by decide) _ _) (whole (by decide) _ _) (whole (by decide) _ _))
  isplitl [H33]
  · iexists _; isplitr
    swap; · iexact H33
    ipureintro
    exact stored (by decide) (by rfl) _ _ (app2 k0_pay4 (slot (by decide) _ _ _ rfl) (whole (by decide) _ _))
  isplitl [H34]
  · iexists _; isplitr
    swap; · iexact H34
    ipureintro
    exact stored (by decide) (by rfl) _ _ (app2 k0_pay5 (slot (by decide) _ _ _ rfl) (whole (by decide) _ _))
  isplitl [H35]
  · iexists _; isplitr
    swap; · iexact H35
    ipureintro
    exact stored (by decide) (by rfl) _ _ (slot (by decide) _ _ _ rfl)
  isplitl [H36]
  · iexists _; isplitr
    swap; · iexact H36
    ipureintro
    exact stored (by decide) (by rfl) _ _ (app4 k0_pay9 (slot (by decide) _ _ _ rfl) (whole (by decide) _ _) (whole (by decide) _ _) (whole (by decide) _ _))
  isplitl [H37]
  · iexists _; isplitr
    swap; · iexact H37
    ipureintro
    exact stored (by decide) (by rfl) _ _ (app2 k0_pay7 (slot (by decide) _ _ _ rfl) (whole (by decide) _ _))
  isplitl [H38]
  · iexists _; isplitr
    swap; · iexact H38
    ipureintro
    exact stored (by decide) (by rfl) _ _ (app2 k0_pay8 (slot (by decide) _ _ _ rfl) (whole (by decide) _ _))
  isplitl [H39]
  · iexists _; isplitr
    swap; · iexact H39
    ipureintro
    exact stored (by decide) (by rfl) _ _ (slot (by decide) _ _ _ rfl)
  isplitl [H40]
  · iexists _; isplitr
    swap; · iexact H40
    ipureintro
    exact stored (by decide) (by rfl) _ _ (app4 k0_pay12 (slot (by decide) _ _ _ rfl) (whole (by decide) _ _) (whole (by decide) _ _) (whole (by decide) _ _))
  isplitl [H41]
  · iexists _; isplitr
    swap; · iexact H41
    ipureintro
    exact stored (by decide) (by rfl) _ _ (app2 k0_pay10 (slot (by decide) _ _ _ rfl) (whole (by decide) _ _))
  isplitl [H42]
  · iexists _; isplitr
    swap; · iexact H42
    ipureintro
    exact stored (by decide) (by rfl) _ _ (app2 k0_pay11 (slot (by decide) _ _ _ rfl) (whole (by decide) _ _))
  isplitl [H43]
  · iexists _; isplitr
    swap; · iexact H43
    ipureintro
    exact stored (by decide) (by rfl) _ _ (slot (by decide) _ _ _ rfl)
  isplitl [H44]
  · iexists _; isplitr
    swap; · iexact H44
    ipureintro
    exact stored (by decide) (by rfl) _ _ (app4 k0_pay15 (slot (by decide) _ _ _ rfl) (whole (by decide) _ _) (whole (by decide) _ _) (whole (by decide) _ _))
  isplitl [H45]
  · iexists _; isplitr
    swap; · iexact H45
    ipureintro
    exact stored (by decide) (by rfl) _ _ (app2 k0_pay13 (slot (by decide) _ _ _ rfl) (whole (by decide) _ _))
  isplitl [H46]
  · iexists _; isplitr
    swap; · iexact H46
    ipureintro
    exact stored (by decide) (by rfl) _ _ (app2 k0_pay14 (slot (by decide) _ _ _ rfl) (whole (by decide) _ _))
  isplitl [H47]
  · iexists _; isplitr
    swap; · iexact H47
    ipureintro
    exact stored (by decide) (by rfl) _ _ (slot (by decide) _ _ _ rfl)
  isplitl [H48]
  · iexists _; isplitr
    swap; · iexact H48
    ipureintro
    exact stored (by decide) (by rfl) _ _ (app4 k0_pay18 (slot (by decide) _ _ _ rfl) (whole (by decide) _ _) (whole (by decide) _ _) (whole (by decide) _ _))
  isplitl [H49]
  · iexists _; isplitr
    swap; · iexact H49
    ipureintro
    exact stored (by decide) (by rfl) _ _ (app2 k0_pay16 (slot (by decide) _ _ _ rfl) (whole (by decide) _ _))
  isplitl [H50]
  · iexists _; isplitr
    swap; · iexact H50
    ipureintro
    exact stored (by decide) (by rfl) _ _ (app2 k0_pay17 (slot (by decide) _ _ _ rfl) (whole (by decide) _ _))
  isplitl [H51]
  · iexists _; isplitr
    swap; · iexact H51
    ipureintro
    exact stored (by decide) (by rfl) _ _ (slot (by decide) _ _ _ rfl)
  isplitl [H52]
  · iexists _; isplitr
    swap; · iexact H52
    ipureintro
    exact stored (by decide) (by rfl) _ _ (app4 k0_pay21 (slot (by decide) _ _ _ rfl) (whole (by decide) _ _) (whole (by decide) _ _) (whole (by decide) _ _))
  isplitl [H53]
  · iexists _; isplitr
    swap; · iexact H53
    ipureintro
    exact stored (by decide) (by rfl) _ _ (app2 k0_pay19 (slot (by decide) _ _ _ rfl) (whole (by decide) _ _))
  isplitl [H54]
  · iexists _; isplitr
    swap; · iexact H54
    ipureintro
    exact stored (by decide) (by rfl) _ _ (app2 k0_pay20 (slot (by decide) _ _ _ rfl) (whole (by decide) _ _))
  isplitl [H55]
  · iexists _; isplitr
    swap; · iexact H55
    ipureintro
    exact stored (by decide) (by rfl) _ _ (slot (by decide) _ _ _ rfl)
  isplitl [H56]
  · iexists _; isplitr
    swap; · iexact H56
    ipureintro
    exact stored (by decide) (by rfl) _ _ (app4 k0_pay24 (slot (by decide) _ _ _ rfl) (whole (by decide) _ _) (whole (by decide) _ _) (whole (by decide) _ _))
  isplitl [H57]
  · iexists _; isplitr
    swap; · iexact H57
    ipureintro
    exact stored (by decide) (by rfl) _ _ (app2 k0_pay22 (slot (by decide) _ _ _ rfl) (whole (by decide) _ _))
  isplitl [H58]
  · iexists _; isplitr
    swap; · iexact H58
    ipureintro
    exact stored (by decide) (by rfl) _ _ (app2 k0_pay23 (slot (by decide) _ _ _ rfl) (whole (by decide) _ _))
  isplitl [H59]
  · iexists _; isplitr
    swap; · iexact H59
    ipureintro
    exact stored (by decide) (by rfl) _ _ (slot (by decide) _ _ _ rfl)
  isplitl [H60]
  · iexists _; isplitr
    swap; · iexact H60
    ipureintro
    exact stored (by decide) (by rfl) _ _ (app4 k0_pay27 (slot (by decide) _ _ _ rfl) (whole (by decide) _ _) (whole (by decide) _ _) (whole (by decide) _ _))
  isplitl [H61]
  · iexists _; isplitr
    swap; · iexact H61
    ipureintro
    exact stored (by decide) (by rfl) _ _ (app2 k0_pay25 (slot (by decide) _ _ _ rfl) (whole (by decide) _ _))
  isplitl [H62]
  · iexists _; isplitr
    swap; · iexact H62
    ipureintro
    exact stored (by decide) (by rfl) _ _ (app2 k0_pay26 (slot (by decide) _ _ _ rfl) (whole (by decide) _ _))
  isplitl [H63]
  · iexists _; isplitr
    swap; · iexact H63
    ipureintro
    exact stored (by decide) (by rfl) _ _ (rfl)
  isplitl [H64]
  · iexists _; isplitr
    swap; · iexact H64
    ipureintro
    exact stored (by decide) (by rfl) _ _ (app4 k0_pay31 (rfl) (whole (by decide) _ _) (whole (by decide) _ _) (whole (by decide) _ _))
  isplitl [H65]
  · iexists _; isplitr
    swap; · iexact H65
    ipureintro
    exact stored (by decide) (by rfl) _ _ (app2 k0_pay29 (rfl) (whole (by decide) _ _))
  isplitl [H66]
  · iexists _; isplitr
    swap; · iexact H66
    ipureintro
    exact stored (by decide) (by rfl) _ _ (app2 k0_pay30 (rfl) (whole (by decide) _ _))
  isplitl [H67]
  · iexists _; iexists _; isplitr
    swap; · iexact H67
    ipureintro; rfl
  iexists _; iexists _; isplitr
  swap; · iexact H68
  ipureintro; rfl

end Cert.Kernel13Ideal.Small

end
-- ==== Proof.SmallRun.lean ====
module

public import proofs.«01_k».proof.Proof.SmallBody

/-! # The run of the small parameters' update

The proof data of the call (each output's buffer after the body at its value of the input blocks), the body obligation at the one grid point, the run of the
whole program and its frame, over any floats. -/

@[expose] public section

set_option maxRecDepth 16384

noncomputable section

namespace Cert.Kernel13Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the call holds: the arrays as launched, each input's buffer at its block and each output's at its value of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => loss (iblk m c 0 t)
    | ⟨31, _⟩ => grad0 (iblk m c 1 t)
    | ⟨32, _⟩ => k0_pay6 (grad0 (iblk m c 1 t)) (iblk m c 3 t) (iblk m c 4 t) (iblk m c 5 t)
    | ⟨33, _⟩ => k0_pay4 (grad0 (iblk m c 1 t)) (iblk m c 4 t)
    | ⟨34, _⟩ => k0_pay5 (grad0 (iblk m c 1 t)) (iblk m c 5 t)
    | ⟨35, _⟩ => grad1 (iblk m c 1 t)
    | ⟨36, _⟩ => k0_pay9 (grad1 (iblk m c 1 t)) (iblk m c 6 t) (iblk m c 7 t) (iblk m c 8 t)
    | ⟨37, _⟩ => k0_pay7 (grad1 (iblk m c 1 t)) (iblk m c 7 t)
    | ⟨38, _⟩ => k0_pay8 (grad1 (iblk m c 1 t)) (iblk m c 8 t)
    | ⟨39, _⟩ => grad2 (iblk m c 1 t)
    | ⟨40, _⟩ => k0_pay12 (grad2 (iblk m c 1 t)) (iblk m c 9 t) (iblk m c 10 t) (iblk m c 11 t)
    | ⟨41, _⟩ => k0_pay10 (grad2 (iblk m c 1 t)) (iblk m c 10 t)
    | ⟨42, _⟩ => k0_pay11 (grad2 (iblk m c 1 t)) (iblk m c 11 t)
    | ⟨43, _⟩ => grad3 (iblk m c 0 t)
    | ⟨44, _⟩ => k0_pay15 (grad3 (iblk m c 0 t)) (iblk m c 12 t) (iblk m c 13 t) (iblk m c 14 t)
    | ⟨45, _⟩ => k0_pay13 (grad3 (iblk m c 0 t)) (iblk m c 13 t)
    | ⟨46, _⟩ => k0_pay14 (grad3 (iblk m c 0 t)) (iblk m c 14 t)
    | ⟨47, _⟩ => grad4 (iblk m c 0 t)
    | ⟨48, _⟩ => k0_pay18 (grad4 (iblk m c 0 t)) (iblk m c 15 t) (iblk m c 16 t) (iblk m c 17 t)
    | ⟨49, _⟩ => k0_pay16 (grad4 (iblk m c 0 t)) (iblk m c 16 t)
    | ⟨50, _⟩ => k0_pay17 (grad4 (iblk m c 0 t)) (iblk m c 17 t)
    | ⟨51, _⟩ => grad5 (iblk m c 0 t)
    | ⟨52, _⟩ => k0_pay21 (grad5 (iblk m c 0 t)) (iblk m c 18 t) (iblk m c 19 t) (iblk m c 20 t)
    | ⟨53, _⟩ => k0_pay19 (grad5 (iblk m c 0 t)) (iblk m c 19 t)
    | ⟨54, _⟩ => k0_pay20 (grad5 (iblk m c 0 t)) (iblk m c 20 t)
    | ⟨55, _⟩ => grad6 (iblk m c 0 t)
    | ⟨56, _⟩ => k0_pay24 (grad6 (iblk m c 0 t)) (iblk m c 21 t) (iblk m c 22 t) (iblk m c 23 t)
    | ⟨57, _⟩ => k0_pay22 (grad6 (iblk m c 0 t)) (iblk m c 22 t)
    | ⟨58, _⟩ => k0_pay23 (grad6 (iblk m c 0 t)) (iblk m c 23 t)
    | ⟨59, _⟩ => grad7 (iblk m c 0 t)
    | ⟨60, _⟩ => k0_pay27 (grad7 (iblk m c 0 t)) (iblk m c 24 t) (iblk m c 25 t) (iblk m c 26 t)
    | ⟨61, _⟩ => k0_pay25 (grad7 (iblk m c 0 t)) (iblk m c 25 t)
    | ⟨62, _⟩ => k0_pay26 (grad7 (iblk m c 0 t)) (iblk m c 26 t)
    | ⟨63, _⟩ => grad8 (iblk m c 2 t)
    | ⟨64, _⟩ => k0_pay31 (grad8 (iblk m c 2 t)) (iblk m c 27 t) (iblk m c 28 t) (iblk m c 29 t)
    | ⟨65, _⟩ => k0_pay29 (grad8 (iblk m c 2 t)) (iblk m c 28 t)
    | ⟨66, _⟩ => k0_pay30 (grad8 (iblk m c 2 t)) (iblk m c 29 t)
    | ⟨_ + 67, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = iblk m c 28 t := by dsimp only [dats]
theorem after_29 (c : Dev nD) (t : Fin cfg0.N) : (dats m 0 c).after 29 t = iblk m c 29 t := by dsimp only [dats]
theorem after_30 (c : Dev nD) (t : Fin cfg0.N) : (dats m 0 c).after 30 t = loss (iblk m c 0 t) := by dsimp only [dats]
theorem after_31 (c : Dev nD) (t : Fin cfg0.N) : (dats m 0 c).after 31 t = grad0 (iblk m c 1 t) := by dsimp only [dats]
theorem after_32 (c : Dev nD) (t : Fin cfg0.N) : (dats m 0 c).after 32 t = k0_pay6 (grad0 (iblk m c 1 t)) (iblk m c 3 t) (iblk m c 4 t) (iblk m c 5 t) := by dsimp only [dats]
theorem after_33 (c : Dev nD) (t : Fin cfg0.N) : (dats m 0 c).after 33 t = k0_pay4 (grad0 (iblk m c 1 t)) (iblk m c 4 t) := by dsimp only [dats]
theorem after_34 (c : Dev nD) (t : Fin cfg0.N) : (dats m 0 c).after 34 t = k0_pay5 (grad0 (iblk m c 1 t)) (iblk m c 5 t) := by dsimp only [dats]
theorem after_35 (c : Dev nD) (t : Fin cfg0.N) : (dats m 0 c).after 35 t = grad1 (iblk m c 1 t) := by dsimp only [dats]
theorem after_36 (c : Dev nD) (t : Fin cfg0.N) : (dats m 0 c).after 36 t = k0_pay9 (grad1 (iblk m c 1 t)) (iblk m c 6 t) (iblk m c 7 t) (iblk m c 8 t) := by dsimp only [dats]
theorem after_37 (c : Dev nD) (t : Fin cfg0.N) : (dats m 0 c).after 37 t = k0_pay7 (grad1 (iblk m c 1 t)) (iblk m c 7 t) := by dsimp only [dats]
theorem after_38 (c : Dev nD) (t : Fin cfg0.N) : (dats m 0 c).after 38 t = k0_pay8 (grad1 (iblk m c 1 t)) (iblk m c 8 t) := by dsimp only [dats]
theorem after_39 (c : Dev nD) (t : Fin cfg0.N) : (dats m 0 c).after 39 t = grad2 (iblk m c 1 t) := by dsimp only [dats]
theorem after_40 (c : Dev nD) (t : Fin cfg0.N) : (dats m 0 c).after 40 t = k0_pay12 (grad2 (iblk m c 1 t)) (iblk m c 9 t) (iblk m c 10 t) (iblk m c 11 t) := by dsimp only [dats]
theorem after_41 (c : Dev nD) (t : Fin cfg0.N) : (dats m 0 c).after 41 t = k0_pay10 (grad2 (iblk m c 1 t)) (iblk m c 10 t) := by dsimp only [dats]
theorem after_42 (c : Dev nD) (t : Fin cfg0.N) : (dats m 0 c).after 42 t = k0_pay11 (grad2 (iblk m c 1 t)) (iblk m c 11 t) := by dsimp only [dats]
theorem after_43 (c : Dev nD) (t : Fin cfg0.N) : (dats m 0 c).after 43 t = grad3 (iblk m c 0 t) := by dsimp only [dats]
theorem after_44 (c : Dev nD) (t : Fin cfg0.N) : (dats m 0 c).after 44 t = k0_pay15 (grad3 (iblk m c 0 t)) (iblk m c 12 t) (iblk m c 13 t) (iblk m c 14 t) := by dsimp only [dats]
theorem after_45 (c : Dev nD) (t : Fin cfg0.N) : (dats m 0 c).after 45 t = k0_pay13 (grad3 (iblk m c 0 t)) (iblk m c 13 t) := by dsimp only [dats]
theorem after_46 (c : Dev nD) (t : Fin cfg0.N) : (dats m 0 c).after 46 t = k0_pay14 (grad3 (iblk m c 0 t)) (iblk m c 14 t) := by dsimp only [dats]
theorem after_47 (c : Dev nD) (t : Fin cfg0.N) : (dats m 0 c).after 47 t = grad4 (iblk m c 0 t) := by dsimp only [dats]
theorem after_48 (c : Dev nD) (t : Fin cfg0.N) : (dats m 0 c).after 48 t = k0_pay18 (grad4 (iblk m c 0 t)) (iblk m c 15 t) (iblk m c 16 t) (iblk m c 17 t) := by dsimp only [dats]
theorem after_49 (c : Dev nD) (t : Fin cfg0.N) : (dats m 0 c).after 49 t = k0_pay16 (grad4 (iblk m c 0 t)) (iblk m c 16 t) := by dsimp only [dats]
theorem after_50 (c : Dev nD) (t : Fin cfg0.N) : (dats m 0 c).after 50 t = k0_pay17 (grad4 (iblk m c 0 t)) (iblk m c 17 t) := by dsimp only [dats]
theorem after_51 (c : Dev nD) (t : Fin cfg0.N) : (dats m 0 c).after 51 t = grad5 (iblk m c 0 t) := by dsimp only [dats]
theorem after_52 (c : Dev nD) (t : Fin cfg0.N) : (dats m 0 c).after 52 t = k0_pay21 (grad5 (iblk m c 0 t)) (iblk m c 18 t) (iblk m c 19 t) (iblk m c 20 t) := by dsimp only [dats]
theorem after_53 (c : Dev nD) (t : Fin cfg0.N) : (dats m 0 c).after 53 t = k0_pay19 (grad5 (iblk m c 0 t)) (iblk m c 19 t) := by dsimp only [dats]
theorem after_54 (c : Dev nD) (t : Fin cfg0.N) : (dats m 0 c).after 54 t = k0_pay20 (grad5 (iblk m c 0 t)) (iblk m c 20 t) := by dsimp only [dats]
theorem after_55 (c : Dev nD) (t : Fin cfg0.N) : (dats m 0 c).after 55 t = grad6 (iblk m c 0 t) := by dsimp only [dats]
theorem after_56 (c : Dev nD) (t : Fin cfg0.N) : (dats m 0 c).after 56 t = k0_pay24 (grad6 (iblk m c 0 t)) (iblk m c 21 t) (iblk m c 22 t) (iblk m c 23 t) := by dsimp only [dats]
theorem after_57 (c : Dev nD) (t : Fin cfg0.N) : (dats m 0 c).after 57 t = k0_pay22 (grad6 (iblk m c 0 t)) (iblk m c 22 t) := by dsimp only [dats]
theorem after_58 (c : Dev nD) (t : Fin cfg0.N) : (dats m 0 c).after 58 t = k0_pay23 (grad6 (iblk m c 0 t)) (iblk m c 23 t) := by dsimp only [dats]
theorem after_59 (c : Dev nD) (t : Fin cfg0.N) : (dats m 0 c).after 59 t = grad7 (iblk m c 0 t) := by dsimp only [dats]
theorem after_60 (c : Dev nD) (t : Fin cfg0.N) : (dats m 0 c).after 60 t = k0_pay27 (grad7 (iblk m c 0 t)) (iblk m c 24 t) (iblk m c 25 t) (iblk m c 26 t) := by dsimp only [dats]
theorem after_61 (c : Dev nD) (t : Fin cfg0.N) : (dats m 0 c).after 61 t = k0_pay25 (grad7 (iblk m c 0 t)) (iblk m c 25 t) := by dsimp only [dats]
theorem after_62 (c : Dev nD) (t : Fin cfg0.N) : (dats m 0 c).after 62 t = k0_pay26 (grad7 (iblk m c 0 t)) (iblk m c 26 t) := by dsimp only [dats]
theorem after_63 (c : Dev nD) (t : Fin cfg0.N) : (dats m 0 c).after 63 t = grad8 (iblk m c 2 t) := by dsimp only [dats]
theorem after_64 (c : Dev nD) (t : Fin cfg0.N) : (dats m 0 c).after 64 t = k0_pay31 (grad8 (iblk m c 2 t)) (iblk m c 27 t) (iblk m c 28 t) (iblk m c 29 t) := by dsimp only [dats]
theorem after_65 (c : Dev nD) (t : Fin cfg0.N) : (dats m 0 c).after 65 t = k0_pay29 (grad8 (iblk m c 2 t)) (iblk m c 28 t) := by dsimp only [dats]
theorem after_66 (c : Dev nD) (t : Fin cfg0.N) : (dats m 0 c).after 66 t = k0_pay30 (grad8 (iblk m c 2 t)) (iblk m c 29 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d
theorem before_19 (c : Dev nD) (t : Fin cfg0.N) (d) : (dats m 0 c).before 19 t d = iblk m c 19 t := before0_19_of m (dats m 0 c) (A_eq m c 19) (after_19 m c) t d
theorem before_20 (c : Dev nD) (t : Fin cfg0.N) (d) : (dats m 0 c).before 20 t d = iblk m c 20 t := before0_20_of m (dats m 0 c) (A_eq m c 20) (after_20 m c) t d
theorem before_21 (c : Dev nD) (t : Fin cfg0.N) (d) : (dats m 0 c).before 21 t d = iblk m c 21 t := before0_21_of m (dats m 0 c) (A_eq m c 21) (after_21 m c) t d
theorem before_22 (c : Dev nD) (t : Fin cfg0.N) (d) : (dats m 0 c).before 22 t d = iblk m c 22 t := before0_22_of m (dats m 0 c) (A_eq m c 22) (after_22 m c) t d
theorem before_23 (c : Dev nD) (t : Fin cfg0.N) (d) : (dats m 0 c).before 23 t d = iblk m c 23 t := before0_23_of m (dats m 0 c) (A_eq m c 23) (after_23 m c) t d
theorem before_24 (c : Dev nD) (t : Fin cfg0.N) (d) : (dats m 0 c).before 24 t d = iblk m c 24 t := before0_24_of m (dats m 0 c) (A_eq m c 24) (after_24 m c) t d
theorem before_25 (c : Dev nD) (t : Fin cfg0.N) (d) : (dats m 0 c).before 25 t d = iblk m c 25 t := before0_25_of m (dats m 0 c) (A_eq m c 25) (after_25 m c) t d
theorem before_26 (c : Dev nD) (t : Fin cfg0.N) (d) : (dats m 0 c).before 26 t d = iblk m c 26 t := before0_26_of m (dats m 0 c) (A_eq m c 26) (after_26 m c) t d
theorem before_27 (c : Dev nD) (t : Fin cfg0.N) (d) : (dats m 0 c).before 27 t d = iblk m c 27 t := before0_27_of m (dats m 0 c) (A_eq m c 27) (after_27 m c) t d
theorem before_28 (c : Dev nD) (t : Fin cfg0.N) (d) : (dats m 0 c).before 28 t d = iblk m c 28 t := before0_28_of m (dats m 0 c) (A_eq m c 28) (after_28 m c) t d
theorem before_29 (c : Dev nD) (t : Fin cfg0.N) (d) : (dats m 0 c).before 29 t d = iblk m c 29 t := before0_29_of m (dats m 0 c) (A_eq m c 29) (after_29 m c) t d

/-- What the body starts from, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t))

set_option maxHeartbeats 8000000 in
/-- The body at the point: the body's run on the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38, after_39, after_40, after_41, after_42, after_43, after_44, after_45, after_46, after_47, after_48, after_49, after_50, after_51, after_52, after_53, after_54, after_55, after_56, after_57, after_58, after_59, after_60, after_61, after_62, after_63, after_64, after_65, after_66]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  iexact H66

theorem defs₀_row (t : Fin cfg0.N) : defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every fair execution ends, every array of the call at what the proof data computes, every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.Kernel13Ideal.Small

end
-- ==== Proof.SmallFrame.lean ====
module

public import proofs.«01_k».proof.Proof.SmallRun
public import Idealize.ShloMosaic.Lib.Claim

/-! # The frame of the small parameters' update -/

@[expose] public section

set_option maxRecDepth 16384

noncomputable section

namespace Cert.Kernel13Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end as they were, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) :=
  θ_run_and (frame_of m ρ (dats m) (A_eq m) (run_main m ρ)) ((θ_run defs _ _).mono (fun _ h => h.2) (run_main_quiescent m ρ))

end Cert.Kernel13Ideal.Small

end
-- ==== Proof.SmallBlk.lean ====
module

public import proofs.«01_k».proof.Proof.Gen.Kernel13Ideal.Frame.Runs
public import Idealize.ShloMosaic.Lib.Pipeline.Value
public import Idealize.ShloMosaic.Lib.Pipeline.ValueKit
public import Idealize.ShloMosaic.Lib.Pipeline.ReadBack
public import Idealize.ShloMosaic.Lib.Tactic.WordOmega

/-! # The blocks of the small parameters' update

The call has one grid point: every window's block is its whole array, so each input's block is its argument. -/

@[expose] public section

set_option maxRecDepth 16384

noncomputable section

namespace Cert.Kernel13Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (UR sig nD τ) ℕ

variable (m : (ℓ : Loc nD τ sig) → Buf (Elt F) ℓ)

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0, 0] := (by decide +kernel : ∀ t : Fin grid0.N, _)
theorem idx28 : ∀ t : Fin cfg0.N, win0_28.index t = ![0, 0, 0] := (by decide +kernel : ∀ t : Fin grid0.N, _)
theorem idx29 : ∀ t : Fin cfg0.N, win0_29.index t = ![0, 0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![0, 0] := (by decide +kernel : ∀ t : Fin grid0.N, _)
theorem idx33 : ∀ t : Fin cfg0.N, win0_33.index t = ![0, 0] := (by decide +kernel : ∀ t : Fin grid0.N, _)
theorem idx34 : ∀ t : Fin cfg0.N, win0_34.index t = ![0, 0] := (by decide +kernel : ∀ t : Fin grid0.N, _)
theorem idx35 : ∀ t : Fin cfg0.N, win0_35.index t = ![0, 0] := (by decide +kernel : ∀ t : Fin grid0.N, _)
theorem idx36 : ∀ t : Fin cfg0.N, win0_36.index t = ![0, 0] := (by decide +kernel : ∀ t : Fin grid0.N, _)
theorem idx37 : ∀ t : Fin cfg0.N, win0_37.index t = ![0, 0] := (by decide +kernel : ∀ t : Fin grid0.N, _)
theorem idx38 : ∀ t : Fin cfg0.N, win0_38.index t = ![0, 0] := (by decide +kernel : ∀ t : Fin grid0.N, _)
theorem idx39 : ∀ t : Fin cfg0.N, win0_39.index t = ![0, 0] := (by decide +kernel : ∀ t : Fin grid0.N, _)
theorem idx40 : ∀ t : Fin cfg0.N, win0_40.index t = ![0, 0] := (by decide +kernel : ∀ t : Fin grid0.N, _)
theorem idx41 : ∀ t : Fin cfg0.N, win0_41.index t = ![0, 0] := (by decide +kernel : ∀ t : Fin grid0.N, _)
theorem idx42 : ∀ t : Fin cfg0.N, win0_42.index t = ![0, 0] := (by decide +kernel : ∀ t : Fin grid0.N, _)
theorem idx43 : ∀ t : Fin cfg0.N, win0_43.index t = ![0, 0] := (by decide +kernel : ∀ t : Fin grid0.N, _)
theorem idx44 : ∀ t : Fin cfg0.N, win0_44.index t = ![0, 0] := (by decide +kernel : ∀ t : Fin grid0.N, _)
theorem idx45 : ∀ t : Fin cfg0.N, win0_45.index t = ![0, 0] := (by decide +kernel : ∀ t : Fin grid0.N, _)
theorem idx46 : ∀ t : Fin cfg0.N, win0_46.index t = ![0, 0] := (by decide +kernel : ∀ t : Fin grid0.N, _)
theorem idx47 : ∀ t : Fin cfg0.N, win0_47.index t = ![0, 0] := (by decide +kernel : ∀ t : Fin grid0.N, _)
theorem idx48 : ∀ t : Fin cfg0.N, win0_48.index t = ![0, 0] := (by decide +kernel : ∀ t : Fin grid0.N, _)
theorem idx49 : ∀ t : Fin cfg0.N, win0_49.index t = ![0, 0] := (by decide +kernel : ∀ t : Fin grid0.N, _)
theorem idx50 : ∀ t : Fin cfg0.N, win0_50.index t = ![0, 0] := (by decide +kernel : ∀ t : Fin grid0.N, _)
theorem idx51 : ∀ t : Fin cfg0.N, win0_51.index t = ![0, 0] := (by decide +kernel : ∀ t : Fin grid0.N, _)
theorem idx52 : ∀ t : Fin cfg0.N, win0_52.index t = ![0, 0] := (by decide +kernel : ∀ t : Fin grid0.N, _)
theorem idx53 : ∀ t : Fin cfg0.N, win0_53.index t = ![0, 0] := (by decide +kernel : ∀ t : Fin grid0.N, _)
theorem idx54 : ∀ t : Fin cfg0.N, win0_54.index t = ![0, 0] := (by decide +kernel : ∀ t : Fin grid0.N, _)
theorem idx55 : ∀ t : Fin cfg0.N, win0_55.index t = ![0, 0] := (by decide +kernel : ∀ t : Fin grid0.N, _)
theorem idx56 : ∀ t : Fin cfg0.N, win0_56.index t = ![0, 0] := (by decide +kernel : ∀ t : Fin grid0.N, _)
theorem idx57 : ∀ t : Fin cfg0.N, win0_57.index t = ![0, 0] := (by decide +kernel : ∀ t : Fin grid0.N, _)
theorem idx58 : ∀ t : Fin cfg0.N, win0_58.index t = ![0, 0] := (by decide +kernel : ∀ t : Fin grid0.N, _)
theorem idx59 : ∀ t : Fin cfg0.N, win0_59.index t = ![0, 0] := (by decide +kernel : ∀ t : Fin grid0.N, _)
theorem idx60 : ∀ t : Fin cfg0.N, win0_60.index t = ![0, 0] := (by decide +kernel : ∀ t : Fin grid0.N, _)
theorem idx61 : ∀ t : Fin cfg0.N, win0_61.index t = ![0, 0] := (by decide +kernel : ∀ t : Fin grid0.N, _)
theorem idx62 : ∀ t : Fin cfg0.N, win0_62.index t = ![0, 0] := (by decide +kernel : ∀ t : Fin grid0.N, _)
theorem idx63 : ∀ t : Fin cfg0.N, win0_63.index t = ![0, 0, 0] := (by decide +kernel : ∀ t : Fin grid0.N, _)
theorem idx64 : ∀ t : Fin cfg0.N, win0_64.index t = ![0, 0, 0] := (by decide +kernel : ∀ t : Fin grid0.N, _)
theorem idx65 : ∀ t : Fin cfg0.N, win0_65.index t = ![0, 0, 0] := (by decide +kernel : ∀ t : Fin grid0.N, _)
theorem idx66 : ∀ t : Fin cfg0.N, win0_66.index t = ![0, 0, 0] := (by decide +kernel : ∀ t : Fin grid0.N, _)

theorem emb0 (t : Fin cfg0.N) (y : S8x40x1024.Idx) : ((win0_0.blk t).view.emb y : S8x40x1024.Idx) = y := by blk_ext [idx0 t]
theorem emb1 (t : Fin cfg0.N) (y : S8x24x1024.Idx) : ((win0_1.blk t).view.emb y : S8x24x1024.Idx) = y := by blk_ext [idx1 t]
theorem emb2 (t : Fin cfg0.N) (y : S8x4x128x128.Idx) : ((win0_2.blk t).view.emb y : S8x4x128x128.Idx) = y := by blk_ext [idx2 t]
theorem emb3 (t : Fin cfg0.N) (y : S1x1024.Idx) : ((win0_3.blk t).view.emb y : S1x1024.Idx) = y := by blk_ext [idx3 t]
theorem emb4 (t : Fin cfg0.N) (y : S1x1024.Idx) : ((win0_4.blk t).view.emb y : S1x1024.Idx) = y := by blk_ext [idx4 t]
theorem emb5 (t : Fin cfg0.N) (y : S1x1024.Idx) : ((win0_5.blk t).view.emb y : S1x1024.Idx) = y := by blk_ext [idx5 t]
theorem emb6 (t : Fin cfg0.N) (y : S2x512.Idx) : ((win0_6.blk t).view.emb y : S2x512.Idx) = y := by blk_ext [idx6 t]
theorem emb7 (t : Fin cfg0.N) (y : S2x512.Idx) : ((win0_7.blk t).view.emb y : S2x512.Idx) = y := by blk_ext [idx7 t]
theorem emb8 (t : Fin cfg0.N) (y : S2x512.Idx) : ((win0_8.blk t).view.emb y : S2x512.Idx) = y := by blk_ext [idx8 t]
theorem emb9 (t : Fin cfg0.N) (y : S4x128.Idx) : ((win0_9.blk t).view.emb y : S4x128.Idx) = y := by blk_ext [idx9 t]
theorem emb10 (t : Fin cfg0.N) (y : S4x128.Idx) : ((win0_10.blk t).view.emb y : S4x128.Idx) = y := by blk_ext [idx10 t]
theorem emb11 (t : Fin cfg0.N) (y : S4x128.Idx) : ((win0_11.blk t).view.emb y : S4x128.Idx) = y := by blk_ext [idx11 t]
theorem emb12 (t : Fin cfg0.N) (y : S1x512.Idx) : ((win0_12.blk t).view.emb y : S1x512.Idx) = y := by blk_ext [idx12 t]
theorem emb13 (t : Fin cfg0.N) (y : S1x512.Idx) : ((win0_13.blk t).view.emb y : S1x512.Idx) = y := by blk_ext [idx13 t]
theorem emb14 (t : Fin cfg0.N) (y : S1x512.Idx) : ((win0_14.blk t).view.emb y : S1x512.Idx) = y := by blk_ext [idx14 t]
theorem emb15 (t : Fin cfg0.N) (y : S1x1024.Idx) : ((win0_15.blk t).view.emb y : S1x1024.Idx) = y := by blk_ext [idx15 t]
theorem emb16 (t : Fin cfg0.N) (y : S1x1024.Idx) : ((win0_16.blk t).view.emb y : S1x1024.Idx) = y := by blk_ext [idx16 t]
theorem emb17 (t : Fin cfg0.N) (y : S1x1024.Idx) : ((win0_17.blk t).view.emb y : S1x1024.Idx) = y := by blk_ext [idx17 t]
theorem emb18 (t : Fin cfg0.N) (y : S1x1024.Idx) : ((win0_18.blk t).view.emb y : S1x1024.Idx) = y := by blk_ext [idx18 t]
theorem emb19 (t : Fin cfg0.N) (y : S1x1024.Idx) : ((win0_19.blk t).view.emb y : S1x1024.Idx) = y := by blk_ext [idx19 t]
theorem emb20 (t : Fin cfg0.N) (y : S1x1024.Idx) : ((win0_20.blk t).view.emb y : S1x1024.Idx) = y := by blk_ext [idx20 t]
theorem emb21 (t : Fin cfg0.N) (y : S1x1024.Idx) : ((win0_21.blk t).view.emb y : S1x1024.Idx) = y := by blk_ext [idx21 t]
theorem emb22 (t : Fin cfg0.N) (y : S1x1024.Idx) : ((win0_22.blk t).view.emb y : S1x1024.Idx) = y := by blk_ext [idx22 t]
theorem emb23 (t : Fin cfg0.N) (y : S1x1024.Idx) : ((win0_23.blk t).view.emb y : S1x1024.Idx) = y := by blk_ext [idx23 t]
theorem emb24 (t : Fin cfg0.N) (y : S1x1024.Idx) : ((win0_24.blk t).view.emb y : S1x1024.Idx) = y := by blk_ext [idx24 t]
theorem emb25 (t : Fin cfg0.N) (y : S1x1024.Idx) : ((win0_25.blk t).view.emb y : S1x1024.Idx) = y := by blk_ext [idx25 t]
theorem emb26 (t : Fin cfg0.N) (y : S1x1024.Idx) : ((win0_26.blk t).view.emb y : S1x1024.Idx) = y := by blk_ext [idx26 t]
theorem emb27 (t : Fin cfg0.N) (y : S4x128x128.Idx) : ((win0_27.blk t).view.emb y : S4x128x128.Idx) = y := by blk_ext [idx27 t]
theorem emb28 (t : Fin cfg0.N) (y : S4x128x128.Idx) : ((win0_28.blk t).view.emb y : S4x128x128.Idx) = y := by blk_ext [idx28 t]
theorem emb29 (t : Fin cfg0.N) (y : S4x128x128.Idx) : ((win0_29.blk t).view.emb y : S4x128x128.Idx) = y := by blk_ext [idx29 t]
theorem emb30 (t : Fin cfg0.N) (y : S1x1.Idx) : ((win0_30.blk t).view.emb y : S1x1.Idx) = y := by blk_ext [idx30 t]
theorem emb31 (t : Fin cfg0.N) (y : S1x1024.Idx) : ((win0_31.blk t).view.emb y : S1x1024.Idx) = y := by blk_ext [idx31 t]
theorem emb32 (t : Fin cfg0.N) (y : S1x1024.Idx) : ((win0_32.blk t).view.emb y : S1x1024.Idx) = y := by blk_ext [idx32 t]
theorem emb33 (t : Fin cfg0.N) (y : S1x1024.Idx) : ((win0_33.blk t).view.emb y : S1x1024.Idx) = y := by blk_ext [idx33 t]
theorem emb34 (t : Fin cfg0.N) (y : S1x1024.Idx) : ((win0_34.blk t).view.emb y : S1x1024.Idx) = y := by blk_ext [idx34 t]
theorem emb35 (t : Fin cfg0.N) (y : S2x512.Idx) : ((win0_35.blk t).view.emb y : S2x512.Idx) = y := by blk_ext [idx35 t]
theorem emb36 (t : Fin cfg0.N) (y : S2x512.Idx) : ((win0_36.blk t).view.emb y : S2x512.Idx) = y := by blk_ext [idx36 t]
theorem emb37 (t : Fin cfg0.N) (y : S2x512.Idx) : ((win0_37.blk t).view.emb y : S2x512.Idx) = y := by blk_ext [idx37 t]
theorem emb38 (t : Fin cfg0.N) (y : S2x512.Idx) : ((win0_38.blk t).view.emb y : S2x512.Idx) = y := by blk_ext [idx38 t]
theorem emb39 (t : Fin cfg0.N) (y : S4x128.Idx) : ((win0_39.blk t).view.emb y : S4x128.Idx) = y := by blk_ext [idx39 t]
theorem emb40 (t : Fin cfg0.N) (y : S4x128.Idx) : ((win0_40.blk t).view.emb y : S4x128.Idx) = y := by blk_ext [idx40 t]
theorem emb41 (t : Fin cfg0.N) (y : S4x128.Idx) : ((win0_41.blk t).view.emb y : S4x128.Idx) = y := by blk_ext [idx41 t]
theorem emb42 (t : Fin cfg0.N) (y : S4x128.Idx) : ((win0_42.blk t).view.emb y : S4x128.Idx) = y := by blk_ext [idx42 t]
theorem emb43 (t : Fin cfg0.N) (y : S1x512.Idx) : ((win0_43.blk t).view.emb y : S1x512.Idx) = y := by blk_ext [idx43 t]
theorem emb44 (t : Fin cfg0.N) (y : S1x512.Idx) : ((win0_44.blk t).view.emb y : S1x512.Idx) = y := by blk_ext [idx44 t]
theorem emb45 (t : Fin cfg0.N) (y : S1x512.Idx) : ((win0_45.blk t).view.emb y : S1x512.Idx) = y := by blk_ext [idx45 t]
theorem emb46 (t : Fin cfg0.N) (y : S1x512.Idx) : ((win0_46.blk t).view.emb y : S1x512.Idx) = y := by blk_ext [idx46 t]
theorem emb47 (t : Fin cfg0.N) (y : S1x1024.Idx) : ((win0_47.blk t).view.emb y : S1x1024.Idx) = y := by blk_ext [idx47 t]
theorem emb48 (t : Fin cfg0.N) (y : S1x1024.Idx) : ((win0_48.blk t).view.emb y : S1x1024.Idx) = y := by blk_ext [idx48 t]
theorem emb49 (t : Fin cfg0.N) (y : S1x1024.Idx) : ((win0_49.blk t).view.emb y : S1x1024.Idx) = y := by blk_ext [idx49 t]
theorem emb50 (t : Fin cfg0.N) (y : S1x1024.Idx) : ((win0_50.blk t).view.emb y : S1x1024.Idx) = y := by blk_ext [idx50 t]
theorem emb51 (t : Fin cfg0.N) (y : S1x1024.Idx) : ((win0_51.blk t).view.emb y : S1x1024.Idx) = y := by blk_ext [idx51 t]
theorem emb52 (t : Fin cfg0.N) (y : S1x1024.Idx) : ((win0_52.blk t).view.emb y : S1x1024.Idx) = y := by blk_ext [idx52 t]
theorem emb53 (t : Fin cfg0.N) (y : S1x1024.Idx) : ((win0_53.blk t).view.emb y : S1x1024.Idx) = y := by blk_ext [idx53 t]
theorem emb54 (t : Fin cfg0.N) (y : S1x1024.Idx) : ((win0_54.blk t).view.emb y : S1x1024.Idx) = y := by blk_ext [idx54 t]
theorem emb55 (t : Fin cfg0.N) (y : S1x1024.Idx) : ((win0_55.blk t).view.emb y : S1x1024.Idx) = y := by blk_ext [idx55 t]
theorem emb56 (t : Fin cfg0.N) (y : S1x1024.Idx) : ((win0_56.blk t).view.emb y : S1x1024.Idx) = y := by blk_ext [idx56 t]
theorem emb57 (t : Fin cfg0.N) (y : S1x1024.Idx) : ((win0_57.blk t).view.emb y : S1x1024.Idx) = y := by blk_ext [idx57 t]
theorem emb58 (t : Fin cfg0.N) (y : S1x1024.Idx) : ((win0_58.blk t).view.emb y : S1x1024.Idx) = y := by blk_ext [idx58 t]
theorem emb59 (t : Fin cfg0.N) (y : S1x1024.Idx) : ((win0_59.blk t).view.emb y : S1x1024.Idx) = y := by blk_ext [idx59 t]
theorem emb60 (t : Fin cfg0.N) (y : S1x1024.Idx) : ((win0_60.blk t).view.emb y : S1x1024.Idx) = y := by blk_ext [idx60 t]
theorem emb61 (t : Fin cfg0.N) (y : S1x1024.Idx) : ((win0_61.blk t).view.emb y : S1x1024.Idx) = y := by blk_ext [idx61 t]
theorem emb62 (t : Fin cfg0.N) (y : S1x1024.Idx) : ((win0_62.blk t).view.emb y : S1x1024.Idx) = y := by blk_ext [idx62 t]
theorem emb63 (t : Fin cfg0.N) (y : S4x128x128.Idx) : ((win0_63.blk t).view.emb y : S4x128x128.Idx) = y := by blk_ext [idx63 t]
theorem emb64 (t : Fin cfg0.N) (y : S4x128x128.Idx) : ((win0_64.blk t).view.emb y : S4x128x128.Idx) = y := by blk_ext [idx64 t]
theorem emb65 (t : Fin cfg0.N) (y : S4x128x128.Idx) : ((win0_65.blk t).view.emb y : S4x128x128.Idx) = y := by blk_ext [idx65 t]
theorem emb66 (t : Fin cfg0.N) (y : S4x128x128.Idx) : ((win0_66.blk t).view.emb y : S4x128x128.Idx) = y := by blk_ext [idx66 t]

theorem in0 (c : Dev nD) (t) : iblk m c 0 t = (m ((c.tc : Thread nD τ).loc main_arg0)) := funext fun y => congrArg (m ((c.tc : Thread nD τ).loc main_arg0)) (emb0 t y)
theorem in1 (c : Dev nD) (t) : iblk m c 1 t = (m ((c.tc : Thread nD τ).loc main_arg1)) := funext fun y => congrArg (m ((c.tc : Thread nD τ).loc main_arg1)) (emb1 t y)
theorem in2 (c : Dev nD) (t) : iblk m c 2 t = (m ((c.tc : Thread nD τ).loc main_arg2)) := funext fun y => congrArg (m ((c.tc : Thread nD τ).loc main_arg2)) (emb2 t y)
theorem in3 (c : Dev nD) (t) : iblk m c 3 t = (m ((c.tc : Thread nD τ).loc main_arg3)) := funext fun y => congrArg (m ((c.tc : Thread nD τ).loc main_arg3)) (emb3 t y)
theorem in4 (c : Dev nD) (t) : iblk m c 4 t = (m ((c.tc : Thread nD τ).loc main_arg4)) := funext fun y => congrArg (m ((c.tc : Thread nD τ).loc main_arg4)) (emb4 t y)
theorem in5 (c : Dev nD) (t) : iblk m c 5 t = (m ((c.tc : Thread nD τ).loc main_arg5)) := funext fun y => congrArg (m ((c.tc : Thread nD τ).loc main_arg5)) (emb5 t y)
theorem in6 (c : Dev nD) (t) : iblk m c 6 t = (m ((c.tc : Thread nD τ).loc main_arg6)) := funext fun y => congrArg (m ((c.tc : Thread nD τ).loc main_arg6)) (emb6 t y)
theorem in7 (c : Dev nD) (t) : iblk m c 7 t = (m ((c.tc : Thread nD τ).loc main_arg7)) := funext fun y => congrArg (m ((c.tc : Thread nD τ).loc main_arg7)) (emb7 t y)
theorem in8 (c : Dev nD) (t) : iblk m c 8 t = (m ((c.tc : Thread nD τ).loc main_arg8)) := funext fun y => congrArg (m ((c.tc : Thread nD τ).loc main_arg8)) (emb8 t y)
theorem in9 (c : Dev nD) (t) : iblk m c 9 t = (m ((c.tc : Thread nD τ).loc main_arg9)) := funext fun y => congrArg (m ((c.tc : Thread nD τ).loc main_arg9)) (emb9 t y)
theorem in10 (c : Dev nD) (t) : iblk m c 10 t = (m ((c.tc : Thread nD τ).loc main_arg10)) := funext fun y => congrArg (m ((c.tc : Thread nD τ).loc main_arg10)) (emb10 t y)
theorem in11 (c : Dev nD) (t) : iblk m c 11 t = (m ((c.tc : Thread nD τ).loc main_arg11)) := funext fun y => congrArg (m ((c.tc : Thread nD τ).loc main_arg11)) (emb11 t y)
theorem in12 (c : Dev nD) (t) : iblk m c 12 t = (m ((c.tc : Thread nD τ).loc main_arg12)) := funext fun y => congrArg (m ((c.tc : Thread nD τ).loc main_arg12)) (emb12 t y)
theorem in13 (c : Dev nD) (t) : iblk m c 13 t = (m ((c.tc : Thread nD τ).loc main_arg13)) := funext fun y => congrArg (m ((c.tc : Thread nD τ).loc main_arg13)) (emb13 t y)
theorem in14 (c : Dev nD) (t) : iblk m c 14 t = (m ((c.tc : Thread nD τ).loc main_arg14)) := funext fun y => congrArg (m ((c.tc : Thread nD τ).loc main_arg14)) (emb14 t y)
theorem in15 (c : Dev nD) (t) : iblk m c 15 t = (m ((c.tc : Thread nD τ).loc main_arg15)) := funext fun y => congrArg (m ((c.tc : Thread nD τ).loc main_arg15)) (emb15 t y)
theorem in16 (c : Dev nD) (t) : iblk m c 16 t = (m ((c.tc : Thread nD τ).loc main_arg16)) := funext fun y => congrArg (m ((c.tc : Thread nD τ).loc main_arg16)) (emb16 t y)
theorem in17 (c : Dev nD) (t) : iblk m c 17 t = (m ((c.tc : Thread nD τ).loc main_arg17)) := funext fun y => congrArg (m ((c.tc : Thread nD τ).loc main_arg17)) (emb17 t y)
theorem in18 (c : Dev nD) (t) : iblk m c 18 t = (m ((c.tc : Thread nD τ).loc main_arg18)) := funext fun y => congrArg (m ((c.tc : Thread nD τ).loc main_arg18)) (emb18 t y)
theorem in19 (c : Dev nD) (t) : iblk m c 19 t = (m ((c.tc : Thread nD τ).loc main_arg19)) := funext fun y => congrArg (m ((c.tc : Thread nD τ).loc main_arg19)) (emb19 t y)
theorem in20 (c : Dev nD) (t) : iblk m c 20 t = (m ((c.tc : Thread nD τ).loc main_arg20)) := funext fun y => congrArg (m ((c.tc : Thread nD τ).loc main_arg20)) (emb20 t y)
theorem in21 (c : Dev nD) (t) : iblk m c 21 t = (m ((c.tc : Thread nD τ).loc main_arg21)) := funext fun y => congrArg (m ((c.tc : Thread nD τ).loc main_arg21)) (emb21 t y)
theorem in22 (c : Dev nD) (t) : iblk m c 22 t = (m ((c.tc : Thread nD τ).loc main_arg22)) := funext fun y => congrArg (m ((c.tc : Thread nD τ).loc main_arg22)) (emb22 t y)
theorem in23 (c : Dev nD) (t) : iblk m c 23 t = (m ((c.tc : Thread nD τ).loc main_arg23)) := funext fun y => congrArg (m ((c.tc : Thread nD τ).loc main_arg23)) (emb23 t y)
theorem in24 (c : Dev nD) (t) : iblk m c 24 t = (m ((c.tc : Thread nD τ).loc main_arg24)) := funext fun y => congrArg (m ((c.tc : Thread nD τ).loc main_arg24)) (emb24 t y)
theorem in25 (c : Dev nD) (t) : iblk m c 25 t = (m ((c.tc : Thread nD τ).loc main_arg25)) := funext fun y => congrArg (m ((c.tc : Thread nD τ).loc main_arg25)) (emb25 t y)
theorem in26 (c : Dev nD) (t) : iblk m c 26 t = (m ((c.tc : Thread nD τ).loc main_arg26)) := funext fun y => congrArg (m ((c.tc : Thread nD τ).loc main_arg26)) (emb26 t y)
theorem in27 (c : Dev nD) (t) : iblk m c 27 t = (m ((c.tc : Thread nD τ).loc main_arg27)) := funext fun y => congrArg (m ((c.tc : Thread nD τ).loc main_arg27)) (emb27 t y)
theorem in28 (c : Dev nD) (t) : iblk m c 28 t = (m ((c.tc : Thread nD τ).loc main_arg28)) := funext fun y => congrArg (m ((c.tc : Thread nD τ).loc main_arg28)) (emb28 t y)
theorem in29 (c : Dev nD) (t) : iblk m c 29 t = (m ((c.tc : Thread nD τ).loc main_arg29)) := funext fun y => congrArg (m ((c.tc : Thread nD τ).loc main_arg29)) (emb29 t y)

end Cert.Kernel13Ideal.Small

end
-- ==== Proof.SmallVal.lean ====
module

public import proofs.«01_k».proof.Proof.SmallRun
public import proofs.«01_k».proof.Proof.SmallBlk
public import Idealize.ShloMosaic.Lib.Pipeline.Value
public import Idealize.ShloMosaic.Lib.Pipeline.ValueKit
public import Idealize.ShloMosaic.Lib.Pipeline.ReadBack
public import Idealize.ShloMosaic.Lib.Tactic.WordOmega

/-! # The arrays of the small parameters' update after its run: each output's array at its value of the arguments. -/

@[expose] public section

set_option maxRecDepth 16384

noncomputable section

namespace Cert.Kernel13Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (UR sig nD τ) ℕ

variable (m : (ℓ : Loc nD τ sig) → Buf (Elt F) ℓ)

theorem arr30 (c : Dev nD) : (dats m 0 c).arrAt 30 cfg0.N = loss (m ((c.tc : Thread nD τ).loc main_arg0)) := by
  refine (dats m 0 c).arrAt_eq_of_covers 30 _ (by decide +kernel) fun t hf y => ?_
  blk_simp
  rw [after_30, emb30 t y, in0]
theorem arr31 (c : Dev nD) : (dats m 0 c).arrAt 31 cfg0.N = grad0 (m ((c.tc : Thread nD τ).loc main_arg1)) := by
  refine (dats m 0 c).arrAt_eq_of_covers 31 _ (by decide +kernel) fun t hf y => ?_
  blk_simp
  rw [after_31, emb31 t y, in1]
theorem arr32 (c : Dev nD) : (dats m 0 c).arrAt 32 cfg0.N = k0_pay6 (grad0 (m ((c.tc : Thread nD τ).loc main_arg1))) (m ((c.tc : Thread nD τ).loc main_arg3)) (m ((c.tc : Thread nD τ).loc main_arg4)) (m ((c.tc : Thread nD τ).loc main_arg5)) := by
  refine (dats m 0 c).arrAt_eq_of_covers 32 _ (by decide +kernel) fun t hf y => ?_
  blk_simp
  rw [after_32, emb32 t y, in1, in3, in4, in5]
theorem arr33 (c : Dev nD) : (dats m 0 c).arrAt 33 cfg0.N = k0_pay4 (grad0 (m ((c.tc : Thread nD τ).loc main_arg1))) (m ((c.tc : Thread nD τ).loc main_arg4)) := by
  refine (dats m 0 c).arrAt_eq_of_covers 33 _ (by decide +kernel) fun t hf y => ?_
  blk_simp
  rw [after_33, emb33 t y, in1, in4]
theorem arr34 (c : Dev nD) : (dats m 0 c).arrAt 34 cfg0.N = k0_pay5 (grad0 (m ((c.tc : Thread nD τ).loc main_arg1))) (m ((c.tc : Thread nD τ).loc main_arg5)) := by
  refine (dats m 0 c).arrAt_eq_of_covers 34 _ (by decide +kernel) fun t hf y => ?_
  blk_simp
  rw [after_34, emb34 t y, in1, in5]
theorem arr35 (c : Dev nD) : (dats m 0 c).arrAt 35 cfg0.N = grad1 (m ((c.tc : Thread nD τ).loc main_arg1)) := by
  refine (dats m 0 c).arrAt_eq_of_covers 35 _ (by decide +kernel) fun t hf y => ?_
  blk_simp
  rw [after_35, emb35 t y, in1]
theorem arr36 (c : Dev nD) : (dats m 0 c).arrAt 36 cfg0.N = k0_pay9 (grad1 (m ((c.tc : Thread nD τ).loc main_arg1))) (m ((c.tc : Thread nD τ).loc main_arg6)) (m ((c.tc : Thread nD τ).loc main_arg7)) (m ((c.tc : Thread nD τ).loc main_arg8)) := by
  refine (dats m 0 c).arrAt_eq_of_covers 36 _ (by decide +kernel) fun t hf y => ?_
  blk_simp
  rw [after_36, emb36 t y, in1, in6, in7, in8]
theorem arr37 (c : Dev nD) : (dats m 0 c).arrAt 37 cfg0.N = k0_pay7 (grad1 (m ((c.tc : Thread nD τ).loc main_arg1))) (m ((c.tc : Thread nD τ).loc main_arg7)) := by
  refine (dats m 0 c).arrAt_eq_of_covers 37 _ (by decide +kernel) fun t hf y => ?_
  blk_simp
  rw [after_37, emb37 t y, in1, in7]
theorem arr38 (c : Dev nD) : (dats m 0 c).arrAt 38 cfg0.N = k0_pay8 (grad1 (m ((c.tc : Thread nD τ).loc main_arg1))) (m ((c.tc : Thread nD τ).loc main_arg8)) := by
  refine (dats m 0 c).arrAt_eq_of_covers 38 _ (by decide +kernel) fun t hf y => ?_
  blk_simp
  rw [after_38, emb38 t y, in1, in8]
theorem arr39 (c : Dev nD) : (dats m 0 c).arrAt 39 cfg0.N = grad2 (m ((c.tc : Thread nD τ).loc main_arg1)) := by
  refine (dats m 0 c).arrAt_eq_of_covers 39 _ (by decide +kernel) fun t hf y => ?_
  blk_simp
  rw [after_39, emb39 t y, in1]
theorem arr40 (c : Dev nD) : (dats m 0 c).arrAt 40 cfg0.N = k0_pay12 (grad2 (m ((c.tc : Thread nD τ).loc main_arg1))) (m ((c.tc : Thread nD τ).loc main_arg9)) (m ((c.tc : Thread nD τ).loc main_arg10)) (m ((c.tc : Thread nD τ).loc main_arg11)) := by
  refine (dats m 0 c).arrAt_eq_of_covers 40 _ (by decide +kernel) fun t hf y => ?_
  blk_simp
  rw [after_40, emb40 t y, in1, in9, in10, in11]
theorem arr41 (c : Dev nD) : (dats m 0 c).arrAt 41 cfg0.N = k0_pay10 (grad2 (m ((c.tc : Thread nD τ).loc main_arg1))) (m ((c.tc : Thread nD τ).loc main_arg10)) := by
  refine (dats m 0 c).arrAt_eq_of_covers 41 _ (by decide +kernel) fun t hf y => ?_
  blk_simp
  rw [after_41, emb41 t y, in1, in10]
theorem arr42 (c : Dev nD) : (dats m 0 c).arrAt 42 cfg0.N = k0_pay11 (grad2 (m ((c.tc : Thread nD τ).loc main_arg1))) (m ((c.tc : Thread nD τ).loc main_arg11)) := by
  refine (dats m 0 c).arrAt_eq_of_covers 42 _ (by decide +kernel) fun t hf y => ?_
  blk_simp
  rw [after_42, emb42 t y, in1, in11]
theorem arr43 (c : Dev nD) : (dats m 0 c).arrAt 43 cfg0.N = grad3 (m ((c.tc : Thread nD τ).loc main_arg0)) := by
  refine (dats m 0 c).arrAt_eq_of_covers 43 _ (by decide +kernel) fun t hf y => ?_
  blk_simp
  rw [after_43, emb43 t y, in0]
theorem arr44 (c : Dev nD) : (dats m 0 c).arrAt 44 cfg0.N = k0_pay15 (grad3 (m ((c.tc : Thread nD τ).loc main_arg0))) (m ((c.tc : Thread nD τ).loc main_arg12)) (m ((c.tc : Thread nD τ).loc main_arg13)) (m ((c.tc : Thread nD τ).loc main_arg14)) := by
  refine (dats m 0 c).arrAt_eq_of_covers 44 _ (by decide +kernel) fun t hf y => ?_
  blk_simp
  rw [after_44, emb44 t y, in0, in12, in13, in14]
theorem arr45 (c : Dev nD) : (dats m 0 c).arrAt 45 cfg0.N = k0_pay13 (grad3 (m ((c.tc : Thread nD τ).loc main_arg0))) (m ((c.tc : Thread nD τ).loc main_arg13)) := by
  refine (dats m 0 c).arrAt_eq_of_covers 45 _ (by decide +kernel) fun t hf y => ?_
  blk_simp
  rw [after_45, emb45 t y, in0, in13]
theorem arr46 (c : Dev nD) : (dats m 0 c).arrAt 46 cfg0.N = k0_pay14 (grad3 (m ((c.tc : Thread nD τ).loc main_arg0))) (m ((c.tc : Thread nD τ).loc main_arg14)) := by
  refine (dats m 0 c).arrAt_eq_of_covers 46 _ (by decide +kernel) fun t hf y => ?_
  blk_simp
  rw [after_46, emb46 t y, in0, in14]
theorem arr47 (c : Dev nD) : (dats m 0 c).arrAt 47 cfg0.N = grad4 (m ((c.tc : Thread nD τ).loc main_arg0)) := by
  refine (dats m 0 c).arrAt_eq_of_covers 47 _ (by decide +kernel) fun t hf y => ?_
  blk_simp
  rw [after_47, emb47 t y, in0]
theorem arr48 (c : Dev nD) : (dats m 0 c).arrAt 48 cfg0.N = k0_pay18 (grad4 (m ((c.tc : Thread nD τ).loc main_arg0))) (m ((c.tc : Thread nD τ).loc main_arg15)) (m ((c.tc : Thread nD τ).loc main_arg16)) (m ((c.tc : Thread nD τ).loc main_arg17)) := by
  refine (dats m 0 c).arrAt_eq_of_covers 48 _ (by decide +kernel) fun t hf y => ?_
  blk_simp
  rw [after_48, emb48 t y, in0, in15, in16, in17]
theorem arr49 (c : Dev nD) : (dats m 0 c).arrAt 49 cfg0.N = k0_pay16 (grad4 (m ((c.tc : Thread nD τ).loc main_arg0))) (m ((c.tc : Thread nD τ).loc main_arg16)) := by
  refine (dats m 0 c).arrAt_eq_of_covers 49 _ (by decide +kernel) fun t hf y => ?_
  blk_simp
  rw [after_49, emb49 t y, in0, in16]
theorem arr50 (c : Dev nD) : (dats m 0 c).arrAt 50 cfg0.N = k0_pay17 (grad4 (m ((c.tc : Thread nD τ).loc main_arg0))) (m ((c.tc : Thread nD τ).loc main_arg17)) := by
  refine (dats m 0 c).arrAt_eq_of_covers 50 _ (by decide +kernel) fun t hf y => ?_
  blk_simp
  rw [after_50, emb50 t y, in0, in17]
theorem arr51 (c : Dev nD) : (dats m 0 c).arrAt 51 cfg0.N = grad5 (m ((c.tc : Thread nD τ).loc main_arg0)) := by
  refine (dats m 0 c).arrAt_eq_of_covers 51 _ (by decide +kernel) fun t hf y => ?_
  blk_simp
  rw [after_51, emb51 t y, in0]
theorem arr52 (c : Dev nD) : (dats m 0 c).arrAt 52 cfg0.N = k0_pay21 (grad5 (m ((c.tc : Thread nD τ).loc main_arg0))) (m ((c.tc : Thread nD τ).loc main_arg18)) (m ((c.tc : Thread nD τ).loc main_arg19)) (m ((c.tc : Thread nD τ).loc main_arg20)) := by
  refine (dats m 0 c).arrAt_eq_of_covers 52 _ (by decide +kernel) fun t hf y => ?_
  blk_simp
  rw [after_52, emb52 t y, in0, in18, in19, in20]
theorem arr53 (c : Dev nD) : (dats m 0 c).arrAt 53 cfg0.N = k0_pay19 (grad5 (m ((c.tc : Thread nD τ).loc main_arg0))) (m ((c.tc : Thread nD τ).loc main_arg19)) := by
  refine (dats m 0 c).arrAt_eq_of_covers 53 _ (by decide +kernel) fun t hf y => ?_
  blk_simp
  rw [after_53, emb53 t y, in0, in19]
theorem arr54 (c : Dev nD) : (dats m 0 c).arrAt 54 cfg0.N = k0_pay20 (grad5 (m ((c.tc : Thread nD τ).loc main_arg0))) (m ((c.tc : Thread nD τ).loc main_arg20)) := by
  refine (dats m 0 c).arrAt_eq_of_covers 54 _ (by decide +kernel) fun t hf y => ?_
  blk_simp
  rw [after_54, emb54 t y, in0, in20]
theorem arr55 (c : Dev nD) : (dats m 0 c).arrAt 55 cfg0.N = grad6 (m ((c.tc : Thread nD τ).loc main_arg0)) := by
  refine (dats m 0 c).arrAt_eq_of_covers 55 _ (by decide +kernel) fun t hf y => ?_
  blk_simp
  rw [after_55, emb55 t y, in0]
theorem arr56 (c : Dev nD) : (dats m 0 c).arrAt 56 cfg0.N = k0_pay24 (grad6 (m ((c.tc : Thread nD τ).loc main_arg0))) (m ((c.tc : Thread nD τ).loc main_arg21)) (m ((c.tc : Thread nD τ).loc main_arg22)) (m ((c.tc : Thread nD τ).loc main_arg23)) := by
  refine (dats m 0 c).arrAt_eq_of_covers 56 _ (by decide +kernel) fun t hf y => ?_
  blk_simp
  rw [after_56, emb56 t y, in0, in21, in22, in23]
theorem arr57 (c : Dev nD) : (dats m 0 c).arrAt 57 cfg0.N = k0_pay22 (grad6 (m ((c.tc : Thread nD τ).loc main_arg0))) (m ((c.tc : Thread nD τ).loc main_arg22)) := by
  refine (dats m 0 c).arrAt_eq_of_covers 57 _ (by decide +kernel) fun t hf y => ?_
  blk_simp
  rw [after_57, emb57 t y, in0, in22]
theorem arr58 (c : Dev nD) : (dats m 0 c).arrAt 58 cfg0.N = k0_pay23 (grad6 (m ((c.tc : Thread nD τ).loc main_arg0))) (m ((c.tc : Thread nD τ).loc main_arg23)) := by
  refine (dats m 0 c).arrAt_eq_of_covers 58 _ (by decide +kernel) fun t hf y => ?_
  blk_simp
  rw [after_58, emb58 t y, in0, in23]
theorem arr59 (c : Dev nD) : (dats m 0 c).arrAt 59 cfg0.N = grad7 (m ((c.tc : Thread nD τ).loc main_arg0)) := by
  refine (dats m 0 c).arrAt_eq_of_covers 59 _ (by decide +kernel) fun t hf y => ?_
  blk_simp
  rw [after_59, emb59 t y, in0]
theorem arr60 (c : Dev nD) : (dats m 0 c).arrAt 60 cfg0.N = k0_pay27 (grad7 (m ((c.tc : Thread nD τ).loc main_arg0))) (m ((c.tc : Thread nD τ).loc main_arg24)) (m ((c.tc : Thread nD τ).loc main_arg25)) (m ((c.tc : Thread nD τ).loc main_arg26)) := by
  refine (dats m 0 c).arrAt_eq_of_covers 60 _ (by decide +kernel) fun t hf y => ?_
  blk_simp
  rw [after_60, emb60 t y, in0, in24, in25, in26]
theorem arr61 (c : Dev nD) : (dats m 0 c).arrAt 61 cfg0.N = k0_pay25 (grad7 (m ((c.tc : Thread nD τ).loc main_arg0))) (m ((c.tc : Thread nD τ).loc main_arg25)) := by
  refine (dats m 0 c).arrAt_eq_of_covers 61 _ (by decide +kernel) fun t hf y => ?_
  blk_simp
  rw [after_61, emb61 t y, in0, in25]
theorem arr62 (c : Dev nD) : (dats m 0 c).arrAt 62 cfg0.N = k0_pay26 (grad7 (m ((c.tc : Thread nD τ).loc main_arg0))) (m ((c.tc : Thread nD τ).loc main_arg26)) := by
  refine (dats m 0 c).arrAt_eq_of_covers 62 _ (by decide +kernel) fun t hf y => ?_
  blk_simp
  rw [after_62, emb62 t y, in0, in26]
theorem arr63 (c : Dev nD) : (dats m 0 c).arrAt 63 cfg0.N = grad8 (m ((c.tc : Thread nD τ).loc main_arg2)) := by
  refine (dats m 0 c).arrAt_eq_of_covers 63 _ (by decide +kernel) fun t hf y => ?_
  blk_simp
  rw [after_63, emb63 t y, in2]
theorem arr64 (c : Dev nD) : (dats m 0 c).arrAt 64 cfg0.N = k0_pay31 (grad8 (m ((c.tc : Thread nD τ).loc main_arg2))) (m ((c.tc : Thread nD τ).loc main_arg27)) (m ((c.tc : Thread nD τ).loc main_arg28)) (m ((c.tc : Thread nD τ).loc main_arg29)) := by
  refine (dats m 0 c).arrAt_eq_of_covers 64 _ (by decide +kernel) fun t hf y => ?_
  blk_simp
  rw [after_64, emb64 t y, in2, in27, in28, in29]
theorem arr65 (c : Dev nD) : (dats m 0 c).arrAt 65 cfg0.N = k0_pay29 (grad8 (m ((c.tc : Thread nD τ).loc main_arg2))) (m ((c.tc : Thread nD τ).loc main_arg28)) := by
  refine (dats m 0 c).arrAt_eq_of_covers 65 _ (by decide +kernel) fun t hf y => ?_
  blk_simp
  rw [after_65, emb65 t y, in2, in28]
theorem arr66 (c : Dev nD) : (dats m 0 c).arrAt 66 cfg0.N = k0_pay30 (grad8 (m ((c.tc : Thread nD τ).loc main_arg2))) (m ((c.tc : Thread nD τ).loc main_arg29)) := by
  refine (dats m 0 c).arrAt_eq_of_covers 66 _ (by decide +kernel) fun t hf y => ?_
  blk_simp
  rw [after_66, emb66 t y, in2, in29]

end Cert.Kernel13Ideal.Small

end
-- ==== Proof.SmallRef.lean ====
module
public import proofs.«01_k».proof.Proof.SmallBody
public import proofs.«01_k».proof.Proof.Gen.Reference13Ideal.Run
public import Idealize.ShloMosaic.Lib.Pipeline.ValueKit
public import Idealize.ShloMosaic.Lib.Pointwise
public import Idealize.ShloMosaic.Lib.Claim
/-! The reference of the small parameters' update, over the reals: its gradients are the slots of the two sums over the devices that the kernel
    keeps in its scratch buffers, and its updates are the kernel's of those gradients. -/
@[expose] public section
set_option maxRecDepth 16384
open Idealize.ShloMosaic Idealize.ShloMosaic.TcCoe Idealize.SL.Sem
namespace Cert.Kernel13Ideal.Small
open Cert.Kernel13Ideal Cert.Kernel13Ideal.Gen
open Idealize.ShloMosaic.StableHlo

/-- The two scratch buffers, and the gradient of `w_pool`, at one element: the sum over the eight devices. -/
theorem acc0_point (x : Vec Ideal S8x40x1024 .f32) (r : Fin 40) (i : Fin 1024) : acc0 (F := Ideal) x (ix2 r i) = ∑ d : Fin 8, x (ix3 d r i) := by
  refine Eq.trans ?_ (Fin.sum_univ_eight (M := EReal) _).symm
  pointwise [acc0, k0_pay1]
theorem acc1_point (x : Vec Ideal S8x24x1024 .f32) (r : Fin 24) (i : Fin 1024) : acc1 (F := Ideal) x (ix2 r i) = ∑ d : Fin 8, x (ix3 d r i) := by
  refine Eq.trans ?_ (Fin.sum_univ_eight (M := EReal) _).symm
  pointwise [acc1, k0_pay2, k0_pay3]
theorem grad8_point (x : Vec Ideal S8x4x128x128 .f32) (a : Fin 4) (r i : Fin 128) : grad8 (F := Ideal) x (ix3 a r i) = ∑ d : Fin 8, x (ix4 d a r i) := by
  refine Eq.trans ?_ (Fin.sum_univ_eight (M := EReal) _).symm
  pointwise [grad8, k0_pay28]

variable (m : (ℓ : Loc Cert.Reference13Ideal.nD Cert.Reference13Ideal.τ Cert.Reference13Ideal.sig) → Buf (Elt Ideal) ℓ)

/-! The reference's gradients, each a slot of a sum. -/
theorem ref0 (c : Dev Cert.Reference13Ideal.nD) : Cert.Reference13Ideal.Value.res_main_v7 (F := Ideal) (launchContents m c) = grad0 (F := Ideal) (m ((c.tc : Thread Cert.Reference13Ideal.nD Cert.Reference13Ideal.τ).loc Cert.Reference13Ideal.main_arg1)) := by
  funext j
  obtain ⟨r, i, rfl⟩ : ∃ (r : Fin 1) (i : Fin 1024), j = ix2 r i := ⟨j 0, j 1, eq_ix2 j⟩
  unfold Cert.Reference13Ideal.Value.res_main_v7 Cert.Reference13Ideal.Value.res_main_v1 grad0
  pointwise
  exact (acc1_point _ _ _).symm
theorem ref1 (c : Dev Cert.Reference13Ideal.nD) : Cert.Reference13Ideal.Value.res_main_v8 (F := Ideal) (launchContents m c) = grad1 (F := Ideal) (m ((c.tc : Thread Cert.Reference13Ideal.nD Cert.Reference13Ideal.τ).loc Cert.Reference13Ideal.main_arg1)) := by
  funext j
  obtain ⟨r, i, rfl⟩ : ∃ (r : Fin 2) (i : Fin 512), j = ix2 r i := ⟨j 0, j 1, eq_ix2 j⟩
  unfold Cert.Reference13Ideal.Value.res_main_v8 Cert.Reference13Ideal.Value.res_main_v1 grad1
  pointwise
  exact (acc1_point _ _ _).symm
theorem ref2 (c : Dev Cert.Reference13Ideal.nD) : Cert.Reference13Ideal.Value.res_main_v9 (F := Ideal) (launchContents m c) = grad2 (F := Ideal) (m ((c.tc : Thread Cert.Reference13Ideal.nD Cert.Reference13Ideal.τ).loc Cert.Reference13Ideal.main_arg1)) := by
  funext j
  obtain ⟨r, i, rfl⟩ : ∃ (r : Fin 4) (i : Fin 128), j = ix2 r i := ⟨j 0, j 1, eq_ix2 j⟩
  unfold Cert.Reference13Ideal.Value.res_main_v9 Cert.Reference13Ideal.Value.res_main_v1 grad2
  pointwise
  exact (acc1_point _ _ _).symm
theorem ref3 (c : Dev Cert.Reference13Ideal.nD) : Cert.Reference13Ideal.Value.res_main_v6 (F := Ideal) (launchContents m c) = grad3 (F := Ideal) (m ((c.tc : Thread Cert.Reference13Ideal.nD Cert.Reference13Ideal.τ).loc Cert.Reference13Ideal.main_arg0)) := by
  funext j
  obtain ⟨r, i, rfl⟩ : ∃ (r : Fin 1) (i : Fin 512), j = ix2 r i := ⟨j 0, j 1, eq_ix2 j⟩
  unfold Cert.Reference13Ideal.Value.res_main_v6 Cert.Reference13Ideal.Value.res_main_v0 grad3
  pointwise
  exact (acc0_point _ _ _).symm
theorem ref4 (c : Dev Cert.Reference13Ideal.nD) : Cert.Reference13Ideal.Value.res_main_v2 (F := Ideal) (launchContents m c) = grad4 (F := Ideal) (m ((c.tc : Thread Cert.Reference13Ideal.nD Cert.Reference13Ideal.τ).loc Cert.Reference13Ideal.main_arg0)) := by
  funext j
  obtain ⟨r, i, rfl⟩ : ∃ (r : Fin 1) (i : Fin 1024), j = ix2 r i := ⟨j 0, j 1, eq_ix2 j⟩
  unfold Cert.Reference13Ideal.Value.res_main_v2 Cert.Reference13Ideal.Value.res_main_v0 grad4
  pointwise
  exact (acc0_point _ _ _).symm
theorem ref5 (c : Dev Cert.Reference13Ideal.nD) : Cert.Reference13Ideal.Value.res_main_v3 (F := Ideal) (launchContents m c) = grad5 (F := Ideal) (m ((c.tc : Thread Cert.Reference13Ideal.nD Cert.Reference13Ideal.τ).loc Cert.Reference13Ideal.main_arg0)) := by
  funext j
  obtain ⟨r, i, rfl⟩ : ∃ (r : Fin 1) (i : Fin 1024), j = ix2 r i := ⟨j 0, j 1, eq_ix2 j⟩
  unfold Cert.Reference13Ideal.Value.res_main_v3 Cert.Reference13Ideal.Value.res_main_v0 grad5
  pointwise
  exact (acc0_point _ _ _).symm
theorem ref6 (c : Dev Cert.Reference13Ideal.nD) : Cert.Reference13Ideal.Value.res_main_v4 (F := Ideal) (launchContents m c) = grad6 (F := Ideal) (m ((c.tc : Thread Cert.Reference13Ideal.nD Cert.Reference13Ideal.τ).loc Cert.Reference13Ideal.main_arg0)) := by
  funext j
  obtain ⟨r, i, rfl⟩ : ∃ (r : Fin 1) (i : Fin 1024), j = ix2 r i := ⟨j 0, j 1, eq_ix2 j⟩
  unfold Cert.Reference13Ideal.Value.res_main_v4 Cert.Reference13Ideal.Value.res_main_v0 grad6
  pointwise
  exact (acc0_point _ _ _).symm
theorem ref7 (c : Dev Cert.Reference13Ideal.nD) : Cert.Reference13Ideal.Value.res_main_v5 (F := Ideal) (launchContents m c) = grad7 (F := Ideal) (m ((c.tc : Thread Cert.Reference13Ideal.nD Cert.Reference13Ideal.τ).loc Cert.Reference13Ideal.main_arg0)) := by
  funext j
  obtain ⟨r, i, rfl⟩ : ∃ (r : Fin 1) (i : Fin 1024), j = ix2 r i := ⟨j 0, j 1, eq_ix2 j⟩
  unfold Cert.Reference13Ideal.Value.res_main_v5 Cert.Reference13Ideal.Value.res_main_v0 grad7
  pointwise
  exact (acc0_point _ _ _).symm
theorem ref8 (c : Dev Cert.Reference13Ideal.nD) : Cert.Reference13Ideal.Value.res_main_v10 (F := Ideal) (launchContents m c) = grad8 (F := Ideal) (m ((c.tc : Thread Cert.Reference13Ideal.nD Cert.Reference13Ideal.τ).loc Cert.Reference13Ideal.main_arg2)) := by
  funext j
  obtain ⟨a, b, d, rfl⟩ : ∃ (a : Fin 4) (b : Fin 128) (d : Fin 128), j = ix3 a b d := ⟨j 0, j 1, j 2, eq_ix3 j⟩
  unfold Cert.Reference13Ideal.Value.res_main_v10
  pointwise
  exact (grad8_point _ _ _ _).symm
theorem ref_loss (c : Dev Cert.Reference13Ideal.nD) : extractStridedSlice Cert.Reference13Ideal.S1x1 ![25, 0] (Cert.Reference13Ideal.Value.res_main_v0 (F := Ideal) (launchContents m c)) Cert.Reference13Ideal.Gen.facts₀.slices_S40x1024_S1x1_25_0 = loss (F := Ideal) (m ((c.tc : Thread Cert.Reference13Ideal.nD Cert.Reference13Ideal.τ).loc Cert.Reference13Ideal.main_arg0)) := by
  funext j
  obtain ⟨r, i, rfl⟩ : ∃ (r : Fin 1) (i : Fin 1), j = ix2 r i := ⟨j 0, j 1, eq_ix2 j⟩
  unfold Cert.Reference13Ideal.Value.res_main_v0 loss
  pointwise
  exact (acc0_point _ _ _).symm

/-- The reference's run: every result at the kernel's value of the arguments. -/
theorem reference (g : Dev Cert.Reference13Ideal.nD → PrngReg) : θ_run (Cert.Reference13Ideal.defs (F := Ideal)) (onTc (τ := Cert.Reference13Ideal.τ) (Cert.Reference13Ideal.main (F := Ideal))) ⟨m, fun _ => 0, g⟩ fun r => ∀ c : Dev Cert.Reference13Ideal.nD,
      r.2.mem ((c.tc : Thread Cert.Reference13Ideal.nD Cert.Reference13Ideal.τ).loc Cert.Reference13Ideal.main_v11) = loss (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_v7) = grad0 (m ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_v35) = k0_pay6 (grad0 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))
      ∧ r.2.mem ((c.tc : Thread Cert.Reference13Ideal.nD Cert.Reference13Ideal.τ).loc Cert.Reference13Ideal.main_v16) = k0_pay4 (grad0 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg4))
      ∧ r.2.mem ((c.tc : Thread Cert.Reference13Ideal.nD Cert.Reference13Ideal.τ).loc Cert.Reference13Ideal.main_v22) = k0_pay5 (grad0 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg5))
      ∧ r.2.mem ((c.tc : Thread Cert.Reference13Ideal.nD Cert.Reference13Ideal.τ).loc Cert.Reference13Ideal.main_v8) = grad1 (m ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_v59) = k0_pay9 (grad1 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8))
      ∧ r.2.mem ((c.tc : Thread Cert.Reference13Ideal.nD Cert.Reference13Ideal.τ).loc Cert.Reference13Ideal.main_v40) = k0_pay7 (grad1 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg7))
      ∧ r.2.mem ((c.tc : Thread Cert.Reference13Ideal.nD Cert.Reference13Ideal.τ).loc Cert.Reference13Ideal.main_v46) = k0_pay8 (grad1 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg8))
      ∧ r.2.mem ((c.tc : Thread Cert.Reference13Ideal.nD Cert.Reference13Ideal.τ).loc Cert.Reference13Ideal.main_v9) = grad2 (m ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_v83) = k0_pay12 (grad2 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg9)) (m ((c.tc : Thread Cert.Reference13Ideal.nD Cert.Reference13Ideal.τ).loc Cert.Reference13Ideal.main_arg10)) (m ((c.tc : Thread Cert.Reference13Ideal.nD Cert.Reference13Ideal.τ).loc Cert.Reference13Ideal.main_arg11))
      ∧ r.2.mem ((c.tc : Thread Cert.Reference13Ideal.nD Cert.Reference13Ideal.τ).loc Cert.Reference13Ideal.main_v64) = k0_pay10 (grad2 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg10))
      ∧ r.2.mem ((c.tc : Thread Cert.Reference13Ideal.nD Cert.Reference13Ideal.τ).loc Cert.Reference13Ideal.main_v70) = k0_pay11 (grad2 (m ((c.tc : Thread Cert.Reference13Ideal.nD Cert.Reference13Ideal.τ).loc Cert.Reference13Ideal.main_arg1))) (m ((c.tc : Thread Cert.Reference13Ideal.nD Cert.Reference13Ideal.τ).loc Cert.Reference13Ideal.main_arg11))
      ∧ r.2.mem ((c.tc : Thread Cert.Reference13Ideal.nD Cert.Reference13Ideal.τ).loc Cert.Reference13Ideal.main_v6) = grad3 (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_v107) = k0_pay15 (grad3 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg12)) (m ((c.tc : Thread Cert.Reference13Ideal.nD Cert.Reference13Ideal.τ).loc Cert.Reference13Ideal.main_arg13)) (m ((c.tc : Thread Cert.Reference13Ideal.nD Cert.Reference13Ideal.τ).loc Cert.Reference13Ideal.main_arg14))
      ∧ r.2.mem ((c.tc : Thread Cert.Reference13Ideal.nD Cert.Reference13Ideal.τ).loc Cert.Reference13Ideal.main_v88) = k0_pay13 (grad3 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg13))
      ∧ r.2.mem ((c.tc : Thread Cert.Reference13Ideal.nD Cert.Reference13Ideal.τ).loc Cert.Reference13Ideal.main_v94) = k0_pay14 (grad3 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg14))
      ∧ r.2.mem ((c.tc : Thread Cert.Reference13Ideal.nD Cert.Reference13Ideal.τ).loc Cert.Reference13Ideal.main_v2) = grad4 (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_v131) = k0_pay18 (grad4 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg15)) (m ((c.tc : Thread Cert.Reference13Ideal.nD Cert.Reference13Ideal.τ).loc Cert.Reference13Ideal.main_arg16)) (m ((c.tc : Thread Cert.Reference13Ideal.nD Cert.Reference13Ideal.τ).loc Cert.Reference13Ideal.main_arg17))
      ∧ r.2.mem ((c.tc : Thread Cert.Reference13Ideal.nD Cert.Reference13Ideal.τ).loc Cert.Reference13Ideal.main_v112) = k0_pay16 (grad4 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg16))
      ∧ r.2.mem ((c.tc : Thread Cert.Reference13Ideal.nD Cert.Reference13Ideal.τ).loc Cert.Reference13Ideal.main_v118) = k0_pay17 (grad4 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg17))
      ∧ r.2.mem ((c.tc : Thread Cert.Reference13Ideal.nD Cert.Reference13Ideal.τ).loc Cert.Reference13Ideal.main_v3) = grad5 (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_v155) = k0_pay21 (grad5 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg18)) (m ((c.tc : Thread Cert.Reference13Ideal.nD Cert.Reference13Ideal.τ).loc Cert.Reference13Ideal.main_arg19)) (m ((c.tc : Thread Cert.Reference13Ideal.nD Cert.Reference13Ideal.τ).loc Cert.Reference13Ideal.main_arg20))
      ∧ r.2.mem ((c.tc : Thread Cert.Reference13Ideal.nD Cert.Reference13Ideal.τ).loc Cert.Reference13Ideal.main_v136) = k0_pay19 (grad5 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg19))
      ∧ r.2.mem ((c.tc : Thread Cert.Reference13Ideal.nD Cert.Reference13Ideal.τ).loc Cert.Reference13Ideal.main_v142) = k0_pay20 (grad5 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg20))
      ∧ r.2.mem ((c.tc : Thread Cert.Reference13Ideal.nD Cert.Reference13Ideal.τ).loc Cert.Reference13Ideal.main_v4) = grad6 (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_v179) = k0_pay24 (grad6 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg21)) (m ((c.tc : Thread Cert.Reference13Ideal.nD Cert.Reference13Ideal.τ).loc Cert.Reference13Ideal.main_arg22)) (m ((c.tc : Thread Cert.Reference13Ideal.nD Cert.Reference13Ideal.τ).loc Cert.Reference13Ideal.main_arg23))
      ∧ r.2.mem ((c.tc : Thread Cert.Reference13Ideal.nD Cert.Reference13Ideal.τ).loc Cert.Reference13Ideal.main_v160) = k0_pay22 (grad6 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg22))
      ∧ r.2.mem ((c.tc : Thread Cert.Reference13Ideal.nD Cert.Reference13Ideal.τ).loc Cert.Reference13Ideal.main_v166) = k0_pay23 (grad6 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg23))
      ∧ r.2.mem ((c.tc : Thread Cert.Reference13Ideal.nD Cert.Reference13Ideal.τ).loc Cert.Reference13Ideal.main_v5) = grad7 (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_v203) = k0_pay27 (grad7 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg24)) (m ((c.tc : Thread Cert.Reference13Ideal.nD Cert.Reference13Ideal.τ).loc Cert.Reference13Ideal.main_arg25)) (m ((c.tc : Thread Cert.Reference13Ideal.nD Cert.Reference13Ideal.τ).loc Cert.Reference13Ideal.main_arg26))
      ∧ r.2.mem ((c.tc : Thread Cert.Reference13Ideal.nD Cert.Reference13Ideal.τ).loc Cert.Reference13Ideal.main_v184) = k0_pay25 (grad7 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg25))
      ∧ r.2.mem ((c.tc : Thread Cert.Reference13Ideal.nD Cert.Reference13Ideal.τ).loc Cert.Reference13Ideal.main_v190) = k0_pay26 (grad7 (m ((c.tc : Thread Cert.Reference13Ideal.nD Cert.Reference13Ideal.τ).loc Cert.Reference13Ideal.main_arg0))) (m ((c.tc : Thread Cert.Reference13Ideal.nD Cert.Reference13Ideal.τ).loc Cert.Reference13Ideal.main_arg26))
      ∧ r.2.mem ((c.tc : Thread Cert.Reference13Ideal.nD Cert.Reference13Ideal.τ).loc Cert.Reference13Ideal.main_v10) = grad8 (m ((c.tc : Thread Cert.Reference13Ideal.nD Cert.Reference13Ideal.τ).loc Cert.Reference13Ideal.main_arg2))
      ∧ r.2.mem ((c.tc : Thread Cert.Reference13Ideal.nD Cert.Reference13Ideal.τ).loc Cert.Reference13Ideal.main_v227) = k0_pay31 (grad8 (m ((c.tc : Thread Cert.Reference13Ideal.nD Cert.Reference13Ideal.τ).loc Cert.Reference13Ideal.main_arg2))) (m ((c.tc : Thread Cert.Reference13Ideal.nD Cert.Reference13Ideal.τ).loc Cert.Reference13Ideal.main_arg27)) (m ((c.tc : Thread Cert.Reference13Ideal.nD Cert.Reference13Ideal.τ).loc Cert.Reference13Ideal.main_arg28)) (m ((c.tc : Thread Cert.Reference13Ideal.nD Cert.Reference13Ideal.τ).loc Cert.Reference13Ideal.main_arg29))
      ∧ r.2.mem ((c.tc : Thread Cert.Reference13Ideal.nD Cert.Reference13Ideal.τ).loc Cert.Reference13Ideal.main_v208) = k0_pay29 (grad8 (m ((c.tc : Thread Cert.Reference13Ideal.nD Cert.Reference13Ideal.τ).loc Cert.Reference13Ideal.main_arg2))) (m ((c.tc : Thread Cert.Reference13Ideal.nD Cert.Reference13Ideal.τ).loc Cert.Reference13Ideal.main_arg28))
      ∧ r.2.mem ((c.tc : Thread Cert.Reference13Ideal.nD Cert.Reference13Ideal.τ).loc Cert.Reference13Ideal.main_v214) = k0_pay30 (grad8 (m ((c.tc : Thread Cert.Reference13Ideal.nD Cert.Reference13Ideal.τ).loc Cert.Reference13Ideal.main_arg2))) (m ((c.tc : Thread Cert.Reference13Ideal.nD Cert.Reference13Ideal.τ).loc Cert.Reference13Ideal.main_arg29))
      ∧ r.2.mem ((c.tc : Thread Cert.Reference13Ideal.nD Cert.Reference13Ideal.τ).loc Cert.Reference13Ideal.main_arg0) = (m ((c.tc : Thread Cert.Reference13Ideal.nD Cert.Reference13Ideal.τ).loc Cert.Reference13Ideal.main_arg0))
      ∧ r.2.mem ((c.tc : Thread Cert.Reference13Ideal.nD Cert.Reference13Ideal.τ).loc Cert.Reference13Ideal.main_arg1) = (m ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_arg2) = (m ((c.tc : Thread Cert.Reference13Ideal.nD Cert.Reference13Ideal.τ).loc Cert.Reference13Ideal.main_arg2))
      ∧ r.2.mem ((c.tc : Thread Cert.Reference13Ideal.nD Cert.Reference13Ideal.τ).loc Cert.Reference13Ideal.main_arg3) = (m ((c.tc : Thread Cert.Reference13Ideal.nD Cert.Reference13Ideal.τ).loc Cert.Reference13Ideal.main_arg3))
      ∧ r.2.mem ((c.tc : Thread Cert.Reference13Ideal.nD Cert.Reference13Ideal.τ).loc Cert.Reference13Ideal.main_arg4) = (m ((c.tc : Thread Cert.Reference13Ideal.nD Cert.Reference13Ideal.τ).loc Cert.Reference13Ideal.main_arg4))
      ∧ r.2.mem ((c.tc : Thread Cert.Reference13Ideal.nD Cert.Reference13Ideal.τ).loc Cert.Reference13Ideal.main_arg5) = (m ((c.tc : Thread Cert.Reference13Ideal.nD Cert.Reference13Ideal.τ).loc Cert.Reference13Ideal.main_arg5))
      ∧ r.2.mem ((c.tc : Thread Cert.Reference13Ideal.nD Cert.Reference13Ideal.τ).loc Cert.Reference13Ideal.main_arg6) = (m ((c.tc : Thread Cert.Reference13Ideal.nD Cert.Reference13Ideal.τ).loc Cert.Reference13Ideal.main_arg6))
      ∧ r.2.mem ((c.tc : Thread Cert.Reference13Ideal.nD Cert.Reference13Ideal.τ).loc Cert.Reference13Ideal.main_arg7) = (m ((c.tc : Thread Cert.Reference13Ideal.nD Cert.Reference13Ideal.τ).loc Cert.Reference13Ideal.main_arg7))
      ∧ r.2.mem ((c.tc : Thread Cert.Reference13Ideal.nD Cert.Reference13Ideal.τ).loc Cert.Reference13Ideal.main_arg8) = (m ((c.tc : Thread Cert.Reference13Ideal.nD Cert.Reference13Ideal.τ).loc Cert.Reference13Ideal.main_arg8))
      ∧ r.2.mem ((c.tc : Thread Cert.Reference13Ideal.nD Cert.Reference13Ideal.τ).loc Cert.Reference13Ideal.main_arg9) = (m ((c.tc : Thread Cert.Reference13Ideal.nD Cert.Reference13Ideal.τ).loc Cert.Reference13Ideal.main_arg9))
      ∧ r.2.mem ((c.tc : Thread Cert.Reference13Ideal.nD Cert.Reference13Ideal.τ).loc Cert.Reference13Ideal.main_arg10) = (m ((c.tc : Thread Cert.Reference13Ideal.nD Cert.Reference13Ideal.τ).loc Cert.Reference13Ideal.main_arg10))
      ∧ r.2.mem ((c.tc : Thread Cert.Reference13Ideal.nD Cert.Reference13Ideal.τ).loc Cert.Reference13Ideal.main_arg11) = (m ((c.tc : Thread Cert.Reference13Ideal.nD Cert.Reference13Ideal.τ).loc Cert.Reference13Ideal.main_arg11))
      ∧ r.2.mem ((c.tc : Thread Cert.Reference13Ideal.nD Cert.Reference13Ideal.τ).loc Cert.Reference13Ideal.main_arg12) = (m ((c.tc : Thread Cert.Reference13Ideal.nD Cert.Reference13Ideal.τ).loc Cert.Reference13Ideal.main_arg12))
      ∧ r.2.mem ((c.tc : Thread Cert.Reference13Ideal.nD Cert.Reference13Ideal.τ).loc Cert.Reference13Ideal.main_arg13) = (m ((c.tc : Thread Cert.Reference13Ideal.nD Cert.Reference13Ideal.τ).loc Cert.Reference13Ideal.main_arg13))
      ∧ r.2.mem ((c.tc : Thread Cert.Reference13Ideal.nD Cert.Reference13Ideal.τ).loc Cert.Reference13Ideal.main_arg14) = (m ((c.tc : Thread Cert.Reference13Ideal.nD Cert.Reference13Ideal.τ).loc Cert.Reference13Ideal.main_arg14))
      ∧ r.2.mem ((c.tc : Thread Cert.Reference13Ideal.nD Cert.Reference13Ideal.τ).loc Cert.Reference13Ideal.main_arg15) = (m ((c.tc : Thread Cert.Reference13Ideal.nD Cert.Reference13Ideal.τ).loc Cert.Reference13Ideal.main_arg15))
      ∧ r.2.mem ((c.tc : Thread Cert.Reference13Ideal.nD Cert.Reference13Ideal.τ).loc Cert.Reference13Ideal.main_arg16) = (m ((c.tc : Thread Cert.Reference13Ideal.nD Cert.Reference13Ideal.τ).loc Cert.Reference13Ideal.main_arg16))
      ∧ r.2.mem ((c.tc : Thread Cert.Reference13Ideal.nD Cert.Reference13Ideal.τ).loc Cert.Reference13Ideal.main_arg17) = (m ((c.tc : Thread Cert.Reference13Ideal.nD Cert.Reference13Ideal.τ).loc Cert.Reference13Ideal.main_arg17))
      ∧ r.2.mem ((c.tc : Thread Cert.Reference13Ideal.nD Cert.Reference13Ideal.τ).loc Cert.Reference13Ideal.main_arg18) = (m ((c.tc : Thread Cert.Reference13Ideal.nD Cert.Reference13Ideal.τ).loc Cert.Reference13Ideal.main_arg18))
      ∧ r.2.mem ((c.tc : Thread Cert.Reference13Ideal.nD Cert.Reference13Ideal.τ).loc Cert.Reference13Ideal.main_arg19) = (m ((c.tc : Thread Cert.Reference13Ideal.nD Cert.Reference13Ideal.τ).loc Cert.Reference13Ideal.main_arg19))
      ∧ r.2.mem ((c.tc : Thread Cert.Reference13Ideal.nD Cert.Reference13Ideal.τ).loc Cert.Reference13Ideal.main_arg20) = (m ((c.tc : Thread Cert.Reference13Ideal.nD Cert.Reference13Ideal.τ).loc Cert.Reference13Ideal.main_arg20))
      ∧ r.2.mem ((c.tc : Thread Cert.Reference13Ideal.nD Cert.Reference13Ideal.τ).loc Cert.Reference13Ideal.main_arg21) = (m ((c.tc : Thread Cert.Reference13Ideal.nD Cert.Reference13Ideal.τ).loc Cert.Reference13Ideal.main_arg21))
      ∧ r.2.mem ((c.tc : Thread Cert.Reference13Ideal.nD Cert.Reference13Ideal.τ).loc Cert.Reference13Ideal.main_arg22) = (m ((c.tc : Thread Cert.Reference13Ideal.nD Cert.Reference13Ideal.τ).loc Cert.Reference13Ideal.main_arg22))
      ∧ r.2.mem ((c.tc : Thread Cert.Reference13Ideal.nD Cert.Reference13Ideal.τ).loc Cert.Reference13Ideal.main_arg23) = (m ((c.tc : Thread Cert.Reference13Ideal.nD Cert.Reference13Ideal.τ).loc Cert.Reference13Ideal.main_arg23))
      ∧ r.2.mem ((c.tc : Thread Cert.Reference13Ideal.nD Cert.Reference13Ideal.τ).loc Cert.Reference13Ideal.main_arg24) = (m ((c.tc : Thread Cert.Reference13Ideal.nD Cert.Reference13Ideal.τ).loc Cert.Reference13Ideal.main_arg24))
      ∧ r.2.mem ((c.tc : Thread Cert.Reference13Ideal.nD Cert.Reference13Ideal.τ).loc Cert.Reference13Ideal.main_arg25) = (m ((c.tc : Thread Cert.Reference13Ideal.nD Cert.Reference13Ideal.τ).loc Cert.Reference13Ideal.main_arg25))
      ∧ r.2.mem ((c.tc : Thread Cert.Reference13Ideal.nD Cert.Reference13Ideal.τ).loc Cert.Reference13Ideal.main_arg26) = (m ((c.tc : Thread Cert.Reference13Ideal.nD Cert.Reference13Ideal.τ).loc Cert.Reference13Ideal.main_arg26))
      ∧ r.2.mem ((c.tc : Thread Cert.Reference13Ideal.nD Cert.Reference13Ideal.τ).loc Cert.Reference13Ideal.main_arg27) = (m ((c.tc : Thread Cert.Reference13Ideal.nD Cert.Reference13Ideal.τ).loc Cert.Reference13Ideal.main_arg27))
      ∧ r.2.mem ((c.tc : Thread Cert.Reference13Ideal.nD Cert.Reference13Ideal.τ).loc Cert.Reference13Ideal.main_arg28) = (m ((c.tc : Thread Cert.Reference13Ideal.nD Cert.Reference13Ideal.τ).loc Cert.Reference13Ideal.main_arg28))
      ∧ r.2.mem ((c.tc : Thread Cert.Reference13Ideal.nD Cert.Reference13Ideal.τ).loc Cert.Reference13Ideal.main_arg29) = (m ((c.tc : Thread Cert.Reference13Ideal.nD Cert.Reference13Ideal.τ).loc Cert.Reference13Ideal.main_arg29)) := by
  refine (θ_run _ _ _).mono (fun r h c => ?_) (Cert.Reference13Ideal.Value.run m g)
  have h := h c
  refine ⟨h.1.trans ?_, h.2.1.trans ?_, h.2.2.1.trans ?_, h.2.2.2.1.trans ?_, h.2.2.2.2.1.trans ?_, h.2.2.2.2.2.1.trans ?_, h.2.2.2.2.2.2.1.trans ?_, h.2.2.2.2.2.2.2.1.trans ?_, h.2.2.2.2.2.2.2.2.1.trans ?_, h.2.2.2.2.2.2.2.2.2.1.trans ?_, h.2.2.2.2.2.2.2.2.2.2.1.trans ?_, h.2.2.2.2.2.2.2.2.2.2.2.1.trans ?_, h.2.2.2.2.2.2.2.2.2.2.2.2.1.trans ?_, h.2.2.2.2.2.2.2.2.2.2.2.2.2.1.trans ?_, h.2.2.2.2.2.2.2.2.2.2.2.2.2.2.1.trans ?_, h.2.2.2.2.2.2.2.2.2.2.2.2.2.2.2.1.trans ?_, h.2.2.2.2.2.2.2.2.2.2.2.2.2.2.2.2.1.trans ?_, h.2.2.2.2.2.2.2.2.2.2.2.2.2.2.2.2.2.1.trans ?_, h.2.2.2.2.2.2.2.2.2.2.2.2.2.2.2.2.2.2.1.trans ?_, h.2.2.2.2.2.2.2.2.2.2.2.2.2.2.2.2.2.2.2.1.trans ?_, h.2.2.2.2.2.2.2.2.2.2.2.2.2.2.2.2.2.2.2.2.1.trans ?_, h.2.2.2.2.2.2.2.2.2.2.2.2.2.2.2.2.2.2.2.2.2.1.trans ?_, h.2.2.2.2.2.2.2.2.2.2.2.2.2.2.2.2.2.2.2.2.2.2.1.trans ?_, h.2.2.2.2.2.2.2.2.2.2.2.2.2.2.2.2.2.2.2.2.2.2.2.1.trans ?_, h.2.2.2.2.2.2.2.2.2.2.2.2.2.2.2.2.2.2.2.2.2.2.2.2.1.trans ?_, h.2.2.2.2.2.2.2.2.2.2.2.2.2.2.2.2.2.2.2.2.2.2.2.2.2.1.trans ?_, h.2.2.2.2.2.2.2.2.2.2.2.2.2.2.2.2.2.2.2.2.2.2.2.2.2.2.1.trans ?_, h.2.2.2.2.2.2.2.2.2.2.2.2.2.2.2.2.2.2.2.2.2.2.2.2.2.2.2.1.trans ?_, h.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.2.2.2⟩
  · exact ref_loss m c
  · exact ref0 m c
  · rw [ref0 m c]; funext j; pointwise [k0_pay6, k0_pay4, k0_pay5]
  · rw [ref0 m c]; funext j; pointwise [k0_pay4]
  · rw [ref0 m c]; funext j; pointwise [k0_pay5]
  · exact ref1 m c
  · rw [ref1 m c]; funext j; pointwise [k0_pay9, k0_pay7, k0_pay8]
  · rw [ref1 m c]; funext j; pointwise [k0_pay7]
  · rw [ref1 m c]; funext j; pointwise [k0_pay8]
  · exact ref2 m c
  · rw [ref2 m c]; funext j; pointwise [k0_pay12, k0_pay10, k0_pay11]
  · rw [ref2 m c]; funext j; pointwise [k0_pay10]
  · rw [ref2 m c]; funext j; pointwise [k0_pay11]
  · exact ref3 m c
  · rw [ref3 m c]; funext j; pointwise [k0_pay15, k0_pay13, k0_pay14]
  · rw [ref3 m c]; funext j; pointwise [k0_pay13]
  · rw [ref3 m c]; funext j; pointwise [k0_pay14]
  · exact ref4 m c
  · rw [ref4 m c]; funext j; pointwise [k0_pay18, k0_pay16, k0_pay17]
  · rw [ref4 m c]; funext j; pointwise [k0_pay16]
  · rw [ref4 m c]; funext j; pointwise [k0_pay17]
  · exact ref5 m c
  · rw [ref5 m c]; funext j; pointwise [k0_pay21, k0_pay19, k0_pay20]
  · rw [ref5 m c]; funext j; pointwise [k0_pay19]
  · rw [ref5 m c]; funext j; pointwise [k0_pay20]
  · exact ref6 m c
  · rw [ref6 m c]; funext j; pointwise [k0_pay24, k0_pay22, k0_pay23]
  · rw [ref6 m c]; funext j; pointwise [k0_pay22]
  · rw [ref6 m c]; funext j; pointwise [k0_pay23]
  · exact ref7 m c
  · rw [ref7 m c]; funext j; pointwise [k0_pay27, k0_pay25, k0_pay26]
  · rw [ref7 m c]; funext j; pointwise [k0_pay25]
  · rw [ref7 m c]; funext j; pointwise [k0_pay26]
  · exact ref8 m c
  · rw [ref8 m c]; funext j; pointwise [k0_pay31, k0_pay29, k0_pay30]
  · rw [ref8 m c]; funext j; pointwise [k0_pay29]
  · rw [ref8 m c]; funext j; pointwise [k0_pay30]

end Cert.Kernel13Ideal.Small
end
-- ==== Proof.SmallClaim.lean ====
module
public import proofs.«01_k».proof.Defs
public import proofs.«01_k».proof.Proof.SmallVal
public import proofs.«01_k».proof.Proof.SmallRef
/-! The claim on the updates of the small parameters: the kernel's arrays after its run are the reference's results. -/
@[expose] public section
set_option maxRecDepth 16384
open Idealize.ShloMosaic Idealize.ShloMosaic.TcCoe Idealize.SL.Sem
namespace Cert.Kernel13Ideal.Small
open Cert.Kernel13Ideal Cert.Kernel13Ideal.Gen

set_option maxHeartbeats 8000000 in
/-- The kernel's run: every result at its value of the arguments, and the arguments as they were. -/
theorem kernel (m : (ℓ : Loc nD τ sig) → Buf (Elt Ideal) ℓ) (g : Dev nD → PrngReg) : θ_run (defs (F := Ideal)) (onTc (τ := τ) (main (F := Ideal))) ⟨m, fun _ => 0, g⟩ fun r => ∀ c : Dev nD,
      r.2.mem ((c.tc : Thread nD τ).loc main_v0_0) = loss (m ((c.tc : Thread nD τ).loc main_arg0))
      ∧ r.2.mem ((c.tc : Thread nD τ).loc main_v0_1) = grad0 (m ((c.tc : Thread nD τ).loc main_arg1))
      ∧ r.2.mem ((c.tc : Thread nD τ).loc main_v0_2) = k0_pay6 (grad0 (m ((c.tc : Thread nD τ).loc main_arg1))) (m ((c.tc : Thread nD τ).loc main_arg3)) (m ((c.tc : Thread nD τ).loc main_arg4)) (m ((c.tc : Thread nD τ).loc main_arg5))
      ∧ r.2.mem ((c.tc : Thread nD τ).loc main_v0_3) = k0_pay4 (grad0 (m ((c.tc : Thread nD τ).loc main_arg1))) (m ((c.tc : Thread nD τ).loc main_arg4))
      ∧ r.2.mem ((c.tc : Thread nD τ).loc main_v0_4) = k0_pay5 (grad0 (m ((c.tc : Thread nD τ).loc main_arg1))) (m ((c.tc : Thread nD τ).loc main_arg5))
      ∧ r.2.mem ((c.tc : Thread nD τ).loc main_v0_5) = grad1 (m ((c.tc : Thread nD τ).loc main_arg1))
      ∧ r.2.mem ((c.tc : Thread nD τ).loc main_v0_6) = k0_pay9 (grad1 (m ((c.tc : Thread nD τ).loc main_arg1))) (m ((c.tc : Thread nD τ).loc main_arg6)) (m ((c.tc : Thread nD τ).loc main_arg7)) (m ((c.tc : Thread nD τ).loc main_arg8))
      ∧ r.2.mem ((c.tc : Thread nD τ).loc main_v0_7) = k0_pay7 (grad1 (m ((c.tc : Thread nD τ).loc main_arg1))) (m ((c.tc : Thread nD τ).loc main_arg7))
      ∧ r.2.mem ((c.tc : Thread nD τ).loc main_v0_8) = k0_pay8 (grad1 (m ((c.tc : Thread nD τ).loc main_arg1))) (m ((c.tc : Thread nD τ).loc main_arg8))
      ∧ r.2.mem ((c.tc : Thread nD τ).loc main_v0_9) = grad2 (m ((c.tc : Thread nD τ).loc main_arg1))
      ∧ r.2.mem ((c.tc : Thread nD τ).loc main_v0_10) = k0_pay12 (grad2 (m ((c.tc : Thread nD τ).loc main_arg1))) (m ((c.tc : Thread nD τ).loc main_arg9)) (m ((c.tc : Thread nD τ).loc main_arg10)) (m ((c.tc : Thread nD τ).loc main_arg11))
      ∧ r.2.mem ((c.tc : Thread nD τ).loc main_v0_11) = k0_pay10 (grad2 (m ((c.tc : Thread nD τ).loc main_arg1))) (m ((c.tc : Thread nD τ).loc main_arg10))
      ∧ r.2.mem ((c.tc : Thread nD τ).loc main_v0_12) = k0_pay11 (grad2 (m ((c.tc : Thread nD τ).loc main_arg1))) (m ((c.tc : Thread nD τ).loc main_arg11))
      ∧ r.2.mem ((c.tc : Thread nD τ).loc main_v0_13) = grad3 (m ((c.tc : Thread nD τ).loc main_arg0))
      ∧ r.2.mem ((c.tc : Thread nD τ).loc main_v0_14) = k0_pay15 (grad3 (m ((c.tc : Thread nD τ).loc main_arg0))) (m ((c.tc : Thread nD τ).loc main_arg12)) (m ((c.tc : Thread nD τ).loc main_arg13)) (m ((c.tc : Thread nD τ).loc main_arg14))
      ∧ r.2.mem ((c.tc : Thread nD τ).loc main_v0_15) = k0_pay13 (grad3 (m ((c.tc : Thread nD τ).loc main_arg0))) (m ((c.tc : Thread nD τ).loc main_arg13))
      ∧ r.2.mem ((c.tc : Thread nD τ).loc main_v0_16) = k0_pay14 (grad3 (m ((c.tc : Thread nD τ).loc main_arg0))) (m ((c.tc : Thread nD τ).loc main_arg14))
      ∧ r.2.mem ((c.tc : Thread nD τ).loc main_v0_17) = grad4 (m ((c.tc : Thread nD τ).loc main_arg0))
      ∧ r.2.mem ((c.tc : Thread nD τ).loc main_v0_18) = k0_pay18 (grad4 (m ((c.tc : Thread nD τ).loc main_arg0))) (m ((c.tc : Thread nD τ).loc main_arg15)) (m ((c.tc : Thread nD τ).loc main_arg16)) (m ((c.tc : Thread nD τ).loc main_arg17))
      ∧ r.2.mem ((c.tc : Thread nD τ).loc main_v0_19) = k0_pay16 (grad4 (m ((c.tc : Thread nD τ).loc main_arg0))) (m ((c.tc : Thread nD τ).loc main_arg16))
      ∧ r.2.mem ((c.tc : Thread nD τ).loc main_v0_20) = k0_pay17 (grad4 (m ((c.tc : Thread nD τ).loc main_arg0))) (m ((c.tc : Thread nD τ).loc main_arg17))
      ∧ r.2.mem ((c.tc : Thread nD τ).loc main_v0_21) = grad5 (m ((c.tc : Thread nD τ).loc main_arg0))
      ∧ r.2.mem ((c.tc : Thread nD τ).loc main_v0_22) = k0_pay21 (grad5 (m ((c.tc : Thread nD τ).loc main_arg0))) (m ((c.tc : Thread nD τ).loc main_arg18)) (m ((c.tc : Thread nD τ).loc main_arg19)) (m ((c.tc : Thread nD τ).loc main_arg20))
      ∧ r.2.mem ((c.tc : Thread nD τ).loc main_v0_23) = k0_pay19 (grad5 (m ((c.tc : Thread nD τ).loc main_arg0))) (m ((c.tc : Thread nD τ).loc main_arg19))
      ∧ r.2.mem ((c.tc : Thread nD τ).loc main_v0_24) = k0_pay20 (grad5 (m ((c.tc : Thread nD τ).loc main_arg0))) (m ((c.tc : Thread nD τ).loc main_arg20))
      ∧ r.2.mem ((c.tc : Thread nD τ).loc main_v0_25) = grad6 (m ((c.tc : Thread nD τ).loc main_arg0))
      ∧ r.2.mem ((c.tc : Thread nD τ).loc main_v0_26) = k0_pay24 (grad6 (m ((c.tc : Thread nD τ).loc main_arg0))) (m ((c.tc : Thread nD τ).loc main_arg21)) (m ((c.tc : Thread nD τ).loc main_arg22)) (m ((c.tc : Thread nD τ).loc main_arg23))
      ∧ r.2.mem ((c.tc : Thread nD τ).loc main_v0_27) = k0_pay22 (grad6 (m ((c.tc : Thread nD τ).loc main_arg0))) (m ((c.tc : Thread nD τ).loc main_arg22))
      ∧ r.2.mem ((c.tc : Thread nD τ).loc main_v0_28) = k0_pay23 (grad6 (m ((c.tc : Thread nD τ).loc main_arg0))) (m ((c.tc : Thread nD τ).loc main_arg23))
      ∧ r.2.mem ((c.tc : Thread nD τ).loc main_v0_29) = grad7 (m ((c.tc : Thread nD τ).loc main_arg0))
      ∧ r.2.mem ((c.tc : Thread nD τ).loc main_v0_30) = k0_pay27 (grad7 (m ((c.tc : Thread nD τ).loc main_arg0))) (m ((c.tc : Thread nD τ).loc main_arg24)) (m ((c.tc : Thread nD τ).loc main_arg25)) (m ((c.tc : Thread nD τ).loc main_arg26))
      ∧ r.2.mem ((c.tc : Thread nD τ).loc main_v0_31) = k0_pay25 (grad7 (m ((c.tc : Thread nD τ).loc main_arg0))) (m ((c.tc : Thread nD τ).loc main_arg25))
      ∧ r.2.mem ((c.tc : Thread nD τ).loc main_v0_32) = k0_pay26 (grad7 (m ((c.tc : Thread nD τ).loc main_arg0))) (m ((c.tc : Thread nD τ).loc main_arg26))
      ∧ r.2.mem ((c.tc : Thread nD τ).loc main_v0_33) = grad8 (m ((c.tc : Thread nD τ).loc main_arg2))
      ∧ r.2.mem ((c.tc : Thread nD τ).loc main_v0_34) = k0_pay31 (grad8 (m ((c.tc : Thread nD τ).loc main_arg2))) (m ((c.tc : Thread nD τ).loc main_arg27)) (m ((c.tc : Thread nD τ).loc main_arg28)) (m ((c.tc : Thread nD τ).loc main_arg29))
      ∧ r.2.mem ((c.tc : Thread nD τ).loc main_v0_35) = k0_pay29 (grad8 (m ((c.tc : Thread nD τ).loc main_arg2))) (m ((c.tc : Thread nD τ).loc main_arg28))
      ∧ r.2.mem ((c.tc : Thread nD τ).loc main_v0_36) = k0_pay30 (grad8 (m ((c.tc : Thread nD τ).loc main_arg2))) (m ((c.tc : Thread nD τ).loc main_arg29))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15))
      ∧ r.2.mem ((c.tc : Thread nD τ).loc main_arg16) = (m ((c.tc : Thread nD τ).loc main_arg16))
      ∧ r.2.mem ((c.tc : Thread nD τ).loc main_arg17) = (m ((c.tc : Thread nD τ).loc main_arg17))
      ∧ r.2.mem ((c.tc : Thread nD τ).loc main_arg18) = (m ((c.tc : Thread nD τ).loc main_arg18))
      ∧ r.2.mem ((c.tc : Thread nD τ).loc main_arg19) = (m ((c.tc : Thread nD τ).loc main_arg19))
      ∧ r.2.mem ((c.tc : Thread nD τ).loc main_arg20) = (m ((c.tc : Thread nD τ).loc main_arg20))
      ∧ r.2.mem ((c.tc : Thread nD τ).loc main_arg21) = (m ((c.tc : Thread nD τ).loc main_arg21))
      ∧ r.2.mem ((c.tc : Thread nD τ).loc main_arg22) = (m ((c.tc : Thread nD τ).loc main_arg22))
      ∧ r.2.mem ((c.tc : Thread nD τ).loc main_arg23) = (m ((c.tc : Thread nD τ).loc main_arg23))
      ∧ r.2.mem ((c.tc : Thread nD τ).loc main_arg24) = (m ((c.tc : Thread nD τ).loc main_arg24))
      ∧ r.2.mem ((c.tc : Thread nD τ).loc main_arg25) = (m ((c.tc : Thread nD τ).loc main_arg25))
      ∧ r.2.mem ((c.tc : Thread nD τ).loc main_arg26) = (m ((c.tc : Thread nD τ).loc main_arg26))
      ∧ r.2.mem ((c.tc : Thread nD τ).loc main_arg27) = (m ((c.tc : Thread nD τ).loc main_arg27))
      ∧ r.2.mem ((c.tc : Thread nD τ).loc main_arg28) = (m ((c.tc : Thread nD τ).loc main_arg28))
      ∧ r.2.mem ((c.tc : Thread nD τ).loc main_arg29) = (m ((c.tc : Thread nD τ).loc main_arg29)) :=
  (θ_run defs _ _).mono (fun r h c => ⟨((h.2 c).1 30).trans (arr30 m c),
      ((h.2 c).1 31).trans (arr31 m c),
      ((h.2 c).1 32).trans (arr32 m c),
      ((h.2 c).1 33).trans (arr33 m c),
      ((h.2 c).1 34).trans (arr34 m c),
      ((h.2 c).1 35).trans (arr35 m c),
      ((h.2 c).1 36).trans (arr36 m c),
      ((h.2 c).1 37).trans (arr37 m c),
      ((h.2 c).1 38).trans (arr38 m c),
      ((h.2 c).1 39).trans (arr39 m c),
      ((h.2 c).1 40).trans (arr40 m c),
      ((h.2 c).1 41).trans (arr41 m c),
      ((h.2 c).1 42).trans (arr42 m c),
      ((h.2 c).1 43).trans (arr43 m c),
      ((h.2 c).1 44).trans (arr44 m c),
      ((h.2 c).1 45).trans (arr45 m c),
      ((h.2 c).1 46).trans (arr46 m c),
      ((h.2 c).1 47).trans (arr47 m c),
      ((h.2 c).1 48).trans (arr48 m c),
      ((h.2 c).1 49).trans (arr49 m c),
      ((h.2 c).1 50).trans (arr50 m c),
      ((h.2 c).1 51).trans (arr51 m c),
      ((h.2 c).1 52).trans (arr52 m c),
      ((h.2 c).1 53).trans (arr53 m c),
      ((h.2 c).1 54).trans (arr54 m c),
      ((h.2 c).1 55).trans (arr55 m c),
      ((h.2 c).1 56).trans (arr56 m c),
      ((h.2 c).1 57).trans (arr57 m c),
      ((h.2 c).1 58).trans (arr58 m c),
      ((h.2 c).1 59).trans (arr59 m c),
      ((h.2 c).1 60).trans (arr60 m c),
      ((h.2 c).1 61).trans (arr61 m c),
      ((h.2 c).1 62).trans (arr62 m c),
      ((h.2 c).1 63).trans (arr63 m c),
      ((h.2 c).1 64).trans (arr64 m c),
      ((h.2 c).1 65).trans (arr65 m c),
      ((h.2 c).1 66).trans (arr66 m c),
      h.1 c⟩)
    (θ_run_and (frame_of m g (dats m) (A_eq m) (run_main m g)) (run_main m g))

theorem frame_reference : Cert.quiescent_Reference13Ideal (hReference13Ideal := Cert.Reference13Ideal.Gen.facts) := fun m g _ =>
  (θ_run _ _ _).mono (fun r h => ⟨fun c => (h c).2.2.2.2.2.2.2.2.2.2.2.2.2.2.2.2.2.2.2.2.2.2.2.2.2.2.2.2.2.2.2.2.2.2.2.2.2, sem_eq_zero_of_no_sems (by decide) r.2⟩) (reference m g)

theorem claim : Cert.algebraic_Kernel13Ideal_Reference13Ideal (hKernel13Ideal := Cert.Kernel13Ideal.Gen.facts) (hReference13Ideal := Cert.Reference13Ideal.Gen.facts) := by
  intro m g m' g' _ hag
  refine ⟨_, _, _, _, _, _, _, _, _, _, _, _, _, _, _, _, _, _, _, _, _, _, _, _, _, _, _, _, _, _, _, _, _, _, _, _, _, kernel m g, ?_⟩
  refine (θ_run _ _ _).mono (fun r h c => ?_) (reference m' g')
  have h := h c
  obtain ⟨a0, a1, a2, a3, a4, a5, a6, a7, a8, a9, a10, a11, a12, a13, a14, a15, a16, a17, a18, a19, a20, a21, a22, a23, a24, a25, a26, a27, a28, a29⟩ := hag c
  refine ⟨h.1.trans ?_, h.2.1.trans ?_, h.2.2.1.trans ?_, h.2.2.2.1.trans ?_, h.2.2.2.2.1.trans ?_, h.2.2.2.2.2.1.trans ?_, h.2.2.2.2.2.2.1.trans ?_, h.2.2.2.2.2.2.2.1.trans ?_, h.2.2.2.2.2.2.2.2.1.trans ?_, h.2.2.2.2.2.2.2.2.2.1.trans ?_, h.2.2.2.2.2.2.2.2.2.2.1.trans ?_, h.2.2.2.2.2.2.2.2.2.2.2.1.trans ?_, h.2.2.2.2.2.2.2.2.2.2.2.2.1.trans ?_, h.2.2.2.2.2.2.2.2.2.2.2.2.2.1.trans ?_, h.2.2.2.2.2.2.2.2.2.2.2.2.2.2.1.trans ?_, h.2.2.2.2.2.2.2.2.2.2.2.2.2.2.2.1.trans ?_, h.2.2.2.2.2.2.2.2.2.2.2.2.2.2.2.2.1.trans ?_, h.2.2.2.2.2.2.2.2.2.2.2.2.2.2.2.2.2.1.trans ?_, h.2.2.2.2.2.2.2.2.2.2.2.2.2.2.2.2.2.2.1.trans ?_, h.2.2.2.2.2.2.2.2.2.2.2.2.2.2.2.2.2.2.2.1.trans ?_, h.2.2.2.2.2.2.2.2.2.2.2.2.2.2.2.2.2.2.2.2.1.trans ?_, h.2.2.2.2.2.2.2.2.2.2.2.2.2.2.2.2.2.2.2.2.2.1.trans ?_, h.2.2.2.2.2.2.2.2.2.2.2.2.2.2.2.2.2.2.2.2.2.2.1.trans ?_, h.2.2.2.2.2.2.2.2.2.2.2.2.2.2.2.2.2.2.2.2.2.2.2.1.trans ?_, h.2.2.2.2.2.2.2.2.2.2.2.2.2.2.2.2.2.2.2.2.2.2.2.2.1.trans ?_, h.2.2.2.2.2.2.2.2.2.2.2.2.2.2.2.2.2.2.2.2.2.2.2.2.2.1.trans ?_, h.2.2.2.2.2.2.2.2.2.2.2.2.2.2.2.2.2.2.2.2.2.2.2.2.2.2.1.trans ?_, h.2.2.2.2.2.2.2.2.2.2.2.2.2.2.2.2.2.2.2.2.2.2.2.2.2.2.2.1.trans ?_, h.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.2.2.1.trans ?_, h.2.2.2.2.2.2.2.2.2.2.2.2.2.2.2.2.2.2.2.2.2.2.2.2.2.2.2.2.2.2.2.2.2.2.2.2.2⟩
  · rw [a0]
  · rw [a1]
  · rw [a1, a3, a4, a5]
  · rw [a1, a4]
  · rw [a1, a5]
  · rw [a1]
  · rw [a1, a6, a7, a8]
  · rw [a1, a7]
  · rw [a1, a8]
  · rw [a1]
  · rw [a1, a9, a10, a11]
  · rw [a1, a10]
  · rw [a1, a11]
  · rw [a0]
  · rw [a0, a12, a13, a14]
  · rw [a0, a13]
  · rw [a0, a14]
  · rw [a0]
  · rw [a0, a15, a16, a17]
  · rw [a0, a16]
  · rw [a0, a17]
  · rw [a0]
  · rw [a0, a18, a19, a20]
  · rw [a0, a19]
  · rw [a0, a20]
  · rw [a0]
  · rw [a0, a21, a22, a23]
  · rw [a0, a22]
  · rw [a0, a23]
  · rw [a0]
  · rw [a0, a24, a25, a26]
  · rw [a0, a25]
  · rw [a0, a26]
  · rw [a2]
  · rw [a2, a27, a28, a29]
  · rw [a2, a28]
  · rw [a2, a29]

end Cert.Kernel13Ideal.Small
end
-- ==== Proof.WgradOut.lean ====
module
public import proofs.«01_k».proof.Defs
public import proofs.«01_k».proof.Proof.Gen.Kernel14Ideal.Value
public import proofs.«01_k».proof.Proof.Gen.Reference14Ideal.Run
public import proofs.«01_k».proof.Proof.Slot
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The gradient of the output projection's weight: the accumulator gathers the four blocks of rows. -/
@[expose] public section
set_option maxRecDepth 16384
open Idealize.ShloMosaic Idealize.ShloMosaic.TcCoe Idealize.SL.Sem
open Idealize.ShloMosaic.Pipeline (Dat)
namespace Cert.Kernel14Ideal.Value
open Cert.Kernel14Ideal Cert.Kernel14Ideal.Gen
variable (m : (ℓ : Loc nD τ sig) → Buf (Elt Ideal) ℓ)

/-- One row's term of one entry, and the array of the sums. -/
noncomputable def TM (A B : Vec Ideal S4096x1024 .bf16) (j : S1024x1024.Idx) (s : Fin 4096) : EReal := A (ix2 s (j 0)) * B (ix2 s (j 1))
noncomputable def DW (A B : Vec Ideal S4096x1024 .bf16) (j : S1024x1024.Idx) : EReal := ∑ s : Fin 4096, TM A B j s

theorem zero_at (j) : k0_pay1 (F := Ideal) j = 0 := by pointwise [k0_pay1]
theorem add_at (a x y) (j : S1024x1024.Idx) : k0_pay2 (F := Ideal) a x y j = a j + ∑ k : Fin 1024, x (ix2 k (j 0)) * y (ix2 k (j 1)) := by
  pointwise [k0_pay2]
theorem cast_at (a j) : k0_pay3 (F := Ideal) a j = a j := by pointwise [k0_pay3]

theorem idx : ∀ t : Fin cfg0.N, win0_0.index t = ![t.val, 0] ∧ win0_1.index t = ![t.val, 0] ∧ win0_2.index t = ![0, 0] :=
  (by decide +kernel : ∀ t : Fin grid0.N, _)
theorem row_lt (t : Fin cfg0.N) (r : Fin 1024) : 1024 * t.val + r.val < 4096 := by
  have : t.val < 4 := lt_of_lt_of_eq t.isLt N_0
  omega
theorem three : 3 < cfg0.N := lt_of_lt_of_eq (by decide : 3 < 4) N_0.symm

theorem ab (c t) (r i : Fin 1024) : (iblk m c 0 t : Vec Ideal S1024x1024 .bf16) (ix2 r i)
    = (m ((c.tc : Thread nD τ).loc main_arg0) : Vec Ideal S4096x1024 .bf16) (ix2 ⟨1024 * t.val + r.val, row_lt t r⟩ i) := by
  blk_point [iblk, V, idx t]
theorem bb (c t) (r i : Fin 1024) : (iblk m c 1 t : Vec Ideal S1024x1024 .bf16) (ix2 r i)
    = (m ((c.tc : Thread nD τ).loc main_arg1) : Vec Ideal S4096x1024 .bf16) (ix2 ⟨1024 * t.val + r.val, row_lt t r⟩ i) := by
  blk_point [iblk, V, idx t]

/-- A point's share of one entry. -/
noncomputable def PT (c : Dev nD) (t : Fin cfg0.N) (j : S1024x1024.Idx) : EReal :=
  ∑ r : Fin 1024, TM (m ((c.tc : Thread nD τ).loc main_arg0)) (m ((c.tc : Thread nD τ).loc main_arg1)) j ⟨1024 * t.val + r.val, row_lt t r⟩

theorem add_row (c t a) (r i : Fin 1024) : k0_pay2 (F := Ideal) a (iblk m c 0 t) (iblk m c 1 t) (ix2 r i) = a (ix2 r i) + PT m c t (ix2 r i) := by
  refine (add_at _ _ _ (ix2 r i)).trans (congrArg (a (ix2 r i) + ·) (Finset.sum_congr rfl fun k _ => ?_))
  exact congrArg₂ (· * ·) (ab m c t k r) (bb m c t k i)

theorem add_point (c t a) (j : S1024x1024.Idx) : k0_pay2 (F := Ideal) a (iblk m c 0 t) (iblk m c 1 t) j = a j + PT m c t j := by
  obtain ⟨r, i, rfl⟩ : ∃ (r i : Fin 1024), j = ix2 r i := ⟨j 0, j 1, eq_ix2 j⟩
  exact add_row m c t a r i

theorem acc_A (c : Dev nD) (t : Fin cfg0.N) (h0 : t.val % 4 = 0) (h1 : ¬ t.val % 4 = 3) (j) : (outsAt0 m c t.val t.isLt).2 j = PT m c t j := by
  rw [outsAt0_A m c t h0 h1]
  frame_out
  rw [add_point, zero_at, zero_add]
theorem acc_B (c : Dev nD) (t : Fin cfg0.N) (h0 : ¬ t.val % 4 = 0) (h1 : ¬ t.val % 4 = 3) (j) : (outsAt0 m c t.val t.isLt).2 j
    = (outsAt0 m c (t.val - 1) (Nat.lt_of_le_of_lt (Nat.sub_le _ _) t.isLt)).2 j + PT m c t j := by
  rw [outsAt0_B m c t h0 h1]
  frame_out
  rw [add_point, read_unread_whole]
theorem acc_C (c : Dev nD) (t : Fin cfg0.N) (h0 : ¬ t.val % 4 = 0) (h1 : t.val % 4 = 3) (j) : (outsAt0 m c t.val t.isLt).2 j
    = (outsAt0 m c (t.val - 1) (Nat.lt_of_le_of_lt (Nat.sub_le _ _) t.isLt)).2 j + PT m c t j := by
  rw [outsAt0_C m c t h0 h1]
  frame_out
  rw [add_point, read_unread_whole]
theorem out_C (c : Dev nD) (t : Fin cfg0.N) (h0 : ¬ t.val % 4 = 0) (h1 : t.val % 4 = 3) (j) : (outsAt0 m c t.val t.isLt).1 j = (outsAt0 m c t.val t.isLt).2 j := by
  rw [outsAt0_C m c t h0 h1]
  frame_out
  rw [cast_at]

theorem acc (c : Dev nD) (j : S1024x1024.Idx) : (outsAt0 m c 3 three).2 j = DW (m ((c.tc : Thread nD τ).loc main_arg0)) (m ((c.tc : Thread nD τ).loc main_arg1)) j := by
  refine Cert.Slot.total 1024 4096 (TM (m ((c.tc : Thread nD τ).loc main_arg0)) (m ((c.tc : Thread nD τ).loc main_arg1)) j) (fun n h => (outsAt0 m c n h).2 j)
    (fun k h r => row_lt ⟨k, h⟩ r) (fun h => ?_) (fun k h hk => ?_) 3 three rfl
  · exact acc_A m c ⟨0, h⟩ rfl (by show ¬ 0 % 4 = 3; decide) j
  · have : k < 4 := lt_of_lt_of_eq h N_0
    by_cases h3 : k % 4 = 3
    · exact acc_C m c ⟨k, h⟩ (by show ¬ k % 4 = 0; omega) h3 j
    · exact acc_B m c ⟨k, h⟩ (by show ¬ k % 4 = 0; omega) h3 j

theorem arr (c : Dev nD) : (dats m 0 c).arrAt 2 cfg0.N = DW (m ((c.tc : Thread nD τ).loc main_arg0)) (m ((c.tc : Thread nD τ).loc main_arg1)) := by
  refine (dats m 0 c).arrAt_eq_of_after_last 2 t0_3 (by decide +kernel) _ fun j => ?_
  blk_simp
  rw [after0_2]
  exact (out_C m c t0_3 (by decide) (by decide) j).trans (acc m c j)
end Cert.Kernel14Ideal.Value

section
open Cert.Kernel14Ideal
theorem Cert.Kernel14Ideal.Value.claim : Cert.algebraic_Kernel14Ideal_Reference14Ideal (hKernel14Ideal := Cert.Kernel14Ideal.Gen.facts)
    (hReference14Ideal := Cert.Reference14Ideal.Gen.facts) := by
  intro m g m' g' _ hag
  refine ⟨fun c => Value.DW (m ((c.tc : Thread nD τ).loc main_arg0)) (m ((c.tc : Thread nD τ).loc main_arg1)), ?_, ?_⟩
  · exact (θ_run _ _ _).mono (fun r h c => ⟨(h c).1.trans (Value.arr m c), (h c).2⟩) (Value.run_blocks m g)
  · refine (θ_run _ _ _).mono (fun r h c => ⟨(h c).1.trans ?_, (h c).2⟩) (Cert.Reference14Ideal.Value.run m' g')
    obtain ⟨h0, h1⟩ := hag c
    simp only [h0, h1]
    funext j
    obtain ⟨r, i, rfl⟩ : ∃ (r : Fin 1024) (i : Fin 1024), j = ix2 r i := ⟨j 0, j 1, eq_ix2 j⟩
    pointwise
    exact Finset.sum_congr rfl fun s _ => mul_comm (_ : EReal) _
end

theorem Cert.Reference14Ideal.Value.frame : Cert.quiescent_Reference14Ideal (hReference14Ideal := Cert.Reference14Ideal.Gen.facts) := fun m g _ =>
  (θ_run _ _ _).mono (fun r h => ⟨fun c => (h c).2, sem_eq_zero_of_no_sems (by decide) r.2⟩) (Cert.Reference14Ideal.Value.run m g)
-- ==== Proof.WgradXo.lean ====
module
public import proofs.«01_k».proof.Defs
public import proofs.«01_k».proof.Proof.Gen.Kernel15Ideal.Value
public import proofs.«01_k».proof.Proof.Gen.Reference15Ideal.Run
public import proofs.«01_k».proof.Proof.Slot
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The gradient of the cross-attention's output projection's weight: the accumulator gathers the four blocks of rows. -/
@[expose] public section
set_option maxRecDepth 16384
open Idealize.ShloMosaic Idealize.ShloMosaic.TcCoe Idealize.SL.Sem
open Idealize.ShloMosaic.Pipeline (Dat)
namespace Cert.Kernel15Ideal.Value
open Cert.Kernel15Ideal Cert.Kernel15Ideal.Gen
variable (m : (ℓ : Loc nD τ sig) → Buf (Elt Ideal) ℓ)

/-- One row's term of one entry, and the array of the sums. -/
noncomputable def TM (A : Vec Ideal S4096x1024 .f32) (B : Vec Ideal S4096x1024 .bf16) (j : S1024x1024.Idx) (s : Fin 4096) : EReal := A (ix2 s (j 0)) * B (ix2 s (j 1))
noncomputable def DW (A : Vec Ideal S4096x1024 .f32) (B : Vec Ideal S4096x1024 .bf16) (j : S1024x1024.Idx) : EReal := ∑ s : Fin 4096, TM A B j s

theorem zero_at (j) : k0_pay1 (F := Ideal) j = 0 := by pointwise [k0_pay1]
theorem add_at (a x y) (j : S1024x1024.Idx) : k0_pay2 (F := Ideal) a x y j = a j + ∑ k : Fin 1024, x (ix2 k (j 0)) * y (ix2 k (j 1)) := by
  pointwise [k0_pay2]
theorem cast_at (a j) : k0_pay3 (F := Ideal) a j = a j := by pointwise [k0_pay3]

theorem idx : ∀ t : Fin cfg0.N, win0_0.index t = ![t.val, 0] ∧ win0_1.index t = ![t.val, 0] ∧ win0_2.index t = ![0, 0] :=
  (by decide +kernel : ∀ t : Fin grid0.N, _)
theorem row_lt (t : Fin cfg0.N) (r : Fin 1024) : 1024 * t.val + r.val < 4096 := by
  have : t.val < 4 := lt_of_lt_of_eq t.isLt N_0
  omega
theorem three : 3 < cfg0.N := lt_of_lt_of_eq (by decide : 3 < 4) N_0.symm

theorem ab (c t) (r i : Fin 1024) : (iblk m c 0 t : Vec Ideal S1024x1024 .f32) (ix2 r i)
    = (m ((c.tc : Thread nD τ).loc main_arg0) : Vec Ideal S4096x1024 .f32) (ix2 ⟨1024 * t.val + r.val, row_lt t r⟩ i) := by
  blk_point [iblk, V, idx t]
theorem bb (c t) (r i : Fin 1024) : (iblk m c 1 t : Vec Ideal S1024x1024 .bf16) (ix2 r i)
    = (m ((c.tc : Thread nD τ).loc main_arg1) : Vec Ideal S4096x1024 .bf16) (ix2 ⟨1024 * t.val + r.val, row_lt t r⟩ i) := by
  blk_point [iblk, V, idx t]

/-- A point's share of one entry. -/
noncomputable def PT (c : Dev nD) (t : Fin cfg0.N) (j : S1024x1024.Idx) : EReal :=
  ∑ r : Fin 1024, TM (m ((c.tc : Thread nD τ).loc main_arg0)) (m ((c.tc : Thread nD τ).loc main_arg1)) j ⟨1024 * t.val + r.val, row_lt t r⟩

theorem add_row (c t a) (r i : Fin 1024) : k0_pay2 (F := Ideal) a (iblk m c 0 t) (iblk m c 1 t) (ix2 r i) = a (ix2 r i) + PT m c t (ix2 r i) := by
  refine (add_at _ _ _ (ix2 r i)).trans (congrArg (a (ix2 r i) + ·) (Finset.sum_congr rfl fun k _ => ?_))
  exact congrArg₂ (· * ·) (ab m c t k r) (bb m c t k i)

theorem add_point (c t a) (j : S1024x1024.Idx) : k0_pay2 (F := Ideal) a (iblk m c 0 t) (iblk m c 1 t) j = a j + PT m c t j := by
  obtain ⟨r, i, rfl⟩ : ∃ (r i : Fin 1024), j = ix2 r i := ⟨j 0, j 1, eq_ix2 j⟩
  exact add_row m c t a r i

theorem acc_A (c : Dev nD) (t : Fin cfg0.N) (h0 : t.val % 4 = 0) (h1 : ¬ t.val % 4 = 3) (j) : (outsAt0 m c t.val t.isLt).2 j = PT m c t j := by
  rw [outsAt0_A m c t h0 h1]
  frame_out
  rw [add_point, zero_at, zero_add]
theorem acc_B (c : Dev nD) (t : Fin cfg0.N) (h0 : ¬ t.val % 4 = 0) (h1 : ¬ t.val % 4 = 3) (j) : (outsAt0 m c t.val t.isLt).2 j
    = (outsAt0 m c (t.val - 1) (Nat.lt_of_le_of_lt (Nat.sub_le _ _) t.isLt)).2 j + PT m c t j := by
  rw [outsAt0_B m c t h0 h1]
  frame_out
  rw [add_point, read_unread_whole]
theorem acc_C (c : Dev nD) (t : Fin cfg0.N) (h0 : ¬ t.val % 4 = 0) (h1 : t.val % 4 = 3) (j) : (outsAt0 m c t.val t.isLt).2 j
    = (outsAt0 m c (t.val - 1) (Nat.lt_of_le_of_lt (Nat.sub_le _ _) t.isLt)).2 j + PT m c t j := by
  rw [outsAt0_C m c t h0 h1]
  frame_out
  rw [add_point, read_unread_whole]
theorem out_C (c : Dev nD) (t : Fin cfg0.N) (h0 : ¬ t.val % 4 = 0) (h1 : t.val % 4 = 3) (j) : (outsAt0 m c t.val t.isLt).1 j = (outsAt0 m c t.val t.isLt).2 j := by
  rw [outsAt0_C m c t h0 h1]
  frame_out
  rw [cast_at]

theorem acc (c : Dev nD) (j : S1024x1024.Idx) : (outsAt0 m c 3 three).2 j = DW (m ((c.tc : Thread nD τ).loc main_arg0)) (m ((c.tc : Thread nD τ).loc main_arg1)) j := by
  refine Cert.Slot.total 1024 4096 (TM (m ((c.tc : Thread nD τ).loc main_arg0)) (m ((c.tc : Thread nD τ).loc main_arg1)) j) (fun n h => (outsAt0 m c n h).2 j)
    (fun k h r => row_lt ⟨k, h⟩ r) (fun h => ?_) (fun k h hk => ?_) 3 three rfl
  · exact acc_A m c ⟨0, h⟩ rfl (by show ¬ 0 % 4 = 3; decide) j
  · have : k < 4 := lt_of_lt_of_eq h N_0
    by_cases h3 : k % 4 = 3
    · exact acc_C m c ⟨k, h⟩ (by show ¬ k % 4 = 0; omega) h3 j
    · exact acc_B m c ⟨k, h⟩ (by show ¬ k % 4 = 0; omega) h3 j

theorem arr (c : Dev nD) : (dats m 0 c).arrAt 2 cfg0.N = DW (m ((c.tc : Thread nD τ).loc main_arg0)) (m ((c.tc : Thread nD τ).loc main_arg1)) := by
  refine (dats m 0 c).arrAt_eq_of_after_last 2 t0_3 (by decide +kernel) _ fun j => ?_
  blk_simp
  rw [after0_2]
  exact (out_C m c t0_3 (by decide) (by decide) j).trans (acc m c j)
end Cert.Kernel15Ideal.Value

section
open Cert.Kernel15Ideal
theorem Cert.Kernel15Ideal.Value.claim : Cert.algebraic_Kernel15Ideal_Reference15Ideal (hKernel15Ideal := Cert.Kernel15Ideal.Gen.facts)
    (hReference15Ideal := Cert.Reference15Ideal.Gen.facts) := by
  intro m g m' g' _ hag
  refine ⟨fun c => Value.DW (m ((c.tc : Thread nD τ).loc main_arg0)) (m ((c.tc : Thread nD τ).loc main_arg1)), ?_, ?_⟩
  · exact (θ_run _ _ _).mono (fun r h c => ⟨(h c).1.trans (Value.arr m c), (h c).2⟩) (Value.run_blocks m g)
  · refine (θ_run _ _ _).mono (fun r h c => ⟨(h c).1.trans ?_, (h c).2⟩) (Cert.Reference15Ideal.Value.run m' g')
    obtain ⟨h0, h1⟩ := hag c
    simp only [h0, h1]
    funext j
    obtain ⟨r, i, rfl⟩ : ∃ (r : Fin 1024) (i : Fin 1024), j = ix2 r i := ⟨j 0, j 1, eq_ix2 j⟩
    pointwise
    rfl
end

theorem Cert.Reference15Ideal.Value.frame : Cert.quiescent_Reference15Ideal (hReference15Ideal := Cert.Reference15Ideal.Gen.facts) := fun m g _ =>
  (θ_run _ _ _).mono (fun r h => ⟨fun c => (h c).2, sem_eq_zero_of_no_sems (by decide) r.2⟩) (Cert.Reference15Ideal.Value.run m g)
-- ==== Proof.InProj.lean ====
module
public import proofs.«01_k».proof.Defs
public import proofs.«01_k».proof.Proof.Gen.Kernel16Ideal.Value
public import proofs.«01_k».proof.Proof.Gen.Reference16Ideal.Run
public import proofs.«01_k».proof.Proof.Rms
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The norm before the recurrence and the input projection, block by block of rows. -/
@[expose] public section
set_option maxRecDepth 16384
open Idealize.ShloMosaic Idealize.ShloMosaic.TcCoe Idealize.SL.Sem
open Idealize.ShloMosaic.Pipeline (Dat)
namespace Cert.Kernel16Ideal.Value
open Cert.Kernel16Ideal Cert.Kernel16Ideal.Gen
variable (m : (ℓ : Loc nD τ sig) → Buf (Elt Ideal) ℓ)

/-- One entry of the normalised rows, and the two arrays. -/
noncomputable def NR {n : ℕ} (X : Vec Ideal ⟨2, ![n, 1024]⟩ .f32) (G : Vec Ideal S1x1024 .f32) (r : Fin n) (i : Fin 1024) : EReal :=
  X (ix2 r i) * Cert.Rms.rs (fun k => X (ix2 r k)) * G (ix2 0 i)
noncomputable def HA (X : Vec Ideal S4096x1024 .f32) (G : Vec Ideal S1x1024 .f32) (j : S4096x1024.Idx) : EReal := NR X G (j 0) (j 1)
noncomputable def ZA (X : Vec Ideal S4096x1024 .f32) (G : Vec Ideal S1x1024 .f32) (W : Vec Ideal S1024x2560 .f32) (j : S4096x2560.Idx) : EReal :=
  ∑ k : Fin 1024, NR X G (j 0) k * W (ix2 k (j 1))

theorem h_pay (x : Vec Ideal S512x1024 .f32) (g : Vec Ideal S1x1024 .f32) (r : Fin 512) (i : Fin 1024) : k0_pay1 (F := Ideal) x g (ix2 r i) = NR x g r i := by
  pointwise [k0_pay1]; rfl
theorem z_pay (x : Vec Ideal S512x1024 .f32) (g : Vec Ideal S1x1024 .f32) (w : Vec Ideal S2560x1024 .bf16) (r : Fin 512) (i : Fin 2560) :
    k0_pay2 (F := Ideal) x g w (ix2 r i) = ∑ k : Fin 1024, NR x g r k * w (ix2 i k) := by
  pointwise [k0_pay2, k0_pay1]; rfl

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem row_lt (t : Fin cfg0.N) (r : Fin 512) : 512 * t.val + r.val < 4096 := by
  have : t.val < 8 := lt_of_lt_of_eq t.isLt N_0
  omega

theorem xb (c t) (r : Fin 512) (i : Fin 1024) : (iblk m c 0 t : Vec Ideal S512x1024 .f32) (ix2 r i)
    = (m ((c.tc : Thread nD τ).loc main_arg0) : Vec Ideal S4096x1024 .f32) (ix2 ⟨512 * t.val + r.val, row_lt t r⟩ i) := by
  blk_point [iblk, V, idx t]
theorem gb (c t) (r : Fin 1) (i : Fin 1024) : (iblk m c 1 t : Vec Ideal S1x1024 .f32) (ix2 r i)
    = (m ((c.tc : Thread nD τ).loc main_arg1) : Vec Ideal S1x1024 .f32) (ix2 r i) := by
  blk_point [iblk, V, idx t]
theorem wb (c t) (r : Fin 2560) (i : Fin 1024) : (iblk m c 2 t : Vec Ideal S2560x1024 .bf16) (ix2 r i)
    = (m ((c.tc : Thread nD τ).loc main_arg2) : Vec Ideal S1024x2560 .f32) (ix2 i r) := by
  blk_point [iblk, V, idx t]

theorem nr (c t) (r : Fin 512) (i : Fin 1024) : NR (iblk m c 0 t : Vec Ideal S512x1024 .f32) (iblk m c 1 t : Vec Ideal S1x1024 .f32) r i
    = NR (m ((c.tc : Thread nD τ).loc main_arg0) : Vec Ideal S4096x1024 .f32) (m ((c.tc : Thread nD τ).loc main_arg1)) ⟨512 * t.val + r.val, row_lt t r⟩ i := by
  unfold NR
  simp only [xb, gb]

theorem arr3 (c : Dev nD) : (dats m 0 c).arrAt 3 cfg0.N = ZA (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨r, i, rfl⟩ : ∃ (r : Fin 512) (i : Fin 2560), y = ix2 r i := ⟨y 0, y 1, eq_ix2 y⟩
  have e : ((win0_3.blk t).view.emb (ix2 r i) : S4096x2560.Idx) = ix2 ⟨512 * t.val + r.val, row_lt t r⟩ i := by blk_ext [idx t]
  rw [e]
  frame_out
  refine (z_pay _ _ _ r i).trans ?_
  simp only [nr, wb]
  rfl
theorem arr4 (c : Dev nD) : (dats m 0 c).arrAt 4 cfg0.N = HA (m ((c.tc : Thread nD τ).loc main_arg0)) (m ((c.tc : Thread nD τ).loc main_arg1)) := by
  refine (dats m 0 c).arrAt_eq_of_covers 4 _ (by decide +kernel) fun t hf y => ?_
  blk_simp
  rw [after0_4]
  obtain ⟨r, i, rfl⟩ : ∃ (r : Fin 512) (i : Fin 1024), y = ix2 r i := ⟨y 0, y 1, eq_ix2 y⟩
  have e : ((win0_4.blk t).view.emb (ix2 r i) : S4096x1024.Idx) = ix2 ⟨512 * t.val + r.val, row_lt t r⟩ i := by blk_ext [idx t]
  rw [e]
  frame_out
  exact (h_pay _ _ r i).trans (nr m c t r i)
end Cert.Kernel16Ideal.Value

section
open Cert.Kernel16Ideal
theorem Cert.Kernel16Ideal.Value.claim : Cert.algebraic_Kernel16Ideal_Reference16Ideal (hKernel16Ideal := Cert.Kernel16Ideal.Gen.facts)
    (hReference16Ideal := Cert.Reference16Ideal.Gen.facts) := by
  intro m g m' g' _ hag
  refine ⟨fun c => Value.ZA (m ((c.tc : Thread nD τ).loc main_arg0)) (m ((c.tc : Thread nD τ).loc main_arg1)) (m ((c.tc : Thread nD τ).loc main_arg2)),
    fun c => Value.HA (m ((c.tc : Thread nD τ).loc main_arg0)) (m ((c.tc : Thread nD τ).loc main_arg1)), ?_, ?_⟩
  · exact (θ_run _ _ _).mono (fun r h c => ⟨(h c).1.trans (Value.arr3 m c), (h c).2.1.trans (Value.arr4 m c), (h c).2.2⟩) (Value.run_blocks m g)
  · refine (θ_run _ _ _).mono (fun r h c => ⟨(h c).1.trans ?_, (h c).2.1.trans ?_, (h c).2.2⟩) (Cert.Reference16Ideal.Value.run m' g')
    · obtain ⟨h0, h1, h2⟩ := hag c
      simp only [h0, h1, h2]
      funext j
      obtain ⟨r, i, rfl⟩ : ∃ (r : Fin 4096) (i : Fin 2560), j = ix2 r i := ⟨j 0, j 1, eq_ix2 j⟩
      pointwise
      rfl
    · obtain ⟨h0, h1, h2⟩ := hag c
      simp only [h0, h1, h2]
      funext j
      obtain ⟨r, i, rfl⟩ : ∃ (r : Fin 4096) (i : Fin 1024), j = ix2 r i := ⟨j 0, j 1, eq_ix2 j⟩
      pointwise
      rfl
end

theorem Cert.Reference16Ideal.Value.frame : Cert.quiescent_Reference16Ideal (hReference16Ideal := Cert.Reference16Ideal.Gen.facts) := fun m g _ =>
  (θ_run _ _ _).mono (fun r h => ⟨fun c => (h c).2.2, sem_eq_zero_of_no_sems (by decide) r.2⟩) (Cert.Reference16Ideal.Value.run m g)
-- ==== Proof.MlpFwd.lean ====
module
public import proofs.«01_k».proof.Proof.Gen.Kernel17Ideal.Value
public import proofs.«01_k».proof.Proof.Slot
public import proofs.«01_k».proof.Proof.Cols
public import proofs.«01_k».proof.Proof.Rms
public import Idealize.ShloMosaic.Lib.Pipeline.ValueKit
public import Idealize.ShloMosaic.Lib.Pointwise
public import Idealize.ShloMosaic.Lib.Pipeline.ReadBack
public import Idealize.ShloMosaic.Lib.Tactic.WordOmega
/-! The squared-ReLU MLP and the loss head behind it: what one grid point of the call computes from its blocks. -/
@[expose] public section
set_option maxRecDepth 16384
open Idealize.ShloMosaic Idealize.ShloMosaic.TcCoe Idealize.SL.Sem
open Idealize.ShloMosaic.Pipeline (Dat)
namespace Cert.Kernel17Ideal.Value
open Cert.Kernel17Ideal Cert.Kernel17Ideal.Gen
open Cert.Cols (col)

section
variable (X : Vec Ideal S512x1024 .f32) (G : Vec Ideal S1x1024 .f32) (W1 : Vec Ideal S8x1024x512 .bf16) (W2 : Vec Ideal S4096x1024 .bf16)

/-- The normalised row; the pre-activation and the activation in block `q` of the columns. -/
noncomputable def hb (r : Fin 512) (d : Fin 1024) : EReal := X (ix2 r d) * Cert.Rms.rs (fun k => X (ix2 r k)) * G (ix2 0 d)
noncomputable def pb (r : Fin 512) (q : Fin 8) (k : Fin 512) : EReal := ∑ d : Fin 1024, hb X G r d * W1 (ix3 q d k)
noncomputable def ub (r : Fin 512) (q : Fin 8) (k : Fin 512) : EReal := max (pb X G W1 r q k) 0 * max (pb X G W1 r q k) 0

noncomputable abbrev l2 (q : ℕ) (h : ∀ i, ![q, 0, 0] i + ![1, 1024, 512] i ≤ S8x1024x512.size i) := View.ld W1 (Rect.unit ![q, 0, 0] ![1, 1024, 512] h)

noncomputable def u0 := k0_pay5 (F := Ideal) X G (l2 W1 0 inb_S8x1024x512_S1x1024x512_0_0_0)
noncomputable def u1 := k0_pay7 (F := Ideal) (k0_pay6 X G (l2 W1 1 inb_S8x1024x512_S1x1024x512_1_0_0))
noncomputable def u2 := k0_pay8 (F := Ideal) (k0_pay4 X G) (l2 W1 2 inb_S8x1024x512_S1x1024x512_2_0_0)
noncomputable def u3 := k0_pay9 (F := Ideal) (k0_pay4 X G) (l2 W1 3 inb_S8x1024x512_S1x1024x512_3_0_0)
noncomputable def u4 := k0_pay11 (F := Ideal) (k0_pay4 X G) (l2 W1 4 inb_S8x1024x512_S1x1024x512_4_0_0)
noncomputable def u5 := k0_pay12 (F := Ideal) (k0_pay10 (k0_pay4 X G) (l2 W1 5 inb_S8x1024x512_S1x1024x512_5_0_0))
noncomputable def u6 := k0_pay13 (F := Ideal) (k0_pay4 X G) (l2 W1 6 inb_S8x1024x512_S1x1024x512_6_0_0)
noncomputable def u7 := k0_pay14 (F := Ideal) (k0_pay4 X G) (l2 W1 7 inb_S8x1024x512_S1x1024x512_7_0_0)

theorem h_pay (r : Fin 512) (d : Fin 1024) : k0_pay4 (F := Ideal) X G (ix2 r d) = hb X G r d := by
  pointwise [k0_pay4]
  rfl

/-- The eight blocks of the activation. -/
theorem u_pay (r : Fin 512) (q : Fin 8) (k : Fin 512) :
    (![u0 X G W1, u1 X G W1, u2 X G W1, u3 X G W1, u4 X G W1, u5 X G W1, u6 X G W1, u7 X G W1] q : Vec Ideal S512x512 .bf16) (ix2 r k) = ub X G W1 r q k := by
  fin_cases q
  · show u0 X G W1 (ix2 r k) = _
    unfold u0 l2
    pointwise [k0_pay5, k0_pay4]
    rfl
  · show u1 X G W1 (ix2 r k) = _
    unfold u1 l2
    pointwise [k0_pay7, k0_pay6, k0_pay4]
    rfl
  · show u2 X G W1 (ix2 r k) = _
    unfold u2 l2
    pointwise [k0_pay8, k0_pay4]
    rfl
  · show u3 X G W1 (ix2 r k) = _
    unfold u3 l2
    pointwise [k0_pay9, k0_pay4]
    rfl
  · show u4 X G W1 (ix2 r k) = _
    unfold u4 l2
    pointwise [k0_pay11, k0_pay4]
    rfl
  · show u5 X G W1 (ix2 r k) = _
    unfold u5 l2
    pointwise [k0_pay12, k0_pay10, k0_pay4]
    rfl
  · show u6 X G W1 (ix2 r k) = _
    unfold u6 l2
    pointwise [k0_pay13, k0_pay4]
    rfl
  · show u7 X G W1 (ix2 r k) = _
    unfold u7 l2
    pointwise [k0_pay14, k0_pay4]
    rfl
end

/-- The second product's rows, the residual added. -/
theorem a_pay (X : Vec Ideal S512x1024 .f32) (U : Vec Ideal S512x4096 .bf16) (W2 : Vec Ideal S4096x1024 .bf16) (r : Fin 512) (i : Fin 1024) :
    k0_pay15 (F := Ideal) X U W2 (ix2 r i) = X (ix2 r i) + ∑ f : Fin 4096, U (ix2 r f) * W2 (ix2 f i) := by
  pointwise [k0_pay15]

/-- The rows' sums of squares, as a column. -/
noncomputable def sq (A : FVec Ideal S512x1024 .f32) : FVec Ideal S512x1 .f32 := fun j => ∑ k : Fin 1024, A (ix2 (j 0) k) * A (ix2 (j 0) k)
theorem sq_pay (X : Vec Ideal S512x1024 .f32) (U : Vec Ideal S512x4096 .bf16) (W2 : Vec Ideal S4096x1024 .bf16) : k0_pay16 (F := Ideal) X U W2 = sq (k0_pay15 (F := Ideal) X U W2) := by
  funext j
  obtain ⟨r, i, rfl⟩ : ∃ (r : Fin 512) (i : Fin 1), j = ix2 r i := ⟨j 0, j 1, eq_ix2 j⟩
  unfold k0_pay16
  generalize k0_pay15 (F := Ideal) X U W2 = A
  pointwise
  rfl

/-! The loss head on rows `a`: the error, its mean square, the gradient of the head's output and of the normalised row. -/
noncomputable def err (a g t : Fin 1024 → EReal) (i : Fin 1024) : EReal := a i * Cert.Rms.rs a * g i - t i
noncomputable def mse (a g t : Fin 1024 → EReal) : EReal := Ideal.div (∑ k, err a g t k * err a g t k) Cert.Rms.C
noncomputable def dy (a g t : Fin 1024 → EReal) (i : Fin 1024) : EReal := err a g t i * Ideal.ofBits FTy.f32 0x3A800000#32
noncomputable def dn (a g t : Fin 1024 → EReal) (i : Fin 1024) : EReal := dy a g t i * g i

section
variable (A : FVec Ideal S512x1024 .f32) (G : Vec Ideal S1x1024 .f32) (T : Vec Ideal S512x1024 .f32) (v : Vec Ideal S1x1024 .f32)
noncomputable abbrev ar (r : Fin 512) : Fin 1024 → EReal := fun k => A (ix2 r k)
noncomputable abbrev gr : Fin 1024 → EReal := fun k => G (ix2 0 k)
theorem dx_pay (r : Fin 512) (i : Fin 1024) :
    k0_pay1 (F := Ideal) (k0_pay17 (sq A) (FloatOps.ofBits FTy.f32 1149239296#32)) (k0_pay18 A (sq A) (FloatOps.ofBits FTy.f32 1149239296#32))
      (k0_pay23 A G (sq A) (FloatOps.ofBits FTy.f32 1149239296#32) T) (k0_pay24 A G (sq A) (FloatOps.ofBits FTy.f32 1149239296#32) T) (FloatOps.ofBits FTy.f32 1149239296#32) (ix2 r i)
      = Cert.Rms.bwdK (ar A r) (dn (ar A r) (gr G) (ar T r)) i := by
  pointwise [k0_pay1, k0_pay17, k0_pay18, k0_pay23, k0_pay24, k0_pay21, k0_pay19, sq]
  rfl
theorem dg_pay (i : Fin 1024) : k0_pay22 (F := Ideal) A G (sq A) (FloatOps.ofBits FTy.f32 1149239296#32) T v (ix2 0 i)
    = v (ix2 0 i) + ∑ r : Fin 512, dy (ar A r) (gr G) (ar T r) i * (A (ix2 r i) * Cert.Rms.rs (ar A r)) := by
  pointwise [k0_pay22, k0_pay21, k0_pay19, k0_pay18, k0_pay17, sq]
  rfl
theorem loss_pay (i : Fin 1024) : k0_pay20 (F := Ideal) A G (sq A) (FloatOps.ofBits FTy.f32 1149239296#32) T v (ix2 0 i)
    = v (ix2 0 i) + (∑ r : Fin 512, mse (ar A r) (gr G) (ar T r)) * Ideal.ofBits FTy.f32 0x3F000000#32 := by
  pointwise [k0_pay20, k0_pay19, k0_pay18, k0_pay17, sq]
  rfl
end
theorem zero_pay (j) : k0_pay3 (F := Ideal) j = 0 := by pointwise [k0_pay3]
end Cert.Kernel17Ideal.Value
-- ==== Proof.MlpFwdArr.lean ====
module
public import proofs.«01_k».proof.Proof.Gen.Kernel17Ideal.Value
public import proofs.«01_k».proof.Proof.MlpFwd
public import Idealize.ShloMosaic.Lib.Pipeline.ValueKit
public import Idealize.ShloMosaic.Lib.Pointwise
public import Idealize.ShloMosaic.Lib.Pipeline.ReadBack
public import Idealize.ShloMosaic.Lib.Tactic.WordOmega
/-! The squared-ReLU MLP and the loss head behind it: the call's arrays as functions of its arguments. -/
@[expose] public section
set_option maxRecDepth 16384
open Idealize.ShloMosaic Idealize.ShloMosaic.TcCoe Idealize.SL.Sem
open Idealize.ShloMosaic.Pipeline (Dat)
namespace Cert.Kernel17Ideal.Value
open Cert.Kernel17Ideal Cert.Kernel17Ideal.Gen
open Cert.Cols (col)
variable (m : (ℓ : Loc nD τ sig) → Buf (Elt Ideal) ℓ)

section
variable (X : Vec Ideal S4096x1024 .f32) (G : Vec Ideal S1x1024 .f32) (W1 : Vec Ideal S1024x4096 .f32) (W2 : Vec Ideal S4096x1024 .f32)
  (GF : Vec Ideal S1x1024 .f32) (T : Vec Ideal S4096x1024 .f32)
/-- The normalised rows, the pre-activation, the activation: the square of its positive part. -/
noncomputable def HF (s : Fin 4096) (d : Fin 1024) : EReal := X (ix2 s d) * Cert.Rms.rs (fun k => X (ix2 s k)) * G (ix2 0 d)
noncomputable def PA (s : Fin 4096) (f : Fin 4096) : EReal := ∑ d : Fin 1024, HF X G s d * W1 (ix2 d f)
noncomputable def UU (s : Fin 4096) (f : Fin 4096) : EReal := max (PA X G W1 s f) 0 * max (PA X G W1 s f) 0
/-- The rows the loss head takes: the input and the second product. -/
noncomputable def AA (s : Fin 4096) (i : Fin 1024) : EReal := X (ix2 s i) + ∑ f : Fin 4096, UU X G W1 s f * W2 (ix2 f i)
/-- The gradient of the head's input; one row's term of the gradient of the head's gain, and of the loss. `a` are the head's rows. -/
noncomputable def DX (a : Fin 4096 → Fin 1024 → EReal) (s : Fin 4096) (i : Fin 1024) : EReal := Cert.Rms.bwdK (a s) (dn (a s) (fun k => GF (ix2 0 k)) fun k => T (ix2 s k)) i
noncomputable def DGT (a : Fin 4096 → Fin 1024 → EReal) (i : Fin 1024) (s : Fin 4096) : EReal := dy (a s) (fun k => GF (ix2 0 k)) (fun k => T (ix2 s k)) i * (a s i * Cert.Rms.rs (a s))
noncomputable def LT (a : Fin 4096 → Fin 1024 → EReal) (s : Fin 4096) : EReal := mse (a s) (fun k => GF (ix2 0 k)) (fun k => T (ix2 s k)) * Ideal.ofBits FTy.f32 0x3F000000#32
/-- One row's term of the slot: the gain's gradient in the first row, the loss in every place of the second, zeros below. -/
noncomputable def STm (a : Fin 4096 → Fin 1024 → EReal) (j : S8x1024.Idx) (s : Fin 4096) : EReal :=
  if (j 0 : ℕ) = 0 then DGT GF T a (j 1) s else if (j 0 : ℕ) = 1 then LT GF T a s else 0
end

/-- A half goes into a sum. -/
theorem half_sum {n : ℕ} (f : Fin n → EReal) : (∑ r, f r) * Ideal.ofBits FTy.f32 0x3F000000#32 = ∑ r, f r * Ideal.ofBits FTy.f32 0x3F000000#32 := by
  have e : Ideal.ofBits FTy.f32 0x3F000000#32 = ((1 / 2 : ℝ) : EReal) := by
    simp [Ideal.ofBits, Ideal.ieee, -EReal.coe_mul]; norm_num
  rw [e]
  have h0 : (0 : EReal) ≤ ((1 / 2 : ℝ) : EReal) := by exact_mod_cast (by norm_num : (0 : ℝ) ≤ 1 / 2)
  generalize (Finset.univ : Finset (Fin n)) = S
  classical
  induction S using Finset.induction_on with
  | empty => simp
  | insert a S ha ih => rw [Finset.sum_insert ha, Finset.sum_insert ha, ← ih, EReal.right_distrib_of_nonneg_of_ne_top h0 (EReal.coe_ne_top _)]

theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

noncomputable def XB (c : Dev nD) (t : Fin cfg0.N) : Vec Ideal S512x1024 .f32 := iblk m c 0 t
noncomputable def GB (c : Dev nD) (t : Fin cfg0.N) : Vec Ideal S1x1024 .f32 := iblk m c 1 t
noncomputable def W1B (c : Dev nD) (t : Fin cfg0.N) : Vec Ideal S8x1024x512 .bf16 := iblk m c 2 t
noncomputable def W2B (c : Dev nD) (t : Fin cfg0.N) : Vec Ideal S4096x1024 .bf16 := iblk m c 3 t
noncomputable def GFB (c : Dev nD) (t : Fin cfg0.N) : Vec Ideal S1x1024 .f32 := iblk m c 4 t
noncomputable def TB (c : Dev nD) (t : Fin cfg0.N) : Vec Ideal S512x1024 .f32 := iblk m c 5 t

theorem row_lt (t : Fin cfg0.N) (r : Fin 512) : 512 * t.val + r.val < 4096 := by
  have : t.val < 8 := lt_of_lt_of_eq t.isLt N_0
  omega
/-- The row of the arrays that the row `r` of a point's block is. -/
abbrev row (t : Fin cfg0.N) (r : Fin 512) : Fin 4096 := ⟨512 * t.val + r.val, row_lt t r⟩

noncomputable abbrev mX (c : Dev nD) : Vec Ideal S4096x1024 .f32 := m ((c.tc : Thread nD τ).loc main_arg0)
noncomputable abbrev mG (c : Dev nD) : Vec Ideal S1x1024 .f32 := m ((c.tc : Thread nD τ).loc main_arg1)
noncomputable abbrev mW1 (c : Dev nD) : Vec Ideal S1024x4096 .f32 := m ((c.tc : Thread nD τ).loc main_arg2)
noncomputable abbrev mW2 (c : Dev nD) : Vec Ideal S4096x1024 .f32 := m ((c.tc : Thread nD τ).loc main_arg3)
noncomputable abbrev mGF (c : Dev nD) : Vec Ideal S1x1024 .f32 := m ((c.tc : Thread nD τ).loc main_arg4)
noncomputable abbrev mT (c : Dev nD) : Vec Ideal S4096x1024 .f32 := m ((c.tc : Thread nD τ).loc main_arg5)
/-- The head's rows, of the arguments in memory. -/
noncomputable abbrev mA (c : Dev nD) : Fin 4096 → Fin 1024 → EReal := AA (mX m c) (mG m c) (mW1 m c) (mW2 m c)

theorem xb (c t) (r : Fin 512) (x : Fin 1024) : XB m c t (ix2 r x) = mX m c (ix2 (row t r) x) := by
  unfold XB; blk_point [iblk, V, idx t]
theorem gb (c t) (r : Fin 1) (x : Fin 1024) : GB m c t (ix2 r x) = mG m c (ix2 r x) := by
  unfold GB; blk_point [iblk, V, idx t]
theorem gfb (c t) (r : Fin 1) (x : Fin 1024) : GFB m c t (ix2 r x) = mGF m c (ix2 r x) := by
  unfold GFB; blk_point [iblk, V, idx t]
theorem tb (c t) (r : Fin 512) (x : Fin 1024) : TB m c t (ix2 r x) = mT m c (ix2 (row t r) x) := by
  unfold TB; blk_point [iblk, V, idx t]
/-- What the operations before the call leave: the first weights in blocks. -/
theorem host_w1 (c : Dev nD) (q : Fin 8) (i : Fin 1024) (k : Fin 512) : (V m c main_v2 : Vec Ideal S8x1024x512 .bf16) (ix3 q i k) = mW1 m c (ix2 i (col q k)) := by
  unfold V
  after_results_simp
  pointwise
  refine congrArg (mW1 m c) ?_
  blk_ext
theorem w1b (c t) (q : Fin 8) (i : Fin 1024) (k : Fin 512) : W1B m c t (ix3 q i k) = mW1 m c (ix2 i (col q k)) := by
  rw [← host_w1]; unfold W1B; blk_point [iblk, idx t]
theorem w2b (c t) (f : Fin 4096) (i : Fin 1024) : W2B m c t (ix2 f i) = mW2 m c (ix2 f i) := by
  unfold W2B; blk_point [iblk, V, idx t]

/-- The block forms are the arrays' forms at the point's rows. -/
theorem h_row (c t) (r : Fin 512) (d : Fin 1024) : hb (XB m c t) (GB m c t) r d = HF (mX m c) (mG m c) (row t r) d := by
  unfold hb HF
  simp only [xb, gb]
theorem u_row (c t) (r : Fin 512) (q : Fin 8) (k : Fin 512) : ub (XB m c t) (GB m c t) (W1B m c t) r q k = UU (mX m c) (mG m c) (mW1 m c) (row t r) (col q k) := by
  unfold ub pb UU PA
  simp only [h_row, w1b]

/-- A load of all columns after the eight stores. -/
theorem u_read (c t) (v : View sig .tc .vmem S512x4096 .bf16) (i0 i1 i2 i3 i4 i5 i6 i7 i) (r : Fin 512) (f : Fin 4096) :
    (v.readCov (Val := Elt Ideal) [⟨Rect.unit ![0, 3584] ![512, 512] i7, u7 (XB m c t) (GB m c t) (W1B m c t)⟩, ⟨Rect.unit ![0, 3072] ![512, 512] i6, u6 (XB m c t) (GB m c t) (W1B m c t)⟩,
      ⟨Rect.unit ![0, 2560] ![512, 512] i5, u5 (XB m c t) (GB m c t) (W1B m c t)⟩, ⟨Rect.unit ![0, 2048] ![512, 512] i4, u4 (XB m c t) (GB m c t) (W1B m c t)⟩,
      ⟨Rect.unit ![0, 1536] ![512, 512] i3, u3 (XB m c t) (GB m c t) (W1B m c t)⟩, ⟨Rect.unit ![0, 1024] ![512, 512] i2, u2 (XB m c t) (GB m c t) (W1B m c t)⟩,
      ⟨Rect.unit ![0, 512] ![512, 512] i1, u1 (XB m c t) (GB m c t) (W1B m c t)⟩, ⟨Rect.unit ![0, 0] ![512, 512] i0, u0 (XB m c t) (GB m c t) (W1B m c t)⟩]
      (Rect.unit (s := S512x4096) ![0, 0] ![512, 4096] i).toLoadRect : Vec Ideal S512x4096 .bf16) (ix2 r f) = UU (mX m c) (mG m c) (mW1 m c) (row t r) f := by
  obtain ⟨q, k, rfl⟩ := Cert.Cols.split f
  rw [← u_row, ← u_pay]
  refine Eq.trans ?_ (Cert.Cols.eight v v.junk i0 i1 i2 i3 i4 i5 i6 i7 _ _ _ _ _ _ _ _ r q k)
  refine congrArg (v.read (Elt Ideal) _) (funext (Fin.forall_fin_two.mpr ⟨Fin.ext ?_, Fin.ext ?_⟩))
  · show 0 + 1 * r.val = r.val
    omega
  · show 0 + 1 * (512 * q.val + k.val) = 512 * q.val + k.val
    omega

section
variable (c : Dev nD) (t : Fin cfg0.N) (U : Vec Ideal S512x4096 .bf16) (hU : ∀ (r : Fin 512) (f : Fin 4096), U (ix2 r f) = UU (mX m c) (mG m c) (mW1 m c) (row t r) f)
include hU
theorem a_row (r : Fin 512) (i : Fin 1024) : k0_pay15 (F := Ideal) (XB m c t) U (W2B m c t) (ix2 r i) = mA m c (row t r) i := by
  refine (a_pay _ _ _ r i).trans ?_
  simp only [xb, hU, w2b]
  rfl
theorem ar_row (r : Fin 512) : ar (k0_pay15 (F := Ideal) (XB m c t) U (W2B m c t)) r = mA m c (row t r) := funext fun k => a_row m c t U hU r k
omit hU in
theorem gr_row : gr (GFB m c t) = fun k => mGF m c (ix2 0 k) := funext fun k => gfb m c t 0 k
omit hU in
theorem tr_row (r : Fin 512) : ar (TB m c t) r = fun k => mT m c (ix2 (row t r) k) := funext fun k => tb m c t r k
theorem dx_row (r : Fin 512) (i : Fin 1024) :
    k0_pay1 (F := Ideal) (k0_pay17 (k0_pay16 (XB m c t) U (W2B m c t)) (FloatOps.ofBits FTy.f32 1149239296#32))
      (k0_pay18 (k0_pay15 (XB m c t) U (W2B m c t)) (k0_pay16 (XB m c t) U (W2B m c t)) (FloatOps.ofBits FTy.f32 1149239296#32))
      (k0_pay23 (k0_pay15 (XB m c t) U (W2B m c t)) (GFB m c t) (k0_pay16 (XB m c t) U (W2B m c t)) (FloatOps.ofBits FTy.f32 1149239296#32) (TB m c t))
      (k0_pay24 (k0_pay15 (XB m c t) U (W2B m c t)) (GFB m c t) (k0_pay16 (XB m c t) U (W2B m c t)) (FloatOps.ofBits FTy.f32 1149239296#32) (TB m c t))
      (FloatOps.ofBits FTy.f32 1149239296#32) (ix2 r i) = DX (mGF m c) (mT m c) (mA m c) (row t r) i := by
  rw [sq_pay]
  refine (dx_pay _ _ _ r i).trans ?_
  rw [ar_row m c t U hU, gr_row, tr_row]
  rfl
theorem dg_row (v) (i : Fin 1024) :
    k0_pay22 (F := Ideal) (k0_pay15 (XB m c t) U (W2B m c t)) (GFB m c t) (k0_pay16 (XB m c t) U (W2B m c t)) (FloatOps.ofBits FTy.f32 1149239296#32) (TB m c t) v (ix2 0 i)
      = v (ix2 0 i) + ∑ r : Fin 512, DGT (mGF m c) (mT m c) (mA m c) i (row t r) := by
  rw [sq_pay]
  refine (dg_pay _ _ _ _ i).trans (congrArg (v (ix2 0 i) + ·) (Finset.sum_congr rfl fun r _ => ?_))
  rw [ar_row m c t U hU, gr_row, tr_row, a_row m c t U hU]
  rfl
theorem loss_row (v) (i : Fin 1024) :
    k0_pay20 (F := Ideal) (k0_pay15 (XB m c t) U (W2B m c t)) (GFB m c t) (k0_pay16 (XB m c t) U (W2B m c t)) (FloatOps.ofBits FTy.f32 1149239296#32) (TB m c t) v (ix2 0 i)
      = v (ix2 0 i) + ∑ r : Fin 512, LT (mGF m c) (mT m c) (mA m c) (row t r) := by
  rw [sq_pay]
  refine (loss_pay _ _ _ _ i).trans (congrArg (v (ix2 0 i) + ·) ((half_sum _).trans (Finset.sum_congr rfl fun r _ => ?_)))
  rw [ar_row m c t U hU, gr_row, tr_row]
  rfl
end
end Cert.Kernel17Ideal.Value
-- ==== Proof.MlpFwdOut.lean ====
module
public import proofs.«01_k».proof.Proof.Gen.Kernel17Ideal.Value
public import proofs.«01_k».proof.Proof.MlpFwdArr
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.Tactic.WordOmega
/-! The squared-ReLU MLP and the loss head behind it: what the points leave in the call's five arrays. -/
@[expose] public section
set_option maxRecDepth 16384
open Idealize.ShloMosaic Idealize.ShloMosaic.TcCoe Idealize.SL.Sem
open Idealize.ShloMosaic.Pipeline (Dat)
namespace Cert.Kernel17Ideal.Value
open Cert.Kernel17Ideal Cert.Kernel17Ideal.Gen
open Cert.Cols (col)
variable (m : (ℓ : Loc nD τ sig) → Buf (Elt Ideal) ℓ)

theorem u_A (c : Dev nD) (t : Fin cfg0.N) (h0 : t.val % 8 = 0) (r : Fin 512) (f : Fin 4096) :
    (outsAt0 m c t.val t.isLt).2.2.1 (ix2 r f) = UU (mX m c) (mG m c) (mW1 m c) (row t r) f := by
  rw [outsAt0_A m c t h0]
  frame_out
  obtain ⟨q, k, rfl⟩ := Cert.Cols.split f
  rw [← u_row, ← u_pay, ← View.read_writes_junk_apply_eq_canon (ms0_8 t).view]
  exact Cert.Cols.eight (ms0_8 t).view _ _ _ _ _ _ _ _ _ (u0 _ _ _) (u1 _ _ _) (u2 _ _ _) (u3 _ _ _) (u4 _ _ _) (u5 _ _ _) (u6 _ _ _) (u7 _ _ _) r q k
theorem u_B (c : Dev nD) (t : Fin cfg0.N) (h0 : ¬ t.val % 8 = 0) (r : Fin 512) (f : Fin 4096) :
    (outsAt0 m c t.val t.isLt).2.2.1 (ix2 r f) = UU (mX m c) (mG m c) (mW1 m c) (row t r) f := by
  rw [outsAt0_B m c t h0]
  frame_out
  obtain ⟨q, k, rfl⟩ := Cert.Cols.split f
  rw [← u_row, ← u_pay, ← View.read_writes_junk_apply_eq_canon (ms0_8 t).view]
  exact Cert.Cols.eight (ms0_8 t).view _ _ _ _ _ _ _ _ _ (u0 _ _ _) (u1 _ _ _) (u2 _ _ _) (u3 _ _ _) (u4 _ _ _) (u5 _ _ _) (u6 _ _ _) (u7 _ _ _) r q k
theorem h_A (c : Dev nD) (t : Fin cfg0.N) (h0 : t.val % 8 = 0) (r : Fin 512) (d : Fin 1024) :
    (outsAt0 m c t.val t.isLt).2.2.2.1 (ix2 r d) = HF (mX m c) (mG m c) (row t r) d := by
  rw [outsAt0_A m c t h0]
  frame_out
  exact (h_pay _ _ r d).trans (h_row m c t r d)
theorem h_B (c : Dev nD) (t : Fin cfg0.N) (h0 : ¬ t.val % 8 = 0) (r : Fin 512) (d : Fin 1024) :
    (outsAt0 m c t.val t.isLt).2.2.2.1 (ix2 r d) = HF (mX m c) (mG m c) (row t r) d := by
  rw [outsAt0_B m c t h0]
  frame_out
  exact (h_pay _ _ r d).trans (h_row m c t r d)
theorem dx_A (c : Dev nD) (t : Fin cfg0.N) (h0 : t.val % 8 = 0) (r : Fin 512) (i : Fin 1024) :
    (outsAt0 m c t.val t.isLt).1 (ix2 r i) = DX (mGF m c) (mT m c) (mA m c) (row t r) i := by
  rw [outsAt0_A m c t h0]
  frame_out
  exact dx_row m c t _ (u_read m c t (ms0_8 t).view _ _ _ _ _ _ _ _ _) r i
theorem dx_B (c : Dev nD) (t : Fin cfg0.N) (h0 : ¬ t.val % 8 = 0) (r : Fin 512) (i : Fin 1024) :
    (outsAt0 m c t.val t.isLt).1 (ix2 r i) = DX (mGF m c) (mT m c) (mA m c) (row t r) i := by
  rw [outsAt0_B m c t h0]
  frame_out
  exact dx_row m c t _ (u_read m c t (ms0_8 t).view _ _ _ _ _ _ _ _ _) r i
theorem dh_A (c : Dev nD) (t : Fin cfg0.N) (h0 : t.val % 8 = 0) (r : Fin 512) (i : Fin 1024) :
    (outsAt0 m c t.val t.isLt).2.1 (ix2 r i) = DX (mGF m c) (mT m c) (mA m c) (row t r) i := by
  rw [outsAt0_A m c t h0]
  frame_out
  exact dx_row m c t _ (u_read m c t (ms0_8 t).view _ _ _ _ _ _ _ _ _) r i
theorem dh_B (c : Dev nD) (t : Fin cfg0.N) (h0 : ¬ t.val % 8 = 0) (r : Fin 512) (i : Fin 1024) :
    (outsAt0 m c t.val t.isLt).2.1 (ix2 r i) = DX (mGF m c) (mT m c) (mA m c) (row t r) i := by
  rw [outsAt0_B m c t h0]
  frame_out
  exact dx_row m c t _ (u_read m c t (ms0_8 t).view _ _ _ _ _ _ _ _ _) r i

/-- What the second row's store leaves: the stored row there, elsewhere what was there before. -/
theorem row1_writes {sig : RefSig} {κ : Kind} {sp : Space} (v : View sig κ sp ⟨2, ![8, 1024]⟩ .f32) (f : v.ty.Contents (Elt Ideal))
    (i) (p : Vec Ideal ⟨2, ![1, 1024]⟩ .f32) (L : List (View.Piece (Elt Ideal) ⟨2, ![8, 1024]⟩ .f32)) (j : Shape.Idx ⟨2, ![8, 1024]⟩) :
    v.read (Elt Ideal) (v.writes (Elt Ideal) f (⟨Rect.unit ![1, 0] ![1, 1024] i, p⟩ :: L)) j
      = if (j 0 : ℕ) = 1 then p (ix2 0 (j 1)) else v.read (Elt Ideal) (v.writes (Elt Ideal) f L) j := by
  split
  · next h => exact View.read_writes_cons_unit_of_mem v f i p L j (ix2 0 (j 1)) rfl (Fin.forall_fin_two.mpr ⟨h, (Nat.zero_add _).symm⟩)
  · next h => exact View.read_writes_cons_unit_of_not_mem v f i p L j rfl (0 : Fin 2) (by
      show (j 0 : ℕ) < 1 ∨ 1 + 1 ≤ (j 0 : ℕ)
      omega)

/-- A sum of rows' terms of the slot, by the row of the slot. -/
theorem st_sum (GF : Vec Ideal S1x1024 .f32) (T : Vec Ideal S4096x1024 .f32) (a : Fin 4096 → Fin 1024 → EReal) (j : S8x1024.Idx) {n : ℕ} (g : Fin n → Fin 4096) :
    (∑ r : Fin n, STm GF T a j (g r))
      = if (j 0 : ℕ) = 0 then ∑ r : Fin n, DGT GF T a (j 1) (g r) else if (j 0 : ℕ) = 1 then ∑ r : Fin n, LT GF T a (g r) else 0 := by
  unfold STm
  split
  · rfl
  · split
    · rfl
    · exact Finset.sum_const_zero

theorem slot_A (c : Dev nD) (t : Fin cfg0.N) (h0 : t.val % 8 = 0) (j : S8x1024.Idx) :
    (outsAt0 m c t.val t.isLt).2.2.2.2 j = ∑ r : Fin 512, STm (mGF m c) (mT m c) (mA m c) j (row t r) := by
  rw [st_sum, outsAt0_A m c t h0]
  frame_out
  rw [← View.read_writes_junk_apply_eq_canon (ms0_10 t).view j]
  refine (Cert.Slot.row_writes _ _ _ _ _ _).trans ?_
  rw [row1_writes, Cert.Slot.all_writes, zero_pay]
  simp (disch := decide) only [↓ View.readCov_fill, ↓ View.readCov_skip]
  refine ite_congr rfl (fun _ => ?_) fun _ => ite_congr rfl (fun _ => ?_) fun _ => rfl
  · refine (dg_row m c t _ (u_read m c t (ms0_8 t).view _ _ _ _ _ _ _ _ _) _ (j 1)).trans ?_
    refine (congrArg (· + _) (?_ : _ = (0 : EReal))).trans (zero_add _)
    exact zero_pay _
  · refine (loss_row m c t _ (u_read m c t (ms0_8 t).view _ _ _ _ _ _ _ _ _) _ (j 1)).trans ?_
    refine (congrArg (· + _) (?_ : _ = (0 : EReal))).trans (zero_add _)
    exact zero_pay _

theorem slot_B (c : Dev nD) (t : Fin cfg0.N) (h0 : ¬ t.val % 8 = 0) (j : S8x1024.Idx) :
    (outsAt0 m c t.val t.isLt).2.2.2.2 j = (outsAt0 m c (t.val - 1) (Nat.lt_of_le_of_lt (Nat.sub_le _ _) t.isLt)).2.2.2.2 j
      + ∑ r : Fin 512, STm (mGF m c) (mT m c) (mA m c) j (row t r) := by
  rw [st_sum, outsAt0_B m c t h0]
  frame_out
  refine (Cert.Slot.row_writes _ _ _ _ _ _).trans ?_
  rw [row1_writes]
  split
  · next hj =>
    refine (dg_row m c t _ (u_read m c t (ms0_8 t).view _ _ _ _ _ _ _ _ _) _ (j 1)).trans ?_
    refine congrArg (· + _) ?_
    conv_rhs => rw [Cert.Slot.first j hj]
    pointwise
  · split
    · next hj =>
      refine (loss_row m c t _ (u_read m c t (ms0_8 t).view _ _ _ _ _ _ _ _ _) _ (j 1)).trans ?_
      refine congrArg (· + _) ?_
      conv_rhs => rw [show j = ix2 1 (j 1) from funext (Fin.forall_fin_two.mpr ⟨Fin.ext hj, rfl⟩)]
      pointwise
    · rw [add_zero]
      exact congrFun (Memref.IsWhole.read_unread _ _) j
end Cert.Kernel17Ideal.Value
-- ==== Proof.MlpFwdVal.lean ====
module
public import proofs.«01_k».proof.Proof.Gen.Kernel17Ideal.Value
public import proofs.«01_k».proof.Proof.MlpFwdOut
public import Idealize.ShloMosaic.Lib.Pipeline.ValueKit
public import Idealize.ShloMosaic.Lib.Pointwise
public import Idealize.ShloMosaic.Lib.Pipeline.ReadBack
public import Idealize.ShloMosaic.Lib.Tactic.WordOmega
/-! The squared-ReLU MLP and the loss head behind it: the call's five arrays after the run. -/
@[expose] public section
set_option maxRecDepth 16384
open Idealize.ShloMosaic Idealize.ShloMosaic.TcCoe Idealize.SL.Sem
open Idealize.ShloMosaic.Pipeline (Dat)
namespace Cert.Kernel17Ideal.Value
open Cert.Kernel17Ideal Cert.Kernel17Ideal.Gen
variable (m : (ℓ : Loc nD τ sig) → Buf (Elt Ideal) ℓ)

theorem u_all (c : Dev nD) (t : Fin cfg0.N) (r : Fin 512) (f : Fin 4096) : (outsAt0 m c t.val t.isLt).2.2.1 (ix2 r f) = UU (mX m c) (mG m c) (mW1 m c) (row t r) f := by
  by_cases h : t.val % 8 = 0
  · exact u_A m c t h r f
  · exact u_B m c t h r f
theorem h_all (c : Dev nD) (t : Fin cfg0.N) (r : Fin 512) (d : Fin 1024) : (outsAt0 m c t.val t.isLt).2.2.2.1 (ix2 r d) = HF (mX m c) (mG m c) (row t r) d := by
  by_cases h : t.val % 8 = 0
  · exact h_A m c t h r d
  · exact h_B m c t h r d
theorem dx_all (c : Dev nD) (t : Fin cfg0.N) (r : Fin 512) (i : Fin 1024) : (outsAt0 m c t.val t.isLt).1 (ix2 r i) = DX (mGF m c) (mT m c) (mA m c) (row t r) i := by
  by_cases h : t.val % 8 = 0
  · exact dx_A m c t h r i
  · exact dx_B m c t h r i
theorem dh_all (c : Dev nD) (t : Fin cfg0.N) (r : Fin 512) (i : Fin 1024) : (outsAt0 m c t.val t.isLt).2.1 (ix2 r i) = DX (mGF m c) (mT m c) (mA m c) (row t r) i := by
  by_cases h : t.val % 8 = 0
  · exact dh_A m c t h r i
  · exact dh_B m c t h r i

section
variable (X : Vec Ideal S4096x1024 .f32) (G : Vec Ideal S1x1024 .f32) (W1 : Vec Ideal S1024x4096 .f32) (W2 : Vec Ideal S4096x1024 .f32)
  (GF : Vec Ideal S1x1024 .f32) (T : Vec Ideal S4096x1024 .f32)
/-- The arrays: the gradient of the head's input (once in each of two types), the activation, the normalised rows, the slot. -/
noncomputable def DXA (j : S4096x1024.Idx) : EReal := DX GF T (AA X G W1 W2) (j 0) (j 1)
noncomputable def UUA (j : S4096x4096.Idx) : EReal := UU X G W1 (j 0) (j 1)
noncomputable def HFA (j : S4096x1024.Idx) : EReal := HF X G (j 0) (j 1)
noncomputable def SL (j : S8x1024.Idx) : EReal := ∑ s : Fin 4096, STm GF T (AA X G W1 W2) j s
end

theorem arr6 (c : Dev nD) : (dats m 0 c).arrAt 6 cfg0.N = DXA (mX m c) (mG m c) (mW1 m c) (mW2 m c) (mGF m c) (mT m c) := by
  refine (dats m 0 c).arrAt_eq_of_covers 6 _ (by decide +kernel) fun t hf y => ?_
  blk_simp
  rw [after0_6]
  obtain ⟨r, i, rfl⟩ : ∃ (r : Fin 512) (i : Fin 1024), y = ix2 r i := ⟨y 0, y 1, eq_ix2 y⟩
  rw [dx_all m c t]
  have e : ((win0_6.blk t).view.emb (ix2 r i) : S4096x1024.Idx) = ix2 (row t r) i := by blk_ext [idx t]
  rw [e]
  rfl
theorem arr7 (c : Dev nD) : (dats m 0 c).arrAt 7 cfg0.N = DXA (mX m c) (mG m c) (mW1 m c) (mW2 m c) (mGF m c) (mT m c) := by
  refine (dats m 0 c).arrAt_eq_of_covers 7 _ (by decide +kernel) fun t hf y => ?_
  blk_simp
  rw [after0_7]
  obtain ⟨r, i, rfl⟩ : ∃ (r : Fin 512) (i : Fin 1024), y = ix2 r i := ⟨y 0, y 1, eq_ix2 y⟩
  rw [dh_all m c t]
  have e : ((win0_7.blk t).view.emb (ix2 r i) : S4096x1024.Idx) = ix2 (row t r) i := by blk_ext [idx t]
  rw [e]
  rfl
theorem arr8 (c : Dev nD) : (dats m 0 c).arrAt 8 cfg0.N = UUA (mX m c) (mG m c) (mW1 m c) := by
  refine (dats m 0 c).arrAt_eq_of_covers 8 _ (by decide +kernel) fun t hf y => ?_
  blk_simp
  rw [after0_8]
  obtain ⟨r, f, rfl⟩ : ∃ (r : Fin 512) (f : Fin 4096), y = ix2 r f := ⟨y 0, y 1, eq_ix2 y⟩
  rw [u_all m c t]
  have e : ((win0_8.blk t).view.emb (ix2 r f) : S4096x4096.Idx) = ix2 (row t r) f := by blk_ext [idx t]
  rw [e]
  rfl
theorem arr9 (c : Dev nD) : (dats m 0 c).arrAt 9 cfg0.N = HFA (mX m c) (mG m c) := by
  refine (dats m 0 c).arrAt_eq_of_covers 9 _ (by decide +kernel) fun t hf y => ?_
  blk_simp
  rw [after0_9]
  obtain ⟨r, i, rfl⟩ : ∃ (r : Fin 512) (i : Fin 1024), y = ix2 r i := ⟨y 0, y 1, eq_ix2 y⟩
  rw [h_all m c t]
  have e : ((win0_9.blk t).view.emb (ix2 r i) : S4096x1024.Idx) = ix2 (row t r) i := by blk_ext [idx t]
  rw [e]
  rfl

theorem last : 7 < cfg0.N := lt_of_lt_of_eq (by decide : 7 < 8) N_0.symm

/-- What the point `n` leaves of the slot, at one element. -/
noncomputable def slv (c : Dev nD) (j : S8x1024.Idx) (n : ℕ) (h : n < cfg0.N) : EReal := (outsAt0 m c n h).2.2.2.2 j

theorem out_sl (c : Dev nD) (j : S8x1024.Idx) : slv m c j 7 last = SL (mX m c) (mG m c) (mW1 m c) (mW2 m c) (mGF m c) (mT m c) j :=
  Cert.Slot.total 512 4096 (STm (mGF m c) (mT m c) (mA m c) j) (slv m c j) (fun k h r => row_lt ⟨k, h⟩ r) (fun h => slot_A m c ⟨0, h⟩ rfl j)
    (fun k h hk => by
      have : k < 8 := lt_of_lt_of_eq h N_0
      exact slot_B m c ⟨k, h⟩ (by show ¬ k % 8 = 0; omega) j) 7 last rfl

theorem arr10 (c : Dev nD) : (dats m 0 c).arrAt 10 cfg0.N = SL (mX m c) (mG m c) (mW1 m c) (mW2 m c) (mGF m c) (mT m c) := by
  refine (dats m 0 c).arrAt_eq_of_after_last 10 t0_7 (by decide +kernel) _ fun j => ?_
  blk_simp
  rw [after0_10]
  exact out_sl m c j
end Cert.Kernel17Ideal.Value
-- ==== Proof.MlpFwdRef.lean ====
module
public import proofs.«01_k».proof.Proof.Gen.Reference17Ideal.Run
public import proofs.«01_k».proof.Proof.MlpFwdArr
public import Idealize.ShloMosaic.Lib.Pointwise
/-! The squared-ReLU MLP and the loss head behind it: the reference's results at one element. -/
@[expose] public section
set_option maxRecDepth 16384
open Idealize.ShloMosaic Idealize.ShloMosaic.TcCoe Idealize.SL.Sem
namespace Cert.Reference17Ideal.Value
open Cert.Reference17Ideal Cert.Reference17Ideal.Gen
open Cert.Kernel17Ideal.Value (err mse dy HF PA UU AA)

section
variable (X : FVec Ideal S4096x1024 .f32) (G : FVec Ideal S1x1024 .f32) (W1 : FVec Ideal S1024x4096 .f32) (W2 : FVec Ideal S4096x1024 .f32)
/-- The reference's arrays on the way to the head: the normalised rows, the positive part of the pre-activation, the head's rows. -/
noncomputable def nrm : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0
    (Host.reduceAdd (mulf X X) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 (shapeCast S1024 G shapeCasts_S1x1024_S1024)))
noncomputable def pos : FVec Ideal S4096x4096 .f32 :=
  maximumf (Host.dotGeneral dot_S4096x1024_S1024x4096_S4096x4096_1_0_0_1_n_n none (nrm X G) W1) (broadcastInDim S4096x4096 ![] bcast_S_S4096x4096 (constant S_ .f32 0x00000000#32))
noncomputable def head : FVec Ideal S4096x1024 .f32 :=
  addf X (Host.dotGeneral dot_S4096x4096_S4096x1024_S4096x1024_1_0_0_1_n_n none (mulf (pos X G W1) (pos X G W1)) W2)

theorem nrm_at (s : Fin 4096) (d : Fin 1024) : nrm X G (ix2 s d) = HF X G s d := by
  pointwise [nrm]
  rfl
theorem pos_at (s f : Fin 4096) : pos X G W1 (ix2 s f) = max (PA X G W1 s f) 0 := by
  unfold PA
  simp only [← nrm_at]
  pointwise [pos]
theorem head_at (s : Fin 4096) (i : Fin 1024) : head X G W1 W2 (ix2 s i) = AA X G W1 W2 s i := by
  unfold AA UU
  simp only [← pos_at]
  pointwise [head]
end

/-- The gradient of the head's output as the derivative of the mean square gives it. -/
noncomputable def dyR (a g t : Fin 1024 → EReal) (i : Fin 1024) : EReal :=
  Ideal.div (Ideal.ofBits FTy.f32 0x3F000000#32) Cert.Rms.C * (Ideal.ofBits FTy.f32 0x40000000#32 * err a g t i)
noncomputable def RX (GF : Vec Ideal S1x1024 .f32) (T : Vec Ideal S4096x1024 .f32) (a : Fin 4096 → Fin 1024 → EReal) (s : Fin 4096) (i : Fin 1024) : EReal :=
  Cert.Rms.bwdR (a s) (fun k => dyR (a s) (fun k => GF (ix2 0 k)) (fun k => T (ix2 s k)) k * GF (ix2 0 k)) i

variable (m' : (ℓ : Loc nD τ sig) → Buf (Elt Ideal) ℓ) (c : Dev nD)
noncomputable abbrev rX : FVec Ideal S4096x1024 .f32 := m' ((c.tc : Thread nD τ).loc main_arg0)
noncomputable abbrev rG : FVec Ideal S1x1024 .f32 := m' ((c.tc : Thread nD τ).loc main_arg1)
noncomputable abbrev rW1 : FVec Ideal S1024x4096 .f32 := m' ((c.tc : Thread nD τ).loc main_arg2)
noncomputable abbrev rW2 : FVec Ideal S4096x1024 .f32 := m' ((c.tc : Thread nD τ).loc main_arg3)
noncomputable abbrev rGF : FVec Ideal S1x1024 .f32 := m' ((c.tc : Thread nD τ).loc main_arg4)
noncomputable abbrev rT : FVec Ideal S4096x1024 .f32 := m' ((c.tc : Thread nD τ).loc main_arg5)

set_option maxHeartbeats 2000000 in
theorem ref_dx (r : Fin 4096) (i : Fin 1024) : (res_main_v70 (F := Ideal) m' c : FVec Ideal S4096x1024 .f32) (ix2 r i)
      = RX (rGF m' c) (rT m' c) (AA (rX m' c) (rG m' c) (rW1 m' c) (rW2 m' c)) r i := by
  rw [show AA (rX m' c) (rG m' c) (rW1 m' c) (rW2 m' c) = fun s i => head (rX m' c) (rG m' c) (rW1 m' c) (rW2 m' c) (ix2 s i) from
    funext fun s => funext fun i => (head_at _ _ _ _ s i).symm]
  unfold res_main_v70
  rw [← nrm.eq_1 (rX m' c) (rG m' c), ← pos.eq_1 (rX m' c) (rG m' c) (rW1 m' c), ← head.eq_1 (rX m' c) (rG m' c) (rW1 m' c) (rW2 m' c)]
  generalize head (rX m' c) (rG m' c) (rW1 m' c) (rW2 m' c) = A
  pointwise
  rfl
/-- The slot: the gain's gradient in the first row, the loss in the second, zeros below. -/
noncomputable def dgR (GF : Vec Ideal S1x1024 .f32) (T : Vec Ideal S4096x1024 .f32) (a : Fin 4096 → Fin 1024 → EReal) (i : Fin 1024) (s : Fin 4096) : EReal :=
  a s i * Cert.Rms.rs (a s) * dyR (a s) (fun k => GF (ix2 0 k)) (fun k => T (ix2 s k)) i
noncomputable def lossR (GF : Vec Ideal S1x1024 .f32) (T : Vec Ideal S4096x1024 .f32) (a : Fin 4096 → Fin 1024 → EReal) : EReal :=
  Ideal.ofBits FTy.f32 0x3F000000#32 * ∑ s : Fin 4096, mse (a s) (fun k => GF (ix2 0 k)) (fun k => T (ix2 s k))

theorem rows (r : Fin 8) (x : Fin 1 → EReal) (y : EReal) : (if _ : (r : ℕ) < 1 then ∑ k, x k else if _ : (r : ℕ) - 1 < 1 then y else (0 : EReal))
    = if (r : ℕ) = 0 then x 0 else if (r : ℕ) = 1 then y else 0 := by
  rw [Fin.sum_univ_one]
  split_ifs <;> first | rfl | omega

set_option maxHeartbeats 2000000 in
theorem ref_slot (r : Fin 8) (i : Fin 1024) : (res_main_v74 (F := Ideal) m' c : FVec Ideal S8x1024 .f32) (ix2 r i)
      = if (r : ℕ) = 0 then ∑ s : Fin 4096, dgR (rGF m' c) (rT m' c) (AA (rX m' c) (rG m' c) (rW1 m' c) (rW2 m' c)) i s
        else if (r : ℕ) = 1 then lossR (rGF m' c) (rT m' c) (AA (rX m' c) (rG m' c) (rW1 m' c) (rW2 m' c)) else (0 : EReal) := by
  rw [show AA (rX m' c) (rG m' c) (rW1 m' c) (rW2 m' c) = fun s i => head (rX m' c) (rG m' c) (rW1 m' c) (rW2 m' c) (ix2 s i) from
    funext fun s => funext fun i => (head_at _ _ _ _ s i).symm]
  unfold res_main_v74
  rw [← nrm.eq_1 (rX m' c) (rG m' c), ← pos.eq_1 (rX m' c) (rG m' c) (rW1 m' c), ← head.eq_1 (rX m' c) (rG m' c) (rW1 m' c) (rW2 m' c)]
  generalize head (rX m' c) (rG m' c) (rW1 m' c) (rW2 m' c) = A
  pointwise
  exact rows r (fun _ => ∑ s : Fin 4096, dgR (rGF m' c) (rT m' c) (fun s i => A (ix2 s i)) i s) (lossR (rGF m' c) (rT m' c) fun s i => A (ix2 s i))
end Cert.Reference17Ideal.Value
-- ==== Proof.MlpFwdClaim.lean ====
module
public import proofs.«01_k».proof.Proof.Gen.Kernel17Ideal.Value
public import proofs.«01_k».proof.Proof.Gen.Reference17Ideal.Run
public import proofs.«01_k».proof.Proof.MlpFwdVal
public import proofs.«01_k».proof.Proof.MlpFwdRef
public import proofs.«01_k».proof.Defs
public import proofs.«01_k».proof.Proof.Gen.Pre_finite17
public import Idealize.ShloMosaic.Lib.Pointwise
public import Idealize.ShloMosaic.Lib.Claim
/-! The claim on the squared-ReLU MLP and the loss head behind it: the reference's results are the same functions of the
    arguments as the call's arrays, where the arguments are real numbers. -/
@[expose] public section
set_option maxRecDepth 16384
open Idealize.ShloMosaic Idealize.ShloMosaic.TcCoe Idealize.SL.Sem
namespace Cert.Kernel17Ideal.Value
open Cert.Kernel17Ideal
open Cert.Reference17Ideal.Value (dyR RX dgR lossR)

/-- The two constants of the mean square's derivative against the kernel's one. -/
theorem dy_eq (a g t : Fin 1024 → EReal) (i : Fin 1024) : dyR a g t i = dy a g t i := by
  have h : Ideal.ofBits FTy.f32 0x3F000000#32 = ((1 / 2 : ℝ) : EReal) := by
    simp [Ideal.ofBits, Ideal.ieee, -EReal.coe_mul]; norm_num
  have t : Ideal.ofBits FTy.f32 0x40000000#32 = ((2 : ℝ) : EReal) := by
    simp [Ideal.ofBits, Ideal.ieee, -EReal.coe_mul]; norm_num
  have s : Ideal.ofBits FTy.f32 0x3A800000#32 = ((1 / 1024 : ℝ) : EReal) := by
    simp [Ideal.ofBits, Ideal.ieee, -EReal.coe_mul]; norm_num
  unfold dyR dy
  rw [h, t, s, Cert.Rms.C_eq, Ideal.div_coe (by norm_num), ← mul_assoc, ← EReal.coe_mul, ← EReal.coe_mul, mul_comm]
  congr 2
  norm_num

section
variable (X : Vec Ideal S4096x1024 .f32) (G : Vec Ideal S1x1024 .f32) (W1 : Vec Ideal S1024x4096 .f32) (W2 : Vec Ideal S4096x1024 .f32)
  (GF : Vec Ideal S1x1024 .f32) (T : Vec Ideal S4096x1024 .f32)
theorem real (h : Cert.Pre_finite17.fn (F := Ideal) X G W1 W2 GF T = fun _ => 1#1) :
    (∀ j, Cert.Reals.Is (X j)) ∧ (∀ j, Cert.Reals.Is (G j)) ∧ (∀ j, Cert.Reals.Is (W1 j)) ∧ (∀ j, Cert.Reals.Is (W2 j)) ∧ (∀ j, Cert.Reals.Is (GF j)) ∧ ∀ j, Cert.Reals.Is (T j) := by
  have e := congrFun h ix0
  dsimp only [Cert.Pre_finite17.fn, Cert.Pre_finite17.fn_part1] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨Cert.Reals.is_of_all _ _ _ _ _ _ _ h0, Cert.Reals.is_of_all _ _ _ _ _ _ _ h1, Cert.Reals.is_of_all _ _ _ _ _ _ _ h2, Cert.Reals.is_of_all _ _ _ _ _ _ _ h3,
    Cert.Reals.is_of_all _ _ _ _ _ _ _ h4, Cert.Reals.is_of_all _ _ _ _ _ _ _ h5⟩

theorem is_max {x : EReal} (h : Cert.Reals.Is x) : Cert.Reals.Is (max x 0) := by
  rcases le_total x 0 with h' | h'
  · rw [max_eq_right h']; exact ⟨0, rfl⟩
  · rwa [max_eq_left h']

theorem aa_real (hX : ∀ j, Cert.Reals.Is (X j)) (hG : ∀ j, Cert.Reals.Is (G j)) (h1 : ∀ j, Cert.Reals.Is (W1 j)) (h2 : ∀ j, Cert.Reals.Is (W2 j)) (s : Fin 4096) (i : Fin 1024) :
    Cert.Reals.Is (AA X G W1 W2 s i) := by
  have hp (f) : Cert.Reals.Is (PA X G W1 s f) :=
    Cert.Reals.is_sum _ _ fun d _ => Cert.Reals.is_mul (Cert.Reals.is_mul (Cert.Reals.is_mul (hX _) (Cert.Rms.rs_real _ fun k => hX _)) (hG _)) (h1 _)
  exact Cert.Reals.is_add (hX _) (Cert.Reals.is_sum _ _ fun f _ => Cert.Reals.is_mul (Cert.Reals.is_mul (is_max (hp f)) (is_max (hp f))) (h2 _))

theorem dx_eq (h : Cert.Pre_finite17.fn (F := Ideal) X G W1 W2 GF T = fun _ => 1#1) (s : Fin 4096) (i : Fin 1024) :
    RX GF T (AA X G W1 W2) s i = DX GF T (AA X G W1 W2) s i := by
  obtain ⟨hX, hG, h1, h2, hF, hT⟩ := real X G W1 W2 GF T h
  have ha := aa_real X G W1 W2 hX hG h1 h2
  unfold RX DX
  simp only [dy_eq]
  refine (Cert.Rms.bwd_eq (AA X G W1 W2 s) (dn (AA X G W1 W2 s) (fun k => GF (ix2 0 k)) fun k => T (ix2 s k)) (fun k => ha s k) (fun k => ?_) i).symm
  have hs : Cert.Reals.Is (Ideal.ofBits FTy.f32 0x3A800000#32) := by
    refine ⟨1 / 1024, ?_⟩
    simp [Ideal.ofBits, Ideal.ieee, -EReal.coe_mul]; norm_num
  exact Cert.Reals.is_mul (Cert.Reals.is_mul (Cert.Reals.is_sub (Cert.Reals.is_mul (Cert.Reals.is_mul (ha s k) (Cert.Rms.rs_real _ fun k => ha s k)) (hF _)) (hT _)) hs) (hF _)

/-- The two forms of the slot. -/
theorem slot_eq (a : Fin 4096 → Fin 1024 → EReal) (r : Fin 8) (i : Fin 1024) :
    (if (r : ℕ) = 0 then ∑ s : Fin 4096, dgR GF T a i s else if (r : ℕ) = 1 then lossR GF T a else (0 : EReal)) = ∑ s : Fin 4096, STm GF T a (ix2 r i) s := by
  rw [show (∑ s : Fin 4096, STm GF T a (ix2 r i) s) = _ from st_sum GF T a (ix2 r i) (id : Fin 4096 → Fin 4096)]
  refine ite_congr rfl (fun _ => Finset.sum_congr rfl fun s _ => ?_) fun _ => ite_congr rfl (fun _ => ?_) fun _ => rfl
  · unfold dgR
    rw [dy_eq, mul_comm]
    rfl
  · unfold lossR
    rw [mul_comm, half_sum]
    rfl
end
end Cert.Kernel17Ideal.Value

open Cert.Kernel17Ideal.Value (mX mG mW1 mW2 mGF mT) in
set_option maxHeartbeats 4000000 in
theorem Cert.Kernel17Ideal.Value.claim : Cert.algebraic_Kernel17Ideal_Reference17Ideal_pre_finite17 (hKernel17Ideal := Cert.Kernel17Ideal.Gen.facts)
    (hReference17Ideal := Cert.Reference17Ideal.Gen.facts) (hPre_finite17 := Cert.Pre_finite17.Gen.facts) := by
  intro m g m' g' hp hag
  refine ⟨fun c => Cert.Kernel17Ideal.Value.DXA (mX m c) (mG m c) (mW1 m c) (mW2 m c) (mGF m c) (mT m c), fun c => Cert.Kernel17Ideal.Value.DXA (mX m c) (mG m c) (mW1 m c) (mW2 m c) (mGF m c) (mT m c),
    fun c => Cert.Kernel17Ideal.Value.UUA (mX m c) (mG m c) (mW1 m c), fun c => Cert.Kernel17Ideal.Value.HFA (mX m c) (mG m c),
    fun c => Cert.Kernel17Ideal.Value.SL (mX m c) (mG m c) (mW1 m c) (mW2 m c) (mGF m c) (mT m c), ?_, ?_⟩
  · exact (θ_run _ _ _).mono (fun r h c => ⟨(h c).1.trans (Cert.Kernel17Ideal.Value.arr6 m c), (h c).2.1.trans (Cert.Kernel17Ideal.Value.arr7 m c),
      (h c).2.2.1.trans (Cert.Kernel17Ideal.Value.arr8 m c), (h c).2.2.2.1.trans (Cert.Kernel17Ideal.Value.arr9 m c), (h c).2.2.2.2.1.trans (Cert.Kernel17Ideal.Value.arr10 m c),
      (h c).2.2.2.2.2⟩) (Cert.Kernel17Ideal.Value.run_blocks m g)
  · have hdx (c) (s : Fin 4096) (i : Fin 1024) : (Cert.Reference17Ideal.Value.res_main_v70 (F := Ideal) m' c : FVec Ideal Cert.Kernel17Ideal.S4096x1024 .f32) (ix2 s i)
        = Cert.Kernel17Ideal.Value.DXA (mX m c) (mG m c) (mW1 m c) (mW2 m c) (mGF m c) (mT m c) (ix2 s i) := by
      obtain ⟨h0, h1, h2, h3, h4, h5⟩ := hag c
      refine (Cert.Reference17Ideal.Value.ref_dx m' c s i).trans ?_
      rw [show Cert.Reference17Ideal.Value.rX m' c = mX m c from h0, show Cert.Reference17Ideal.Value.rG m' c = mG m c from h1, show Cert.Reference17Ideal.Value.rW1 m' c = mW1 m c from h2,
        show Cert.Reference17Ideal.Value.rW2 m' c = mW2 m c from h3, show Cert.Reference17Ideal.Value.rGF m' c = mGF m c from h4, show Cert.Reference17Ideal.Value.rT m' c = mT m c from h5]
      exact Cert.Kernel17Ideal.Value.dx_eq _ _ _ _ _ _ (hp c) s i
    refine (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.Reference17Ideal.Value.run m' g')
    · funext j
      rw [show j = ix2 (j 0) (j 1) from eq_ix2 (n0 := 4096) (n1 := 1024) j]
      exact hdx c (j 0) (j 1)
    · funext j
      rw [show j = ix2 (j 0) (j 1) from eq_ix2 (n0 := 4096) (n1 := 1024) j]
      refine Eq.trans ?_ (hdx c (j 0) (j 1))
      unfold Cert.Reference17Ideal.Value.res_main_v75 Cert.Reference17Ideal.Value.res_main_v70
      rfl
    · obtain ⟨h0, h1, h2, h3, h4, h5⟩ := hag c
      rw [h0, h1, h2]
      beta_reduce
      dsimp only [mX, mG, mW1]
      generalize m ((c.tc : Thread Cert.Kernel17Ideal.nD Cert.Kernel17Ideal.τ).loc Cert.Kernel17Ideal.main_arg0) = X
      generalize m ((c.tc : Thread Cert.Kernel17Ideal.nD Cert.Kernel17Ideal.τ).loc Cert.Kernel17Ideal.main_arg1) = G
      generalize m ((c.tc : Thread Cert.Kernel17Ideal.nD Cert.Kernel17Ideal.τ).loc Cert.Kernel17Ideal.main_arg2) = W1
      funext j
      obtain ⟨s, f, rfl⟩ : ∃ (s : Fin 4096) (f : Fin 4096), j = ix2 s f := ⟨j 0, j 1, eq_ix2 j⟩
      pointwise
      rfl
    · obtain ⟨h0, h1, h2, h3, h4, h5⟩ := hag c
      rw [h0, h1]
      beta_reduce
      dsimp only [mX, mG]
      generalize m ((c.tc : Thread Cert.Kernel17Ideal.nD Cert.Kernel17Ideal.τ).loc Cert.Kernel17Ideal.main_arg0) = X
      generalize m ((c.tc : Thread Cert.Kernel17Ideal.nD Cert.Kernel17Ideal.τ).loc Cert.Kernel17Ideal.main_arg1) = G
      funext j
      obtain ⟨s, i, rfl⟩ : ∃ (s : Fin 4096) (i : Fin 1024), j = ix2 s i := ⟨j 0, j 1, eq_ix2 j⟩
      pointwise
      rfl
    · obtain ⟨h0, h1, h2, h3, h4, h5⟩ := hag c
      funext j
      rw [show j = ix2 (j 0) (j 1) from eq_ix2 (n0 := 8) (n1 := 1024) j]
      refine (Cert.Reference17Ideal.Value.ref_slot m' c (j 0) (j 1)).trans ?_
      rw [show Cert.Reference17Ideal.Value.rX m' c = mX m c from h0, show Cert.Reference17Ideal.Value.rG m' c = mG m c from h1, show Cert.Reference17Ideal.Value.rW1 m' c = mW1 m c from h2,
        show Cert.Reference17Ideal.Value.rW2 m' c = mW2 m c from h3, show Cert.Reference17Ideal.Value.rGF m' c = mGF m c from h4, show Cert.Reference17Ideal.Value.rT m' c = mT m c from h5]
      exact Cert.Kernel17Ideal.Value.slot_eq _ _ _ (j 0) (j 1)

theorem Cert.Reference17Ideal.Value.frame : Cert.quiescent_Reference17Ideal (hReference17Ideal := Cert.Reference17Ideal.Gen.facts) := fun m g _ =>
  (θ_run _ _ _).mono (fun r h => ⟨fun c => (h c).2.2.2.2.2, sem_eq_zero_of_no_sems (by decide) r.2⟩) (Cert.Reference17Ideal.Value.run m g)
-- ==== Proof.Heads.lean ====
module
public import proofs.«01_k».proof.Proof.Rms
public import Idealize.ShloMosaic.Lib.Pipeline.ValueKit
public import Idealize.ShloMosaic.Lib.Pointwise
/-! The rows of the memory, normalised, and the 1024 columns of the attention's projections as four heads of 256. -/
@[expose] public section
open Idealize.ShloMosaic
namespace Cert.Heads

theorem hc_lt (h : Fin 4) (e : Fin 256) : 256 * h.val + e.val < 1024 := by omega
/-- The column `e` of head `h`. -/
abbrev hc (h : Fin 4) (e : Fin 256) : Fin 1024 := ⟨256 * h.val + e.val, hc_lt h e⟩

/-- One entry of the normalised rows. -/
noncomputable def NR (X : Vec Ideal ⟨2, ![256, 1024]⟩ .f32) (G : Vec Ideal ⟨2, ![1, 1024]⟩ .f32) (r : Fin 256) (i : Fin 1024) : EReal :=
  X (ix2 r i) * Cert.Rms.rs (fun k => X (ix2 r k)) * G (ix2 0 i)
/-- A weight by heads, as a matrix. -/
noncomputable def WF (W : Vec Ideal ⟨3, ![1024, 4, 256]⟩ .f32) (k i : Fin 1024) : EReal :=
  W (ix3 k ⟨i.val / 256, by omega⟩ ⟨i.val % 256, by omega⟩)

/-- A sum over the heads and their columns is the sum over the columns. -/
theorem sum_heads (f : Fin 1024 → EReal) : (∑ h : Fin 4, ∑ e : Fin 256, f (hc h e)) = ∑ k : Fin 1024, f k := by
  rw [← Fintype.sum_prod_type']
  refine Fintype.sum_equiv (finProdFinEquiv (m := 4) (n := 256)) _ _ fun x => congrArg f (Fin.ext ?_)
  show 256 * x.1.val + x.2.val = x.2.val + 256 * x.1.val
  omega
end Cert.Heads
-- ==== Proof.MemKv.lean ====
module
public import proofs.«01_k».proof.Defs
public import proofs.«01_k».proof.Proof.Gen.Kernel18Ideal.Value
public import proofs.«01_k».proof.Proof.Gen.Reference18Ideal.Run
public import proofs.«01_k».proof.Proof.Rms
public import proofs.«01_k».proof.Proof.Heads
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The norm of the memory and the projections to its keys and values: one point, whole arrays. -/
@[expose] public section
set_option maxRecDepth 16384
open Idealize.ShloMosaic Idealize.ShloMosaic.TcCoe Idealize.SL.Sem
open Idealize.ShloMosaic.Pipeline (Dat)
namespace Cert.Kernel18Ideal.Value
open Cert.Kernel18Ideal Cert.Kernel18Ideal.Gen Cert.Heads
variable (m : (ℓ : Loc nD τ sig) → Buf (Elt Ideal) ℓ)

/-- The normalised rows as an array, and their product with a weight laid out by heads. -/
noncomputable def HM (X : Vec Ideal S256x1024 .f32) (G : Vec Ideal S1x1024 .f32) (j : S256x1024.Idx) : EReal := NR X G (j 0) (j 1)
noncomputable def PR (X : Vec Ideal S256x1024 .f32) (G : Vec Ideal S1x1024 .f32) (W : Vec Ideal S1024x4x256 .f32) (j : S256x1024.Idx) : EReal :=
  ∑ k : Fin 1024, NR X G (j 0) k * WF W k (j 1)

theorem h_pay (x : Vec Ideal S256x1024 .f32) (g : Vec Ideal S1x1024 .f32) (r : Fin 256) (i : Fin 1024) : k0_pay1 (F := Ideal) x g (ix2 r i) = NR x g r i := by
  pointwise [k0_pay1]; rfl
theorem k_pay (x : Vec Ideal S256x1024 .f32) (g : Vec Ideal S1x1024 .f32) (w : Vec Ideal S1024x1024 .bf16) (r : Fin 256) (i : Fin 1024) :
    k0_pay2 (F := Ideal) x g w (ix2 r i) = ∑ k : Fin 1024, NR x g r k * w (ix2 k i) := by
  pointwise [k0_pay2, k0_pay1]; rfl
theorem v_pay (x : Vec Ideal S256x1024 .f32) (g : Vec Ideal S1x1024 .f32) (w : Vec Ideal S1024x1024 .bf16) (r : Fin 256) (i : Fin 1024) :
    k0_pay3 (F := Ideal) x g w (ix2 r i) = ∑ k : Fin 1024, NR x g r k * w (ix2 k i) := by
  pointwise [k0_pay3, k0_pay1]; rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

noncomputable abbrev mX (c : Dev nD) : Vec Ideal S256x1024 .f32 := m ((c.tc : Thread nD τ).loc main_arg0)
noncomputable abbrev mG (c : Dev nD) : Vec Ideal S1x1024 .f32 := m ((c.tc : Thread nD τ).loc main_arg1)
noncomputable abbrev mK (c : Dev nD) : Vec Ideal S1024x4x256 .f32 := m ((c.tc : Thread nD τ).loc main_arg2)
noncomputable abbrev mV (c : Dev nD) : Vec Ideal S1024x4x256 .f32 := m ((c.tc : Thread nD τ).loc main_arg3)

theorem xb (c t) (r : Fin 256) (i : Fin 1024) : (iblk m c 0 t : Vec Ideal S256x1024 .f32) (ix2 r i) = mX m c (ix2 r i) := by
  blk_point [iblk, V, idx t]
theorem gb (c t) (r : Fin 1) (i : Fin 1024) : (iblk m c 1 t : Vec Ideal S1x1024 .f32) (ix2 r i) = mG m c (ix2 r i) := by
  blk_point [iblk, V, idx t]
/-- What the operations before the call leave: the weights as matrices. -/
theorem host_k (c : Dev nD) (k i : Fin 1024) : (V m c main_v1 : Vec Ideal S1024x1024 .bf16) (ix2 k i) = WF (mK m c) k i := by
  unfold V
  after_results_simp
  pointwise
  refine congrArg (mK m c) ?_
  blk_ext
theorem host_v (c : Dev nD) (k i : Fin 1024) : (V m c main_v3 : Vec Ideal S1024x1024 .bf16) (ix2 k i) = WF (mV m c) k i := by
  unfold V
  after_results_simp
  pointwise
  refine congrArg (mV m c) ?_
  blk_ext
theorem kb (c t) (k i : Fin 1024) : (iblk m c 2 t : Vec Ideal S1024x1024 .bf16) (ix2 k i) = WF (mK m c) k i := by
  rw [← host_k]; blk_point [iblk, idx t]
theorem vb (c t) (k i : Fin 1024) : (iblk m c 3 t : Vec Ideal S1024x1024 .bf16) (ix2 k i) = WF (mV m c) k i := by
  rw [← host_v]; blk_point [iblk, idx t]

theorem nr (c t) (r : Fin 256) (i : Fin 1024) : NR (iblk m c 0 t : Vec Ideal S256x1024 .f32) (iblk m c 1 t : Vec Ideal S1x1024 .f32) r i = NR (mX m c) (mG m c) r i := by
  unfold NR
  simp only [xb, gb]

theorem arr4 (c : Dev nD) : (dats m 0 c).arrAt 4 cfg0.N = HM (mX m c) (mG m c) := by
  refine (dats m 0 c).arrAt_eq_of_covers 4 _ (by decide +kernel) fun t hf y => ?_
  blk_simp
  rw [after0_4]
  obtain ⟨r, i, rfl⟩ : ∃ (r : Fin 256) (i : Fin 1024), y = ix2 r i := ⟨y 0, y 1, eq_ix2 y⟩
  have e : ((win0_4.blk t).view.emb (ix2 r i) : S256x1024.Idx) = ix2 r i := by blk_ext [idx t]
  rw [e]
  frame_out
  exact (h_pay _ _ r i).trans (nr m c t r i)
theorem arr5 (c : Dev nD) : (dats m 0 c).arrAt 5 cfg0.N = PR (mX m c) (mG m c) (mK m c) := by
  refine (dats m 0 c).arrAt_eq_of_covers 5 _ (by decide +kernel) fun t hf y => ?_
  blk_simp
  rw [after0_5]
  obtain ⟨r, i, rfl⟩ : ∃ (r : Fin 256) (i : Fin 1024), y = ix2 r i := ⟨y 0, y 1, eq_ix2 y⟩
  have e : ((win0_5.blk t).view.emb (ix2 r i) : S256x1024.Idx) = ix2 r i := by blk_ext [idx t]
  rw [e]
  frame_out
  refine (k_pay _ _ _ r i).trans ?_
  simp only [nr, kb]
  rfl
theorem arr6 (c : Dev nD) : (dats m 0 c).arrAt 6 cfg0.N = PR (mX m c) (mG m c) (mV m c) := by
  refine (dats m 0 c).arrAt_eq_of_covers 6 _ (by decide +kernel) fun t hf y => ?_
  blk_simp
  rw [after0_6]
  obtain ⟨r, i, rfl⟩ : ∃ (r : Fin 256) (i : Fin 1024), y = ix2 r i := ⟨y 0, y 1, eq_ix2 y⟩
  have e : ((win0_6.blk t).view.emb (ix2 r i) : S256x1024.Idx) = ix2 r i := by blk_ext [idx t]
  rw [e]
  frame_out
  refine (v_pay _ _ _ r i).trans ?_
  simp only [nr, vb]
  rfl
end Cert.Kernel18Ideal.Value

open Cert.Kernel18Ideal.Value (mX mG mK mV HM PR) in
set_option maxHeartbeats 2000000 in
theorem Cert.Kernel18Ideal.Value.claim : Cert.algebraic_Kernel18Ideal_Reference18Ideal (hKernel18Ideal := Cert.Kernel18Ideal.Gen.facts)
    (hReference18Ideal := Cert.Reference18Ideal.Gen.facts) := by
  intro m g m' g' _ hag
  refine ⟨fun c => HM (mX m c) (mG m c), fun c => PR (mX m c) (mG m c) (mK m c), fun c => PR (mX m c) (mG m c) (mV m c), ?_, ?_⟩
  · exact (θ_run _ _ _).mono (fun r h c => ⟨(h c).1.trans (Cert.Kernel18Ideal.Value.arr4 m c), (h c).2.1.trans (Cert.Kernel18Ideal.Value.arr5 m c),
      (h c).2.2.1.trans (Cert.Kernel18Ideal.Value.arr6 m c), (h c).2.2.2⟩) (Cert.Kernel18Ideal.Value.run_blocks m g)
  · refine (θ_run _ _ _).mono (fun r h c => ⟨(h c).1.trans ?_, (h c).2.1.trans ?_, (h c).2.2.1.trans ?_, (h c).2.2.2⟩) (Cert.Reference18Ideal.Value.run m' g')
    all_goals
      obtain ⟨h0, h1, h2, h3⟩ := hag c
      simp only [h0, h1, h2, h3]
      clear h0 h1 h2 h3 h hag
      beta_reduce
      funext j
      obtain ⟨r, i, rfl⟩ : ∃ (r : Fin 256) (i : Fin 1024), j = ix2 r i := ⟨j 0, j 1, eq_ix2 j⟩
      pointwise
      rfl

theorem Cert.Reference18Ideal.Value.frame : Cert.quiescent_Reference18Ideal (hReference18Ideal := Cert.Reference18Ideal.Gen.facts) := fun m g _ =>
  (θ_run _ _ _).mono (fun r h => ⟨fun c => (h c).2.2.2, sem_eq_zero_of_no_sems (by decide) r.2⟩) (Cert.Reference18Ideal.Value.run m g)
-- ==== Proof.MemBwd.lean ====
module
public import proofs.«01_k».proof.Defs
public import proofs.«01_k».proof.Proof.Gen.Kernel19Ideal.Value
public import proofs.«01_k».proof.Proof.Gen.Reference19Ideal.Run
public import proofs.«01_k».proof.Proof.Slot
public import proofs.«01_k».proof.Proof.Heads
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.Tactic.WordOmega
/-! The gradients of the two projections of the memory and of its norm's gain: one point, whole arrays. -/
@[expose] public section
set_option maxRecDepth 16384
open Idealize.ShloMosaic Idealize.ShloMosaic.TcCoe Idealize.SL.Sem
open Idealize.ShloMosaic.Pipeline (Dat)
namespace Cert.Kernel19Ideal.Value
open Cert.Kernel19Ideal Cert.Kernel19Ideal.Gen Cert.Heads
variable (m : (ℓ : Loc nD τ sig) → Buf (Elt Ideal) ℓ)

/-- The gradient of a projection's weight. -/
noncomputable def DW (X : Vec Ideal S256x1024 .f32) (G : Vec Ideal S1x1024 .f32) (D : Vec Ideal S256x1024 .f32) (j : S1024x1024.Idx) : EReal :=
  ∑ s : Fin 256, NR X G s (j 0) * D (ix2 s (j 1))
/-- The gradient of the normalised rows, of the gain, and the gain's in the first row of its slot. -/
noncomputable def DH (A B : Vec Ideal S256x1024 .f32) (K W : Fin 1024 → Fin 1024 → EReal) (s : Fin 256) (i : Fin 1024) : EReal :=
  (∑ k : Fin 1024, A (ix2 s k) * K i k) + ∑ k : Fin 1024, B (ix2 s k) * W i k
noncomputable def DG (X A B : Vec Ideal S256x1024 .f32) (K W : Fin 1024 → Fin 1024 → EReal) (i : Fin 1024) : EReal :=
  ∑ s : Fin 256, DH A B K W s i * (X (ix2 s i) * Cert.Rms.rs fun k => X (ix2 s k))
noncomputable def SL (X A B : Vec Ideal S256x1024 .f32) (K W : Vec Ideal S1024x4x256 .f32) (j : S8x1024.Idx) : EReal :=
  if (j 0 : ℕ) = 0 then DG X A B (WF K) (WF W) (j 1) else 0

theorem k_pay (d : Vec Ideal S256x1024 .f32) (h : Vec Ideal S256x1024 .bf16) (i k : Fin 1024) : k0_pay4 (F := Ideal) d h (ix2 i k) = ∑ s : Fin 256, h (ix2 s i) * d (ix2 s k) := by
  pointwise [k0_pay4, k0_pay3]
theorem v_pay (d : Vec Ideal S256x1024 .f32) (h : Vec Ideal S256x1024 .bf16) (i k : Fin 1024) : k0_pay5 (F := Ideal) d h (ix2 i k) = ∑ s : Fin 256, h (ix2 s i) * d (ix2 s k) := by
  pointwise [k0_pay5, k0_pay3]
theorem g_pay (a b x : Vec Ideal S256x1024 .f32) (k w : Vec Ideal S1024x1024 .bf16) (i : Fin 1024) :
    k0_pay1 (F := Ideal) (k0_pay6 (F := Ideal) a b x k w) (ix2 0 i) = DG x a b (fun i j => k (ix2 i j)) (fun i j => w (ix2 i j)) i := by
  pointwise [k0_pay1, k0_pay6]; rfl
theorem zero_pay (j) : k0_pay2 (F := Ideal) j = 0 := by pointwise [k0_pay2]

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

noncomputable abbrev mX (c : Dev nD) : Vec Ideal S256x1024 .f32 := m ((c.tc : Thread nD τ).loc main_arg0)
noncomputable abbrev mG (c : Dev nD) : Vec Ideal S1x1024 .f32 := m ((c.tc : Thread nD τ).loc main_arg1)
noncomputable abbrev mA (c : Dev nD) : Vec Ideal S256x1024 .f32 := m ((c.tc : Thread nD τ).loc main_arg2)
noncomputable abbrev mB (c : Dev nD) : Vec Ideal S256x1024 .f32 := m ((c.tc : Thread nD τ).loc main_arg3)
noncomputable abbrev mK (c : Dev nD) : Vec Ideal S1024x4x256 .f32 := m ((c.tc : Thread nD τ).loc main_arg4)
noncomputable abbrev mV (c : Dev nD) : Vec Ideal S1024x4x256 .f32 := m ((c.tc : Thread nD τ).loc main_arg5)

theorem xb (c t) (r : Fin 256) (i : Fin 1024) : (iblk m c 0 t : Vec Ideal S256x1024 .f32) (ix2 r i) = mX m c (ix2 r i) := by
  blk_point [iblk, V, idx t]
theorem ab (c t) (r : Fin 256) (i : Fin 1024) : (iblk m c 3 t : Vec Ideal S256x1024 .f32) (ix2 r i) = mA m c (ix2 r i) := by
  blk_point [iblk, V, idx t]
theorem bb (c t) (r : Fin 256) (i : Fin 1024) : (iblk m c 4 t : Vec Ideal S256x1024 .f32) (ix2 r i) = mB m c (ix2 r i) := by
  blk_point [iblk, V, idx t]
/-- What the operations before the call leave: the normalised rows, the weights as matrices. -/
theorem host_h (c : Dev nD) (s : Fin 256) (i : Fin 1024) : (V m c main_v14 : Vec Ideal S256x1024 .bf16) (ix2 s i) = NR (mX m c) (mG m c) s i := by
  unfold V
  after_results_simp
  pointwise
  rfl
theorem host_k (c : Dev nD) (k i : Fin 1024) : (V m c main_v16 : Vec Ideal S1024x1024 .bf16) (ix2 k i) = WF (mK m c) k i := by
  unfold V
  after_results_simp
  pointwise
  refine congrArg (mK m c) ?_
  blk_ext
theorem host_v (c : Dev nD) (k i : Fin 1024) : (V m c main_v18 : Vec Ideal S1024x1024 .bf16) (ix2 k i) = WF (mV m c) k i := by
  unfold V
  after_results_simp
  pointwise
  refine congrArg (mV m c) ?_
  blk_ext
theorem hb (c t) (s : Fin 256) (i : Fin 1024) : (iblk m c 2 t : Vec Ideal S256x1024 .bf16) (ix2 s i) = NR (mX m c) (mG m c) s i := by
  rw [← host_h]; blk_point [iblk, idx t]
theorem kb (c t) (k i : Fin 1024) : (iblk m c 5 t : Vec Ideal S1024x1024 .bf16) (ix2 k i) = WF (mK m c) k i := by
  rw [← host_k]; blk_point [iblk, idx t]
theorem vb (c t) (k i : Fin 1024) : (iblk m c 6 t : Vec Ideal S1024x1024 .bf16) (ix2 k i) = WF (mV m c) k i := by
  rw [← host_v]; blk_point [iblk, idx t]

theorem arr7 (c : Dev nD) : (dats m 0 c).arrAt 7 cfg0.N = DW (mX m c) (mG m c) (mA m c) := by
  refine (dats m 0 c).arrAt_eq_of_covers 7 _ (by decide +kernel) fun t hf y => ?_
  blk_simp
  rw [after0_7]
  obtain ⟨i, k, rfl⟩ : ∃ (i k : Fin 1024), y = ix2 i k := ⟨y 0, y 1, eq_ix2 y⟩
  have e : ((win0_7.blk t).view.emb (ix2 i k) : S1024x1024.Idx) = ix2 i k := by blk_ext [idx t]
  rw [e]
  unfold outsAt0
  frame_out
  refine (k_pay _ _ i k).trans ?_
  exact Finset.sum_congr rfl fun s _ => congrArg₂ (· * ·) ((congrFun (Memref.IsWhole.read_unread _ _) _).trans (hb m c t s i)) ((congrFun (Memref.IsWhole.read_unread _ _) _).trans (ab m c t s k))
theorem arr8 (c : Dev nD) : (dats m 0 c).arrAt 8 cfg0.N = DW (mX m c) (mG m c) (mB m c) := by
  refine (dats m 0 c).arrAt_eq_of_covers 8 _ (by decide +kernel) fun t hf y => ?_
  blk_simp
  rw [after0_8]
  obtain ⟨i, k, rfl⟩ : ∃ (i k : Fin 1024), y = ix2 i k := ⟨y 0, y 1, eq_ix2 y⟩
  have e : ((win0_8.blk t).view.emb (ix2 i k) : S1024x1024.Idx) = ix2 i k := by blk_ext [idx t]
  rw [e]
  unfold outsAt0
  frame_out
  refine (v_pay _ _ i k).trans ?_
  exact Finset.sum_congr rfl fun s _ => congrArg₂ (· * ·) ((congrFun (Memref.IsWhole.read_unread _ _) _).trans (hb m c t s i)) ((congrFun (Memref.IsWhole.read_unread _ _) _).trans (bb m c t s k))

theorem dg_congr (c : Dev nD) (x a b : Vec Ideal S256x1024 .f32) (k w : Vec Ideal S1024x1024 .bf16) (hx : ∀ s i, x (ix2 s i) = mX m c (ix2 s i))
    (ha : ∀ s i, a (ix2 s i) = mA m c (ix2 s i)) (hb : ∀ s i, b (ix2 s i) = mB m c (ix2 s i)) (hk : ∀ i j, k (ix2 i j) = WF (mK m c) i j)
    (hw : ∀ i j, w (ix2 i j) = WF (mV m c) i j) (i : Fin 1024) :
    k0_pay1 (F := Ideal) (k0_pay6 (F := Ideal) a b x k w) (ix2 0 i) = DG (mX m c) (mA m c) (mB m c) (WF (mK m c)) (WF (mV m c)) i := by
  refine (g_pay _ _ _ _ _ i).trans ?_
  unfold DG DH
  simp only [hx, ha, hb, hk, hw]

set_option maxHeartbeats 1000000 in
theorem arr9 (c : Dev nD) : (dats m 0 c).arrAt 9 cfg0.N = SL (mX m c) (mA m c) (mB m c) (mK m c) (mV m c) := by
  refine (dats m 0 c).arrAt_eq_of_covers 9 _ (by decide +kernel) fun t hf y => ?_
  blk_simp
  rw [after0_9]
  obtain ⟨r, i, rfl⟩ : ∃ (r : Fin 8) (i : Fin 1024), y = ix2 r i := ⟨y 0, y 1, eq_ix2 y⟩
  have e : ((win0_9.blk t).view.emb (ix2 r i) : S8x1024.Idx) = ix2 r i := by blk_ext [idx t]
  rw [e]
  unfold outsAt0
  frame_out
  rw [← View.read_writes_junk_apply_eq_canon (ms0_9 t).view (ix2 r i)]
  refine (Cert.Slot.row_writes _ _ _ _ _ _).trans ?_
  rw [Cert.Slot.all_writes, zero_pay]
  unfold SL
  refine if_congr Iff.rfl ?_ rfl
  refine dg_congr m c _ _ _ _ _ ?_ ?_ ?_ ?_ ?_ i
  · exact fun s i => (congrFun (Memref.IsWhole.read_unread _ _) _).trans (xb m c t s i)
  · exact fun s i => (congrFun (Memref.IsWhole.read_unread _ _) _).trans (ab m c t s i)
  · exact fun s i => (congrFun (Memref.IsWhole.read_unread _ _) _).trans (bb m c t s i)
  · exact fun s i => (congrFun (Memref.IsWhole.read_unread _ _) _).trans (kb m c t s i)
  · exact fun s i => (congrFun (Memref.IsWhole.read_unread _ _) _).trans (vb m c t s i)

/-- A product with a weight by heads, summed over the heads. -/
theorem dh_heads (A : Vec Ideal S256x1024 .f32) (W : Vec Ideal S1024x4x256 .f32) (s : Fin 256) (i : Fin 1024) :
    (∑ h : Fin 4, ∑ e : Fin 256, A (ix2 s ⟨h.val * 256 + e.val, by omega⟩) * W (ix3 i h e)) = ∑ k : Fin 1024, A (ix2 s k) * WF W i k := by
  rw [← sum_heads]
  refine Finset.sum_congr rfl fun h _ => Finset.sum_congr rfl fun e _ => congrArg₂ (· * ·) (congrArg A ?_) (congrArg W ?_)
  · exact congrArg (ix2 s) (Fin.ext (by show h.val * 256 + e.val = 256 * h.val + e.val; omega))
  · exact congrArg₂ (ix3 i) (Fin.ext (by show h.val = (256 * h.val + e.val) / 256; omega)) (Fin.ext (by show e.val = (256 * h.val + e.val) % 256; omega))

/-- The reference's form of the slot. -/
theorem ref_slot (X A B : Vec Ideal S256x1024 .f32) (K W : Vec Ideal S1024x4x256 .f32) (r : Fin 8) (i : Fin 1024) :
    (if h : (r : ℕ) < 1 then ∑ _x : Fin 1, ∑ s : Fin 256, X (ix2 s i) * Cert.Rms.rs (fun k => X (ix2 s k)) *
      ((∑ h : Fin 4, ∑ e : Fin 256, B (ix2 s ⟨h.val * 256 + e.val, by omega⟩) * W (ix3 i h e)) + ∑ h : Fin 4, ∑ e : Fin 256, A (ix2 s ⟨h.val * 256 + e.val, by omega⟩) * K (ix3 i h e))
      else FloatOps.sitofp (F := Ideal) (w := 32) .f32 0#32) = SL X A B K W (ix2 r i) := by
  unfold SL
  by_cases hr : (r : ℕ) = 0
  · rw [dif_pos (by omega : (r : ℕ) < 1), if_pos (show ((ix2 r i : S8x1024.Idx) 0 : ℕ) = 0 from hr), Fin.sum_univ_one]
    refine Finset.sum_congr rfl fun s _ => ?_
    rw [dh_heads, dh_heads, mul_comm, add_comm]
    rfl
  · rw [dif_neg (by omega : ¬ (r : ℕ) < 1), if_neg (show ¬ ((ix2 r i : S8x1024.Idx) 0 : ℕ) = 0 from hr), Cert.Slot.zero_int]
end Cert.Kernel19Ideal.Value

open Cert.Kernel19Ideal.Value (mX mG mA mB mK mV DW SL) in
set_option maxHeartbeats 2000000 in
theorem Cert.Kernel19Ideal.Value.claim : Cert.algebraic_Kernel19Ideal_Reference19Ideal (hKernel19Ideal := Cert.Kernel19Ideal.Gen.facts)
    (hReference19Ideal := Cert.Reference19Ideal.Gen.facts) := by
  intro m g m' g' _ hag
  refine ⟨fun c => DW (mX m c) (mG m c) (mA m c), fun c => DW (mX m c) (mG m c) (mB m c), fun c => SL (mX m c) (mA m c) (mB m c) (mK m c) (mV m c), ?_, ?_⟩
  · exact (θ_run _ _ _).mono (fun r h c => ⟨(h c).1.trans (Cert.Kernel19Ideal.Value.arr7 m c), (h c).2.1.trans (Cert.Kernel19Ideal.Value.arr8 m c),
      (h c).2.2.1.trans (Cert.Kernel19Ideal.Value.arr9 m c), (h c).2.2.2⟩) (Cert.Kernel19Ideal.Value.run_blocks m g)
  · refine (θ_run _ _ _).mono (fun r h c => ⟨(h c).1.trans ?_, (h c).2.1.trans ?_, (h c).2.2.1.trans ?_, (h c).2.2.2⟩) (Cert.Reference19Ideal.Value.run m' g')
    all_goals
      obtain ⟨h0, h1, h2, h3, h4, h5⟩ := hag c
      simp only [h0, h1, h2, h3, h4, h5]
      clear h0 h1 h2 h3 h4 h5 h hag
      beta_reduce
      funext j
    · obtain ⟨r, i, rfl⟩ : ∃ (r i : Fin 1024), j = ix2 r i := ⟨j 0, j 1, eq_ix2 j⟩
      pointwise
      exact Finset.sum_congr rfl fun s _ => mul_comm (_ : EReal) _
    · obtain ⟨r, i, rfl⟩ : ∃ (r i : Fin 1024), j = ix2 r i := ⟨j 0, j 1, eq_ix2 j⟩
      pointwise
      exact Finset.sum_congr rfl fun s _ => mul_comm (_ : EReal) _
    · obtain ⟨r, i, rfl⟩ : ∃ (r : Fin 8) (i : Fin 1024), j = ix2 r i := ⟨j 0, j 1, eq_ix2 j⟩
      pointwise
      exact Cert.Kernel19Ideal.Value.ref_slot _ _ _ _ _ r i

theorem Cert.Reference19Ideal.Value.frame : Cert.quiescent_Reference19Ideal (hReference19Ideal := Cert.Reference19Ideal.Gen.facts) := fun m g _ =>
  (θ_run _ _ _).mono (fun r h => ⟨fun c => (h c).2.2.2, sem_eq_zero_of_no_sems (by decide) r.2⟩) (Cert.Reference19Ideal.Value.run m g)
-- ==== Proof.lean ====
module
public import proofs.«01_k».proof.Defs
public import proofs.«01_k».proof.Proof.Gen.Kernel2.Frame
public import proofs.«01_k».proof.Proof.Gen.Kernel2Ideal.Frame
public import proofs.«01_k».proof.Proof.Gen.Reference2Ideal
public import proofs.«01_k».proof.Proof.MlpBwdClaim
public import proofs.«01_k».proof.Proof.Gen.Pre_clear2
public import proofs.«01_k».proof.Proof.Gen.Kernel3.Frame
public import proofs.«01_k».proof.Proof.Gen.Kernel3Ideal.Frame
public import proofs.«01_k».proof.Proof.Gen.Reference3Ideal
public import proofs.«01_k».proof.Proof.WgradClaims
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.InBwdClaim
public import proofs.«01_k».proof.Proof.Gen.Pre_finite5
public import proofs.«01_k».proof.Proof.Gen.Kernel7.Frame
public import proofs.«01_k».proof.Proof.Gen.Kernel7Ideal.Frame
public import proofs.«01_k».proof.Proof.Gen.Reference7Ideal
public import proofs.«01_k».proof.Proof.WgradIn
public import proofs.«01_k».proof.Proof.Gen.Kernel8.Frame
public import proofs.«01_k».proof.Proof.Gen.Kernel8Ideal.Frame
public import proofs.«01_k».proof.Proof.Gen.Reference8Ideal
public import proofs.«01_k».proof.Proof.AdamClaims
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel11.Frame
public import proofs.«01_k».proof.Proof.Gen.Kernel11Ideal.Frame
public import proofs.«01_k».proof.Proof.Gen.Reference11Ideal
public import proofs.«01_k».proof.Proof.AttnClaims
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel13
public import proofs.«01_k».proof.Proof.Gen.Kernel13Ideal
public import proofs.«01_k».proof.Proof.SmallFrame
public import proofs.«01_k».proof.Proof.SmallFrameB
public import proofs.«01_k».proof.Proof.Gen.Reference13Ideal
public import proofs.«01_k».proof.Proof.SmallClaim
public import proofs.«01_k».proof.Proof.Gen.Kernel14.Frame
public import proofs.«01_k».proof.Proof.Gen.Kernel14Ideal.Frame
public import proofs.«01_k».proof.Proof.Gen.Reference14Ideal
public import proofs.«01_k».proof.Proof.WgradOut
public import proofs.«01_k».proof.Proof.Gen.Kernel15.Frame
public import proofs.«01_k».proof.Proof.Gen.Kernel15Ideal.Frame
public import proofs.«01_k».proof.Proof.Gen.Reference15Ideal
public import proofs.«01_k».proof.Proof.WgradXo
public import proofs.«01_k».proof.Proof.Gen.Kernel16.Frame
public import proofs.«01_k».proof.Proof.Gen.Kernel16Ideal.Frame
public import proofs.«01_k».proof.Proof.Gen.Reference16Ideal
public import proofs.«01_k».proof.Proof.InProj
public import proofs.«01_k».proof.Proof.Gen.Kernel17.Frame
public import proofs.«01_k».proof.Proof.Gen.Kernel17Ideal.Frame
public import proofs.«01_k».proof.Proof.Gen.Reference17Ideal
public import proofs.«01_k».proof.Proof.MlpFwdClaim
public import proofs.«01_k».proof.Proof.Gen.Pre_finite17
public import proofs.«01_k».proof.Proof.Gen.Kernel18.Frame
public import proofs.«01_k».proof.Proof.Gen.Kernel18Ideal.Frame
public import proofs.«01_k».proof.Proof.Gen.Reference18Ideal
public import proofs.«01_k».proof.Proof.MemKv
public import proofs.«01_k».proof.Proof.Gen.Kernel19.Frame
public import proofs.«01_k».proof.Proof.Gen.Kernel19Ideal.Frame
public import proofs.«01_k».proof.Proof.Gen.Reference19Ideal
public import proofs.«01_k».proof.Proof.MemBwd
/-! The certificate: each program's stated facts, its frames, and the claims on its values. -/
@[expose] public section

theorem Cert.Proof.claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Pre_clear2.Gen.facts,
    Cert.Pre_finite5.Gen.facts,
    Cert.Pre_finite17.Gen.facts,
    fun m ρ _ => Cert.Kernel2.Gen.frame m ρ,
    fun m ρ _ => Cert.Kernel2Ideal.Gen.frame m ρ,
    fun m ρ _ => Cert.Kernel2Ideal.Gen.frame m ρ,
    Cert.Reference2Ideal.Value.frame,
    fun m g _ => Cert.Reference2Ideal.Value.frame m g trivial,
    fun m ρ _ => Cert.Kernel3.Gen.frame m ρ,
    fun m ρ _ => Cert.Kernel3Ideal.Gen.frame m ρ,
    Cert.Reference3Ideal.Value.frame,
    fun m ρ _ => Cert.Kernel4.Gen.frame m ρ,
    fun m ρ _ => Cert.Kernel4Ideal.Gen.frame m ρ,
    Cert.Reference4Ideal.Value.frame,
    fun m ρ _ => Cert.Kernel5.Gen.frame m ρ,
    fun m ρ _ => Cert.Kernel5Ideal.Gen.frame m ρ,
    fun m ρ _ => Cert.Kernel5Ideal.Gen.frame m ρ,
    Cert.Reference5Ideal.Value.frame,
    fun m g _ => Cert.Reference5Ideal.Value.frame m g trivial,
    fun m ρ _ => Cert.Kernel7.Gen.frame m ρ,
    fun m ρ _ => Cert.Kernel7Ideal.Gen.frame m ρ,
    Cert.Reference7Ideal.Value.frame,
    fun m ρ _ => Cert.Kernel8.Gen.frame m ρ,
    fun m ρ _ => Cert.Kernel8Ideal.Gen.frame m ρ,
    Cert.Reference8Ideal.Value.frame,
    fun m ρ _ => Cert.Kernel9.Gen.frame m ρ,
    fun m ρ _ => Cert.Kernel9Ideal.Gen.frame m ρ,
    Cert.Reference9Ideal.Value.frame,
    fun m ρ _ => Cert.Kernel10.Gen.frame m ρ,
    fun m ρ _ => Cert.Kernel10Ideal.Gen.frame m ρ,
    Cert.Reference10Ideal.Value.frame,
    fun m ρ _ => Cert.Kernel11.Gen.frame m ρ,
    fun m ρ _ => Cert.Kernel11Ideal.Gen.frame m ρ,
    Cert.Reference11Ideal.Value.frame,
    fun m ρ _ => Cert.Kernel12.Gen.frame m ρ,
    fun m ρ _ => Cert.Kernel12Ideal.Gen.frame m ρ,
    Cert.Reference12Ideal.Value.frame,
    fun m ρ _ => Cert.Kernel13.Small.frame m ρ,
    fun m ρ _ => Cert.Kernel13Ideal.Small.frame m ρ,
    Cert.Kernel13Ideal.Small.frame_reference,
    fun m ρ _ => Cert.Kernel14.Gen.frame m ρ,
    fun m ρ _ => Cert.Kernel14Ideal.Gen.frame m ρ,
    Cert.Reference14Ideal.Value.frame,
    fun m ρ _ => Cert.Kernel15.Gen.frame m ρ,
    fun m ρ _ => Cert.Kernel15Ideal.Gen.frame m ρ,
    Cert.Reference15Ideal.Value.frame,
    fun m ρ _ => Cert.Kernel16.Gen.frame m ρ,
    fun m ρ _ => Cert.Kernel16Ideal.Gen.frame m ρ,
    Cert.Reference16Ideal.Value.frame,
    fun m ρ _ => Cert.Kernel17.Gen.frame m ρ,
    fun m ρ _ => Cert.Kernel17Ideal.Gen.frame m ρ,
    fun m ρ _ => Cert.Kernel17Ideal.Gen.frame m ρ,
    Cert.Reference17Ideal.Value.frame,
    fun m g _ => Cert.Reference17Ideal.Value.frame m g trivial,
    fun m ρ _ => Cert.Kernel18.Gen.frame m ρ,
    fun m ρ _ => Cert.Kernel18Ideal.Gen.frame m ρ,
    Cert.Reference18Ideal.Value.frame,
    fun m ρ _ => Cert.Kernel19.Gen.frame m ρ,
    fun m ρ _ => Cert.Kernel19Ideal.Gen.frame m ρ,
    Cert.Reference19Ideal.Value.frame,
    trivial,
    Cert.Kernel2Ideal.Value.claim,
    trivial,
    Cert.Kernel3Ideal.Value.claim,
    trivial,
    Cert.Kernel4Ideal.Value.claim,
    trivial,
    Cert.Kernel5Ideal.Value.claim,
    trivial,
    Cert.Kernel7Ideal.Value.claim,
    trivial,
    Cert.Kernel8Ideal.Value.claim,
    trivial,
    Cert.Kernel9Ideal.Value.claim,
    trivial,
    Cert.Kernel10Ideal.Value.claim,
    trivial,
    Cert.Kernel11Ideal.Value.claim,
    trivial,
    Cert.Kernel12Ideal.Value.claim,
    trivial,
    Cert.Kernel13Ideal.Small.claim,
    trivial,
    Cert.Kernel14Ideal.Value.claim,
    trivial,
    Cert.Kernel15Ideal.Value.claim,
    trivial,
    Cert.Kernel16Ideal.Value.claim,
    trivial,
    Cert.Kernel17Ideal.Value.claim,
    trivial,
    Cert.Kernel18Ideal.Value.claim,
    trivial,
    Cert.Kernel19Ideal.Value.claim⟩
